-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v82_0)) (v1 : (c : Dev Cert.Kernel3Ideal.nD) → Buf (Elt Ideal) ((c.tc : Thread Cert.Kernel3Ideal.nD Cert.Kernel3Ideal.τ).loc Cert.Kernel3Ideal.main_v82_1)) (v2 : (c : Dev Cert.Kernel3Ideal.nD) → Buf (Elt Ideal) ((c.tc : Thread Cert.Kernel3Ideal.nD Cert.Kernel3Ideal.τ).loc Cert.Kernel3Ideal.main_v82_2)) (v3 : (c : Dev Cert.Kernel3Ideal.nD) → Buf (Elt Ideal) ((c.tc : Thread Cert.Kernel3Ideal.nD Cert.Kernel3Ideal.τ).loc Cert.Kernel3Ideal.main_v82_3)) (v4 : (c : Dev Cert.Kernel3Ideal.nD) → Buf (Elt Ideal) ((c.tc : Thread Cert.Kernel3Ideal.nD Cert.Kernel3Ideal.τ).loc Cert.Kernel3Ideal.main_v82_4)) (v5 : (c : Dev Cert.Kernel3Ideal.nD) → Buf (Elt Ideal) ((c.tc : Thread Cert.Kernel3Ideal.nD Cert.Kernel3Ideal.τ).loc Cert.Kernel3Ideal.main_v82_5)) (v6 : (c : Dev Cert.Kernel3Ideal.nD) → Buf (Elt Ideal) ((c.tc : Thread Cert.Kernel3Ideal.nD Cert.Kernel3Ideal.τ).loc Cert.Kernel3Ideal.main_v82_6)) (v7 : (c : Dev Cert.Kernel3Ideal.nD) → Buf (Elt Ideal) ((c.tc : Thread Cert.Kernel3Ideal.nD Cert.Kernel3Ideal.τ).loc Cert.Kernel3Ideal.main_v82_7)) (v8 : (c : Dev Cert.Kernel3Ideal.nD) → Buf (Elt Ideal) ((c.tc : Thread Cert.Kernel3Ideal.nD Cert.Kernel3Ideal.τ).loc Cert.Kernel3Ideal.main_v82_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v82_0) = v0 c
          ∧ r.2.mem ((c.tc : Thread Cert.Kernel3Ideal.nD Cert.Kernel3Ideal.τ).loc Cert.Kernel3Ideal.main_v82_1) = v1 c
          ∧ r.2.mem ((c.tc : Thread Cert.Kernel3Ideal.nD Cert.Kernel3Ideal.τ).loc Cert.Kernel3Ideal.main_v82_2) = v2 c
          ∧ r.2.mem ((c.tc : Thread Cert.Kernel3Ideal.nD Cert.Kernel3Ideal.τ).loc Cert.Kernel3Ideal.main_v82_3) = v3 c
          ∧ r.2.mem ((c.tc : Thread Cert.Kernel3Ideal.nD Cert.Kernel3Ideal.τ).loc Cert.Kernel3Ideal.main_v82_4) = v4 c
          ∧ r.2.mem ((c.tc : Thread Cert.Kernel3Ideal.nD Cert.Kernel3Ideal.τ).loc Cert.Kernel3Ideal.main_v82_5) = v5 c
          ∧ r.2.mem ((c.tc : Thread Cert.Kernel3Ideal.nD Cert.Kernel3Ideal.τ).loc Cert.Kernel3Ideal.main_v82_6) = v6 c
          ∧ r.2.mem ((c.tc : Thread Cert.Kernel3Ideal.nD Cert.Kernel3Ideal.τ).loc Cert.Kernel3Ideal.main_v82_7) = v7 c
          ∧ r.2.mem ((c.tc : Thread Cert.Kernel3Ideal.nD Cert.Kernel3Ideal.τ).loc Cert.Kernel3Ideal.main_v82_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v242) = v0 c
          ∧ r.2.mem ((c.tc : Thread Cert.Reference3Ideal.nD Cert.Reference3Ideal.τ).loc Cert.Reference3Ideal.main_v243) = v1 c
          ∧ r.2.mem ((c.tc : Thread Cert.Reference3Ideal.nD Cert.Reference3Ideal.τ).loc Cert.Reference3Ideal.main_v244) = v2 c
          ∧ r.2.mem ((c.tc : Thread Cert.Reference3Ideal.nD Cert.Reference3Ideal.τ).loc Cert.Reference3Ideal.main_v245) = v3 c
          ∧ r.2.mem ((c.tc : Thread Cert.Reference3Ideal.nD Cert.Reference3Ideal.τ).loc Cert.Reference3Ideal.main_v249) = v4 c
          ∧ r.2.mem ((c.tc : Thread Cert.Reference3Ideal.nD Cert.Reference3Ideal.τ).loc Cert.Reference3Ideal.main_v252) = v5 c
          ∧ r.2.mem ((c.tc : Thread Cert.Reference3Ideal.nD Cert.Reference3Ideal.τ).loc Cert.Reference3Ideal.main_v256) = v6 c
          ∧ r.2.mem ((c.tc : Thread Cert.Reference3Ideal.nD Cert.Reference3Ideal.τ).loc Cert.Reference3Ideal.main_v257) = v7 c
          ∧ r.2.mem ((c.tc : Thread Cert.Reference3Ideal.nD Cert.Reference3Ideal.τ).loc Cert.Reference3Ideal.main_v259) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts),
    quiescent_Kernel (hKernel := hKernel)
    ∧ quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Kernel.lean ====
abbrev S2x8192x512 : Shape := ⟨3, ![2, 8192, 512]⟩
abbrev S2x2x8192x256 : Shape := ⟨4, ![2, 2, 8192, 256]⟩
abbrev S2x2x8192x128 : Shape := ⟨4, ![2, 2, 8192, 128]⟩
abbrev S2x2x512x128 : Shape := ⟨4, ![2, 2, 512, 128]⟩
abbrev S2x8192x256 : Shape := ⟨3, ![2, 8192, 256]⟩
abbrev S512 : Shape := ⟨1, ![512]⟩
abbrev S512x1 : Shape := ⟨2, ![512, 1]⟩
abbrev S_ : Shape := ⟨0, ![]⟩
abbrev S128 : Shape := ⟨1, ![128]⟩
abbrev S1x128 : Shape := ⟨2, ![1, 128]⟩
abbrev S512x128 : Shape := ⟨2, ![512, 128]⟩
abbrev S1x128x256 : Shape := ⟨3, ![1, 128, 256]⟩
abbrev S1x1x8192x256 : Shape := ⟨4, ![1, 1, 8192, 256]⟩
abbrev S1x1x8192x128 : Shape := ⟨4, ![1, 1, 8192, 128]⟩
abbrev S1x1x512x128 : Shape := ⟨4, ![1, 1, 512, 128]⟩
abbrev S1x128x128 : Shape := ⟨3, ![1, 128, 128]⟩
abbrev S128x128 : Shape := ⟨2, ![128, 128]⟩
abbrev S128x256 : Shape := ⟨2, ![128, 256]⟩
abbrev S512x512 : Shape := ⟨2, ![512, 512]⟩
abbrev S128x512 : Shape := ⟨2, ![128, 512]⟩
abbrev S8x128 : Shape := ⟨2, ![8, 128]⟩
abbrev S120x128 : Shape := ⟨2, ![120, 128]⟩
abbrev S112x128 : Shape := ⟨2, ![112, 128]⟩
abbrev S16x128 : Shape := ⟨2, ![16, 128]⟩
abbrev S104x128 : Shape := ⟨2, ![104, 128]⟩
abbrev S24x128 : Shape := ⟨2, ![24, 128]⟩
abbrev S96x128 : Shape := ⟨2, ![96, 128]⟩
abbrev S32x128 : Shape := ⟨2, ![32, 128]⟩
abbrev S88x128 : Shape := ⟨2, ![88, 128]⟩
abbrev S40x128 : Shape := ⟨2, ![40, 128]⟩
abbrev S80x128 : Shape := ⟨2, ![80, 128]⟩
abbrev S48x128 : Shape := ⟨2, ![48, 128]⟩
abbrev S72x128 : Shape := ⟨2, ![72, 128]⟩
abbrev S56x128 : Shape := ⟨2, ![56, 128]⟩
abbrev S64x128 : Shape := ⟨2, ![64, 128]⟩
abbrev S512x256 : Shape := ⟨2, ![512, 256]⟩
abbrev S1x1x256x256 : Shape := ⟨4, ![1, 1, 256, 256]⟩
abbrev S256x256 : Shape := ⟨2, ![256, 256]⟩
abbrev S1x1x256x128 : Shape := ⟨4, ![1, 1, 256, 128]⟩
abbrev S256x128 : Shape := ⟨2, ![256, 128]⟩
abbrev S1x1x640x128 : Shape := ⟨4, ![1, 1, 640, 128]⟩
abbrev S640x128 : Shape := ⟨2, ![640, 128]⟩
abbrev S512x640 : Shape := ⟨2, ![512, 640]⟩
abbrev S128x1 : Shape := ⟨2, ![128, 1]⟩

abbrev nBuf : Space → Nat
  | .hbm => 41
  | .vmem => 23
  | .smem => 0
  | _ => 0

abbrev bufTy : (tb : Table) → Fin (tcTables nBuf tb) → BufTy
  | .hbm, ⟨0, _⟩ => ⟨S2x8192x512, .bf16⟩
  | .hbm, ⟨1, _⟩ => ⟨S2x2x8192x256, .bf16⟩
  | .hbm, ⟨2, _⟩ => ⟨S2x2x8192x128, .bf16⟩
  | .hbm, ⟨3, _⟩ => ⟨S2x2x8192x128, .bf16⟩
  | .hbm, ⟨4, _⟩ => ⟨S2x2x8192x128, .bf16⟩
  | .hbm, ⟨5, _⟩ => ⟨S2x2x512x128, .bf16⟩
  | .hbm, ⟨6, _⟩ => ⟨S2x2x512x128, .bf16⟩
  | .hbm, ⟨7, _⟩ => ⟨S2x8192x256, .f32⟩
  | .hbm, ⟨8, _⟩ => ⟨S512, .i32⟩
  | .hbm, ⟨9, _⟩ => ⟨S512x1, .i32⟩
  | .hbm, ⟨10, _⟩ => ⟨S_, .i32⟩
  | .hbm, ⟨11, _⟩ => ⟨S512x1, .i32⟩
  | .hbm, ⟨12, _⟩ => ⟨S512x1, .i32⟩
  | .hbm, ⟨13, _⟩ => ⟨S128, .i32⟩
  | .hbm, ⟨14, _⟩ => ⟨S1x128, .i32⟩
  | .hbm, ⟨15, _⟩ => ⟨S_, .i32⟩
  | .hbm, ⟨16, _⟩ => ⟨S1x128, .i32⟩
  | .hbm, ⟨17, _⟩ => ⟨S1x128, .i32⟩
  | .hbm, ⟨18, _⟩ => ⟨S_, .i32⟩
  | .hbm, ⟨19, _⟩ => ⟨S512x1, .i32⟩
  | .hbm, ⟨20, _⟩ => ⟨S512x1, .i32⟩
  | .hbm, ⟨21, _⟩ => ⟨S_, .i32⟩
  | .hbm, ⟨22, _⟩ => ⟨S1x128, .i32⟩
  | .hbm, ⟨23, _⟩ => ⟨S1x128, .i32⟩
  | .hbm, ⟨24, _⟩ => ⟨S512x128, .i32⟩
  | .hbm, ⟨25, _⟩ => ⟨S512x128, .i32⟩
  | .hbm, ⟨26, _⟩ => ⟨S512x128, .i32⟩
  | .hbm, ⟨27, _⟩ => ⟨S512x128, .i32⟩
  | .hbm, ⟨28, _⟩ => ⟨S512x128, .i32⟩
  | .hbm, ⟨29, _⟩ => ⟨S512x128, .i32⟩
  | .hbm, ⟨30, _⟩ => ⟨S512x128, .i32⟩
  | .hbm, ⟨31, _⟩ => ⟨S_, .i32⟩
  | .hbm, ⟨32, _⟩ => ⟨S_, .i32⟩
  | .hbm, ⟨33, _⟩ => ⟨S512x128, .i32⟩
  | .hbm, ⟨34, _⟩ => ⟨S512x128, .i32⟩
  | .hbm, ⟨35, _⟩ => ⟨S512x128, .f32⟩
  | .hbm, ⟨36, _⟩ => ⟨S_, .f32⟩
  | .hbm, ⟨37, _⟩ => ⟨S512x128, .f32⟩
  | .hbm, ⟨38, _⟩ => ⟨S512x128, .f32⟩
  | .hbm, ⟨39, _⟩ => ⟨S512x128, .bf16⟩
  | .hbm, ⟨40, _⟩ => ⟨S2x8192x512, .f32⟩
  | .local _ .vmem, ⟨0, _⟩ => ⟨S1x128x256, .bf16⟩
  | .local _ .vmem, ⟨1, _⟩ => ⟨S1x128x256, .bf16⟩
  | .local _ .vmem, ⟨2, _⟩ => ⟨S1x1x8192x256, .bf16⟩
  | .local _ .vmem, ⟨3, _⟩ => ⟨S1x1x8192x256, .bf16⟩
  | .local _ .vmem, ⟨4, _⟩ => ⟨S1x1x8192x128, .bf16⟩
  | .local _ .vmem, ⟨5, _⟩ => ⟨S1x1x8192x128, .bf16⟩
  | .local _ .vmem, ⟨6, _⟩ => ⟨S1x1x8192x128, .bf16⟩
  | .local _ .vmem, ⟨7, _⟩ => ⟨S1x1x8192x128, .bf16⟩
  | .local _ .vmem, ⟨8, _⟩ => ⟨S1x1x8192x128, .bf16⟩
  | .local _ .vmem, ⟨9, _⟩ => ⟨S1x1x8192x128, .bf16⟩
  | .local _ .vmem, ⟨10, _⟩ => ⟨S1x1x512x128, .bf16⟩
  | .local _ .vmem, ⟨11, _⟩ => ⟨S1x1x512x128, .bf16⟩
  | .local _ .vmem, ⟨12, _⟩ => ⟨S1x1x512x128, .bf16⟩
  | .local _ .vmem, ⟨13, _⟩ => ⟨S1x1x512x128, .bf16⟩
  | .local _ .vmem, ⟨14, _⟩ => ⟨S512x128, .bf16⟩
  | .local _ .vmem, ⟨15, _⟩ => ⟨S1x128x128, .f32⟩
  | .local _ .vmem, ⟨16, _⟩ => ⟨S1x128x128, .f32⟩
  | .local _ .vmem, ⟨17, _⟩ => ⟨S1x128x256, .f32⟩
  | .local _ .vmem, ⟨18, _⟩ => ⟨S1x128x256, .f32⟩
  | .local _ .vmem, ⟨19, _⟩ => ⟨S128x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | _, _ => ⟨S2x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![2, 2, 64], ![false, false, false]⟩

@[reducible] def k0_t1_loop (i : grid0.Coords) : Scf.Loop 32 :=
  let c0_i32_1043 : BitVec 32 := 0#32
  let arg2 : BitVec 32 := BitVec.ofNat 32 (i 2).val
  let c128_i32 : BitVec 32 := 128#32
  let v0 : BitVec 32 := Scalar.muli arg2 c128_i32
  let c128_i32_1033 : BitVec 32 := 128#32
  let v3617 : BitVec 32 := Scalar.addi v0 c128_i32_1033
  let c256_i32 : BitVec 32 := 256#32
  let v3618 : BitVec 32 := Scalar.addi v3617 c256_i32
  let c1_i32_1034 : BitVec 32 := 1#32
  let v3619 : BitVec 32 := Scalar.subi v3618 c1_i32_1034
  let c0_i32_1036 : BitVec 32 := 0#32
  let v3621 : BitVec 1 := Scalar.cmpi .sgt v3619 c0_i32_1036
  let v3622 : BitVec 32 := Scalar.extui v3621
  let c0_i32_1037 : BitVec 32 := 0#32
  let v3623 : BitVec 1 := Scalar.cmpi .slt v3619 c0_i32_1037
  let v3624 : BitVec 32 := Scalar.extui v3623
  let v3625 : BitVec 32 := Scalar.subi v3622 v3624
  let c256_i32_1035 : BitVec 32 := 256#32
  let c0_i32_1038 : BitVec 32 := 0#32
  let v3626 : BitVec 1 := Scalar.cmpi .sgt c256_i32_1035 c0_i32_1038
  let v3627 : BitVec 32 := Scalar.extui v3626
  let c0_i32_1039 : BitVec 32 := 0#32
  let v3628 : BitVec 1 := Scalar.cmpi .slt c256_i32_1035 c0_i32_1039
  let v3629 : BitVec 32 := Scalar.extui v3628
  let v3630 : BitVec 32 := Scalar.subi v3627 v3629
  let v3631 : BitVec 1 := Scalar.cmpi .ne v3625 v3630
  let v3632 : BitVec 32 := Scalar.remsi v3619 c256_i32_1035
  let c0_i32_1040 : BitVec 32 := 0#32
  let v3633 : BitVec 1 := Scalar.cmpi .ne v3632 c0_i32_1040
  let v3634 : BitVec 1 := Scalar.andi v3631 v3633
  let v3620 : BitVec 32 := Scalar.divsi v3619 c256_i32_1035
  let c1_i32_1041 : BitVec 32 := 1#32
  let v3635 : BitVec 32 := Scalar.subi v3620 c1_i32_1041
  let v3636 : BitVec 32 := Scalar.select v3634 v3635 v3620
  let v3637 : BitVec 32 := Scalar.subi v3636 c0_i32_1043
  let c1_i32_1044 : BitVec 32 := 1#32
  let v3639 : BitVec 32 := Scalar.divsi v3637 c1_i32_1044
  let v3640 : BitVec 32 := Scalar.muli v3639 c1_i32_1044
  let v3641 : BitVec 32 := Scalar.addi c0_i32_1043 v3640
  let c1_i32_1045 : BitVec 32 := 1#32
  ⟨c0_i32_1043, v3641, c1_i32_1045⟩
def k0_mult1 (i : grid0.Coords) (k0_t1 : Fin (k0_t1_loop i).trips) : BitVec 32 :=
  let c0_i32_1043 : BitVec 32 := 0#32
  let c1_i32_1045 : BitVec 32 := 1#32
  let arg17 : BitVec 32 := Scf.iv c0_i32_1043 c1_i32_1045 k0_t1
  let c256_i32_1073 : BitVec 32 := 256#32
  let v3749 : BitVec 32 := Scalar.muli arg17 c256_i32_1073
  v3749
def k0_off1 (i : grid0.Coords) (k0_t1 : Fin (k0_t1_loop i).trips) : Fin 4 → Nat :=
  let c0_1074 : Index := 0#32
  let c0_1075 : Index := 0#32
  let c0_i32_1043 : BitVec 32 := 0#32
  let c1_i32_1045 : BitVec 32 := 1#32
  let arg17 : BitVec 32 := Scf.iv c0_i32_1043 c1_i32_1045 k0_t1
  let c256_i32_1073 : BitVec 32 := 256#32
  let v3749 : BitVec 32 := Scalar.muli arg17 c256_i32_1073
  let v3750 : BitVec 32 := v3749
  let v3751 : Index := Scalar.indexCast v3750
  let c0_1076 : Index := 0#32
  ![0, 0, v3751.toNat, 0]
def k0_off2 (i : grid0.Coords) (k0_t1 : Fin (k0_t1_loop i).trips) : Fin 4 → Nat :=
  let c0_1089 : Index := 0#32
  let c0_1090 : Index := 0#32
  let c0_i32_1043 : BitVec 32 := 0#32
  let c1_i32_1045 : BitVec 32 := 1#32
  let arg17 : BitVec 32 := Scf.iv c0_i32_1043 c1_i32_1045 k0_t1
  let c256_i32_1073 : BitVec 32 := 256#32
  let v3749 : BitVec 32 := Scalar.muli arg17 c256_i32_1073
  let v3750 : BitVec 32 := v3749
  let v3782 : Index := Scalar.indexCast v3750
  let c0_1091 : Index := 0#32
  ![0, 0, v3782.toNat, 0]
@[reducible] def k0_t2_loop (i : grid0.Coords) : Scf.Loop 32 :=
  let c0_i32_1043 : BitVec 32 := 0#32
  let arg2 : BitVec 32 := BitVec.ofNat 32 (i 2).val
  let c128_i32 : BitVec 32 := 128#32
  let v0 : BitVec 32 := Scalar.muli arg2 c128_i32
  let c128_i32_1033 : BitVec 32 := 128#32
  let v3617 : BitVec 32 := Scalar.addi v0 c128_i32_1033
  let c256_i32 : BitVec 32 := 256#32
  let v3618 : BitVec 32 := Scalar.addi v3617 c256_i32
  let c1_i32_1034 : BitVec 32 := 1#32
  let v3619 : BitVec 32 := Scalar.subi v3618 c1_i32_1034
  let c0_i32_1036 : BitVec 32 := 0#32
  let v3621 : BitVec 1 := Scalar.cmpi .sgt v3619 c0_i32_1036
  let v3622 : BitVec 32 := Scalar.extui v3621
  let c0_i32_1037 : BitVec 32 := 0#32
  let v3623 : BitVec 1 := Scalar.cmpi .slt v3619 c0_i32_1037
  let v3624 : BitVec 32 := Scalar.extui v3623
  let v3625 : BitVec 32 := Scalar.subi v3622 v3624
  let c256_i32_1035 : BitVec 32 := 256#32
  let c0_i32_1038 : BitVec 32 := 0#32
  let v3626 : BitVec 1 := Scalar.cmpi .sgt c256_i32_1035 c0_i32_1038
  let v3627 : BitVec 32 := Scalar.extui v3626
  let c0_i32_1039 : BitVec 32 := 0#32
  let v3628 : BitVec 1 := Scalar.cmpi .slt c256_i32_1035 c0_i32_1039
  let v3629 : BitVec 32 := Scalar.extui v3628
  let v3630 : BitVec 32 := Scalar.subi v3627 v3629
  let v3631 : BitVec 1 := Scalar.cmpi .ne v3625 v3630
  let v3632 : BitVec 32 := Scalar.remsi v3619 c256_i32_1035
  let c0_i32_1040 : BitVec 32 := 0#32
  let v3633 : BitVec 1 := Scalar.cmpi .ne v3632 c0_i32_1040
  let v3634 : BitVec 1 := Scalar.andi v3631 v3633
  let v3620 : BitVec 32 := Scalar.divsi v3619 c256_i32_1035
  let c1_i32_1041 : BitVec 32 := 1#32
  let v3635 : BitVec 32 := Scalar.subi v3620 c1_i32_1041
  let v3636 : BitVec 32 := Scalar.select v3634 v3635 v3620
  let v3637 : BitVec 32 := Scalar.subi v3636 c0_i32_1043
  let c1_i32_1044 : BitVec 32 := 1#32
  let v3639 : BitVec 32 := Scalar.divsi v3637 c1_i32_1044
  let v3640 : BitVec 32 := Scalar.muli v3639 c1_i32_1044
  let v3641 : BitVec 32 := Scalar.addi c0_i32_1043 v3640
  let v3638 : BitVec 32 := Scalar.addi c0_i32_1043 v3637
  let c1_i32_1046 : BitVec 32 := 1#32
  ⟨v3641, v3638, c1_i32_1046⟩
def k0_mult2 (i : grid0.Coords) (k0_t2 : Fin (k0_t2_loop i).trips) : BitVec 32 :=
  let c0_i32_1043 : BitVec 32 := 0#32
  let arg2 : BitVec 32 := BitVec.ofNat 32 (i 2).val
  let c128_i32 : BitVec 32 := 128#32
  let v0 : BitVec 32 := Scalar.muli arg2 c128_i32
  let c128_i32_1033 : BitVec 32 := 128#32
  let v3617 : BitVec 32 := Scalar.addi v0 c128_i32_1033
  let c256_i32 : BitVec 32 := 256#32
  let v3618 : BitVec 32 := Scalar.addi v3617 c256_i32
  let c1_i32_1034 : BitVec 32 := 1#32
  let v3619 : BitVec 32 := Scalar.subi v3618 c1_i32_1034
  let c0_i32_1036 : BitVec 32 := 0#32
  let v3621 : BitVec 1 := Scalar.cmpi .sgt v3619 c0_i32_1036
  let v3622 : BitVec 32 := Scalar.extui v3621
  let c0_i32_1037 : BitVec 32 := 0#32
  let v3623 : BitVec 1 := Scalar.cmpi .slt v3619 c0_i32_1037
  let v3624 : BitVec 32 := Scalar.extui v3623
  let v3625 : BitVec 32 := Scalar.subi v3622 v3624
  let c256_i32_1035 : BitVec 32 := 256#32
  let c0_i32_1038 : BitVec 32 := 0#32
  let v3626 : BitVec 1 := Scalar.cmpi .sgt c256_i32_1035 c0_i32_1038
  let v3627 : BitVec 32 := Scalar.extui v3626
  let c0_i32_1039 : BitVec 32 := 0#32
  let v3628 : BitVec 1 := Scalar.cmpi .slt c256_i32_1035 c0_i32_1039
  let v3629 : BitVec 32 := Scalar.extui v3628
  let v3630 : BitVec 32 := Scalar.subi v3627 v3629
  let v3631 : BitVec 1 := Scalar.cmpi .ne v3625 v3630
  let v3632 : BitVec 32 := Scalar.remsi v3619 c256_i32_1035
  let c0_i32_1040 : BitVec 32 := 0#32
  let v3633 : BitVec 1 := Scalar.cmpi .ne v3632 c0_i32_1040
  let v3634 : BitVec 1 := Scalar.andi v3631 v3633
  let v3620 : BitVec 32 := Scalar.divsi v3619 c256_i32_1035
  let c1_i32_1041 : BitVec 32 := 1#32
  let v3635 : BitVec 32 := Scalar.subi v3620 c1_i32_1041
  let v3636 : BitVec 32 := Scalar.select v3634 v3635 v3620
  let v3637 : BitVec 32 := Scalar.subi v3636 c0_i32_1043
  let c1_i32_1044 : BitVec 32 := 1#32
  let v3639 : BitVec 32 := Scalar.divsi v3637 c1_i32_1044
  let v3640 : BitVec 32 := Scalar.muli v3639 c1_i32_1044
  let v3641 : BitVec 32 := Scalar.addi c0_i32_1043 v3640
  let c1_i32_1046 : BitVec 32 := 1#32
  let arg17 : BitVec 32 := Scf.iv v3641 c1_i32_1046 k0_t2
  let c256_i32_1073 : BitVec 32 := 256#32
  let v3749 : BitVec 32 := Scalar.muli arg17 c256_i32_1073
  v3749
def k0_off3 (i : grid0.Coords) (k0_t2 : Fin (k0_t2_loop i).trips) : Fin 4 → Nat :=
  let c0_1074 : Index := 0#32
  let c0_1075 : Index := 0#32
  let c0_i32_1043 : BitVec 32 := 0#32
  let arg2 : BitVec 32 := BitVec.ofNat 32 (i 2).val
  let c128_i32 : BitVec 32 := 128#32
  let v0 : BitVec 32 := Scalar.muli arg2 c128_i32
  let c128_i32_1033 : BitVec 32 := 128#32
  let v3617 : BitVec 32 := Scalar.addi v0 c128_i32_1033
  let c256_i32 : BitVec 32 := 256#32
  let v3618 : BitVec 32 := Scalar.addi v3617 c256_i32
  let c1_i32_1034 : BitVec 32 := 1#32
  let v3619 : BitVec 32 := Scalar.subi v3618 c1_i32_1034
  let c0_i32_1036 : BitVec 32 := 0#32
  let v3621 : BitVec 1 := Scalar.cmpi .sgt v3619 c0_i32_1036
  let v3622 : BitVec 32 := Scalar.extui v3621
  let c0_i32_1037 : BitVec 32 := 0#32
  let v3623 : BitVec 1 := Scalar.cmpi .slt v3619 c0_i32_1037
  let v3624 : BitVec 32 := Scalar.extui v3623
  let v3625 : BitVec 32 := Scalar.subi v3622 v3624
  let c256_i32_1035 : BitVec 32 := 256#32
  let c0_i32_1038 : BitVec 32 := 0#32
  let v3626 : BitVec 1 := Scalar.cmpi .sgt c256_i32_1035 c0_i32_1038
  let v3627 : BitVec 32 := Scalar.extui v3626
  let c0_i32_1039 : BitVec 32 := 0#32
  let v3628 : BitVec 1 := Scalar.cmpi .slt c256_i32_1035 c0_i32_1039
  let v3629 : BitVec 32 := Scalar.extui v3628
  let v3630 : BitVec 32 := Scalar.subi v3627 v3629
  let v3631 : BitVec 1 := Scalar.cmpi .ne v3625 v3630
  let v3632 : BitVec 32 := Scalar.remsi v3619 c256_i32_1035
  let c0_i32_1040 : BitVec 32 := 0#32
  let v3633 : BitVec 1 := Scalar.cmpi .ne v3632 c0_i32_1040
  let v3634 : BitVec 1 := Scalar.andi v3631 v3633
  let v3620 : BitVec 32 := Scalar.divsi v3619 c256_i32_1035
  let c1_i32_1041 : BitVec 32 := 1#32
  let v3635 : BitVec 32 := Scalar.subi v3620 c1_i32_1041
  let v3636 : BitVec 32 := Scalar.select v3634 v3635 v3620
  let v3637 : BitVec 32 := Scalar.subi v3636 c0_i32_1043
  let c1_i32_1044 : BitVec 32 := 1#32
  let v3639 : BitVec 32 := Scalar.divsi v3637 c1_i32_1044
  let v3640 : BitVec 32 := Scalar.muli v3639 c1_i32_1044
  let v3641 : BitVec 32 := Scalar.addi c0_i32_1043 v3640
  let c1_i32_1046 : BitVec 32 := 1#32
  let arg17 : BitVec 32 := Scf.iv v3641 c1_i32_1046 k0_t2
  let c256_i32_1073 : BitVec 32 := 256#32
  let v3749 : BitVec 32 := Scalar.muli arg17 c256_i32_1073
  let v3750 : BitVec 32 := v3749
  let v3751 : Index := Scalar.indexCast v3750
  let c0_1076 : Index := 0#32
  ![0, 0, v3751.toNat, 0]
def k0_off4 (i : grid0.Coords) (k0_t2 : Fin (k0_t2_loop i).trips) : Fin 4 → Nat :=
  let c0_1089 : Index := 0#32
  let c0_1090 : Index := 0#32
  let c0_i32_1043 : BitVec 32 := 0#32
  let arg2 : BitVec 32 := BitVec.ofNat 32 (i 2).val
  let c128_i32 : BitVec 32 := 128#32
  let v0 : BitVec 32 := Scalar.muli arg2 c128_i32
  let c128_i32_1033 : BitVec 32 := 128#32
  let v3617 : BitVec 32 := Scalar.addi v0 c128_i32_1033
  let c256_i32 : BitVec 32 := 256#32
  let v3618 : BitVec 32 := Scalar.addi v3617 c256_i32
  let c1_i32_1034 : BitVec 32 := 1#32
  let v3619 : BitVec 32 := Scalar.subi v3618 c1_i32_1034
  let c0_i32_1036 : BitVec 32 := 0#32
  let v3621 : BitVec 1 := Scalar.cmpi .sgt v3619 c0_i32_1036
  let v3622 : BitVec 32 := Scalar.extui v3621
  let c0_i32_1037 : BitVec 32 := 0#32
  let v3623 : BitVec 1 := Scalar.cmpi .slt v3619 c0_i32_1037
  let v3624 : BitVec 32 := Scalar.extui v3623
  let v3625 : BitVec 32 := Scalar.subi v3622 v3624
  let c256_i32_1035 : BitVec 32 := 256#32
  let c0_i32_1038 : BitVec 32 := 0#32
  let v3626 : BitVec 1 := Scalar.cmpi .sgt c256_i32_1035 c0_i32_1038
  let v3627 : BitVec 32 := Scalar.extui v3626
  let c0_i32_1039 : BitVec 32 := 0#32
  let v3628 : BitVec 1 := Scalar.cmpi .slt c256_i32_1035 c0_i32_1039
  let v3629 : BitVec 32 := Scalar.extui v3628
  let v3630 : BitVec 32 := Scalar.subi v3627 v3629
  let v3631 : BitVec 1 := Scalar.cmpi .ne v3625 v3630
  let v3632 : BitVec 32 := Scalar.remsi v3619 c256_i32_1035
  let c0_i32_1040 : BitVec 32 := 0#32
  let v3633 : BitVec 1 := Scalar.cmpi .ne v3632 c0_i32_1040
  let v3634 : BitVec 1 := Scalar.andi v3631 v3633
  let v3620 : BitVec 32 := Scalar.divsi v3619 c256_i32_1035
  let c1_i32_1041 : BitVec 32 := 1#32
  let v3635 : BitVec 32 := Scalar.subi v3620 c1_i32_1041
  let v3636 : BitVec 32 := Scalar.select v3634 v3635 v3620
  let v3637 : BitVec 32 := Scalar.subi v3636 c0_i32_1043
  let c1_i32_1044 : BitVec 32 := 1#32
  let v3639 : BitVec 32 := Scalar.divsi v3637 c1_i32_1044
  let v3640 : BitVec 32 := Scalar.muli v3639 c1_i32_1044
  let v3641 : BitVec 32 := Scalar.addi c0_i32_1043 v3640
  let c1_i32_1046 : BitVec 32 := 1#32
  let arg17 : BitVec 32 := Scf.iv v3641 c1_i32_1046 k0_t2
  let c256_i32_1073 : BitVec 32 := 256#32
  let v3749 : BitVec 32 := Scalar.muli arg17 c256_i32_1073
  let v3750 : BitVec 32 := v3749
  let v3782 : Index := Scalar.indexCast v3750
  let c0_1091 : Index := 0#32
  ![0, 0, v3782.toNat, 0]
def k0_mult3 (i : grid0.Coords) : BitVec 32 :=
  let arg2 : BitVec 32 := BitVec.ofNat 32 (i 2).val
  let c128_i32 : BitVec 32 := 128#32
  let v0 : BitVec 32 := Scalar.muli arg2 c128_i32
  let c512_i32 : BitVec 32 := 512#32
  let v3647 : BitVec 32 := Scalar.subi v0 c512_i32
  let c0_i32_1052 : BitVec 32 := 0#32
  let v3648 : BitVec 32 := Scalar.maxsi v3647 c0_i32_1052
  v3648
def k0_off5 (i : grid0.Coords) : Fin 4 → Nat :=
  let c0_1053 : Index := 0#32
  let c0_1054 : Index := 0#32
  let arg2 : BitVec 32 := BitVec.ofNat 32 (i 2).val
  let c128_i32 : BitVec 32 := 128#32
  let v0 : BitVec 32 := Scalar.muli arg2 c128_i32
  let c512_i32 : BitVec 32 := 512#32
  let v3647 : BitVec 32 := Scalar.subi v0 c512_i32
  let c0_i32_1052 : BitVec 32 := 0#32
  let v3648 : BitVec 32 := Scalar.maxsi v3647 c0_i32_1052
  let v3649 : BitVec 32 := v3648
  let v3650 : Index := Scalar.indexCast v3649
  let c0_1055 : Index := 0#32
  ![0, 0, v3650.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S512x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "mask" => some ⊥
  | _ => none
-- ==== Kernel2.lean ====
abbrev S2x8192x1024 : Shape := ⟨3, ![2, 8192, 1024]⟩
abbrev S2x8192x512 : Shape := ⟨3, ![2, 8192, 512]⟩
abbrev S16384x512 : Shape := ⟨2, ![16384, 512]⟩
abbrev S2x8192x256 : Shape := ⟨3, ![2, 8192, 256]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S16384x1024 : Shape := ⟨2, ![16384, 1024]⟩
abbrev S16384x256 : Shape := ⟨2, ![16384, 256]⟩
abbrev S1x512 : Shape := ⟨2, ![1, 512]⟩
abbrev S1x1024 : Shape := ⟨2, ![1, 1024]⟩
abbrev S1x2816 : Shape := ⟨2, ![1, 2816]⟩
abbrev S256x512 : Shape := ⟨2, ![256, 512]⟩
abbrev S256x256 : Shape := ⟨2, ![256, 256]⟩
abbrev S1024x1408 : Shape := ⟨2, ![1024, 1408]⟩
abbrev S3x1408 : Shape := ⟨2, ![3, 1408]⟩
abbrev S1x1408 : Shape := ⟨2, ![1, 1408]⟩
abbrev S1408x1024 : Shape := ⟨2, ![1408, 1024]⟩
abbrev S2x264x1408 : Shape := ⟨3, ![2, 264, 1408]⟩
abbrev S256 : Shape := ⟨1, ![256]⟩
abbrev S256x1 : Shape := ⟨2, ![256, 1]⟩
abbrev S8x1408 : Shape := ⟨2, ![8, 1408]⟩
abbrev S1x8x1408 : Shape := ⟨3, ![1, 8, 1408]⟩
abbrev S256x1408 : Shape := ⟨2, ![256, 1408]⟩
abbrev S1x256x1408 : Shape := ⟨3, ![1, 256, 1408]⟩

abbrev nBuf : Space → Nat
  | .hbm => 27
  | .vmem => 30
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S16384x512, .bf16⟩
  | .hbm, ⟨3, _⟩ => ⟨S2x8192x256, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x2816, .f32⟩
  | .hbm, ⟨9, _⟩ => ⟨S2816, .f32⟩
  | .hbm, ⟨10, _⟩ => ⟨S2816x1024, .f32⟩
  | .hbm, ⟨11, _⟩ => ⟨S1024, .f32⟩
  | .hbm, ⟨12, _⟩ => ⟨S1024x1024, .f32⟩
  | .hbm, ⟨13, _⟩ => ⟨S256x1024, .f32⟩
  | .hbm, ⟨14, _⟩ => ⟨S16384x1024, .f32⟩
  | .hbm, ⟨15, _⟩ => ⟨S16384x512, .f32⟩
  | .hbm, ⟨16, _⟩ => ⟨S16384x256, .f32⟩
  | .hbm, ⟨17, _⟩ => ⟨S1x512, .f32⟩
  | .hbm, ⟨18, _⟩ => ⟨S1024x1024, .bf16⟩
  | .hbm, ⟨19, _⟩ => ⟨S1x1024, .f32⟩
  | .hbm, ⟨20, _⟩ => ⟨S1024x5632, .bf16⟩
  | .hbm, ⟨21, _⟩ => ⟨S1x2816, .f32⟩
  | .hbm, ⟨22, _⟩ => ⟨S2816x1024, .bf16⟩
  | .hbm, ⟨23, _⟩ => ⟨S1x1024, .f32⟩
  | .hbm, ⟨24, _⟩ => ⟨S1024x1024, .bf16⟩
  | .hbm, ⟨25, _⟩ => ⟨S256x1024, .bf16⟩
  | .hbm, ⟨26, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x512, .f32⟩
  | .local _ .vmem, ⟨3, _⟩ => ⟨S256x512, .f32⟩
  | .local _ .vmem, ⟨4, _⟩ => ⟨S256x512, .bf16⟩
  | .local _ .vmem, ⟨5, _⟩ => ⟨S256x512, .bf16⟩
  | .local _ .vmem, ⟨6, _⟩ => ⟨S256x256, .f32⟩
  | .local _ .vmem, ⟨7, _⟩ => ⟨S256x256, .f32⟩
  | .local _ .vmem, ⟨8, _⟩ => ⟨S1x512, .f32⟩
  | .local _ .vmem, ⟨9, _⟩ => ⟨S1024x1024, .bf16⟩
  | .local _ .vmem, ⟨10, _⟩ => ⟨S1x1024, .f32⟩
  | .local _ .vmem, ⟨11, _⟩ => ⟨S1024x1408, .bf16⟩
  | .local _ .vmem, ⟨12, _⟩ => ⟨S1024x1408, .bf16⟩
  | .local _ .vmem, ⟨13, _⟩ => ⟨S1024x1408, .bf16⟩
  | .local _ .vmem, ⟨14, _⟩ => ⟨S1024x1408, .bf16⟩
  | .local _ .vmem, ⟨15, _⟩ => ⟨S3x1408, .f32⟩
  | .local _ .vmem, ⟨16, _⟩ => ⟨S3x1408, .f32⟩
  | .local _ .vmem, ⟨17, _⟩ => ⟨S1x1408, .f32⟩
  | .local _ .vmem, ⟨18, _⟩ => ⟨S1x1408, .f32⟩
  | .local _ .vmem, ⟨19, _⟩ => ⟨S1408x1024, .bf16⟩
  | .local _ .vmem, ⟨20, _⟩ => ⟨S1408x1024, .bf16⟩
  | .local _ .vmem, ⟨21, _⟩ => ⟨S1x1024, .f32⟩
  | .local _ .vmem, ⟨22, _⟩ => ⟨S1024x1024, .bf16⟩
  | .local _ .vmem, ⟨23, _⟩ => ⟨S256x1024, .bf16⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .bf16⟩
  | .local _ .vmem, ⟨28, _⟩ => ⟨S256x1024, .f32⟩
  | .local _ .vmem, ⟨29, _⟩ => ⟨S2x264x1408, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_5 : BitVec 32 := 0#32
  let v13 : BitVec 1 := Scalar.cmpi .eq v9 c0_i32_5
  let v14 : BitVec 32 := Scalar.extui v13
  let c0_i32_6 : BitVec 32 := 0#32
  let v15 : BitVec 1 := Scalar.cmpi .ne v14 c0_i32_6
  v15

def k0_off1 (i : grid0.Coords) : Fin 3 → Nat :=
  let arg1 : BitVec 32 := BitVec.ofNat 32 (i 1).val
  let v71 : Index := Scalar.indexCast arg1
  let c0_35 : Index := 0#32
  let c0_36 : Index := 0#32
  ![v71.toNat, 0, 0]
def k0_off2 (i : grid0.Coords) : Fin 3 → Nat :=
  let arg1 : BitVec 32 := BitVec.ofNat 32 (i 1).val
  let v23 : Index := Scalar.indexCast arg1
  let c8 : Index := 8#32
  let c0_13 : Index := 0#32
  ![v23.toNat, 8, 0]
def k0_off3 (i : grid0.Coords) : Fin 3 → Nat :=
  let arg1 : BitVec 32 := BitVec.ofNat 32 (i 1).val
  let v31 : Index := Scalar.indexCast arg1
  let c7 : Index := 7#32
  let c0_16 : Index := 0#32
  ![v31.toNat, 7, 0]
def k0_off4 (i : grid0.Coords) : Fin 3 → Nat :=
  let arg1 : BitVec 32 := BitVec.ofNat 32 (i 1).val
  let v38 : Index := Scalar.indexCast arg1
  let c6 : Index := 6#32
  let c0_19 : Index := 0#32
  ![v38.toNat, 6, 0]
def k0_off5 (i : grid0.Coords) : Fin 3 → Nat :=
  let arg1 : BitVec 32 := BitVec.ofNat 32 (i 1).val
  let v48 : Index := Scalar.indexCast arg1
  let c256 : Index := 256#32
  let c0_22 : Index := 0#32
  ![v48.toNat, 256, 0]
def k0_off6 (i : grid0.Coords) : Fin 3 → Nat :=
  let arg1 : BitVec 32 := BitVec.ofNat 32 (i 1).val
  let v51 : Index := Scalar.indexCast arg1
  let c0_23 : Index := 0#32
  let c0_24 : Index := 0#32
  ![v51.toNat, 0, 0]
def k0_cond3 (i : grid0.Coords) : BitVec 1 :=
  let arg1 : BitVec 32 := BitVec.ofNat 32 (i 1).val
  let c1_i32_32 : BitVec 32 := 1#32
  let v67 : BitVec 1 := Scalar.cmpi .eq arg1 c1_i32_32
  let v68 : BitVec 32 := Scalar.extui v67
  let c0_i32_33 : BitVec 32 := 0#32
  let v69 : BitVec 1 := Scalar.cmpi .ne v68 c0_i32_33
  v69

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S3x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x1408 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1408x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== Reference2Ideal.lean ====
abbrev S2x8192x1024 : Shape := ⟨3, ![2, 8192, 1024]⟩
abbrev S2x8192x512 : Shape := ⟨3, ![2, 8192, 512]⟩
abbrev S16384x512 : Shape := ⟨2, ![16384, 512]⟩
abbrev S2x8192x256 : Shape := ⟨3, ![2, 8192, 256]⟩
abbrev S512 : Shape := ⟨1, ![512]⟩
abbrev S1024x1024 : Shape := ⟨2, ![1024, 1024]⟩
abbrev S1024 : Shape := ⟨1, ![1024]⟩
abbrev S1024x5632 : Shape := ⟨2, ![1024, 5632]⟩
abbrev S3x2816 : Shape := ⟨2, ![3, 2816]⟩
abbrev S2816 : Shape := ⟨1, ![2816]⟩
abbrev S2816x1024 : Shape := ⟨2, ![2816, 1024]⟩
abbrev S256x1024 : Shape := ⟨2, ![256, 1024]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S2x8194x2816 : Shape := ⟨3, ![2, 8194, 2816]⟩
abbrev S1x2816 : Shape := ⟨2, ![1, 2816]⟩
abbrev S1x1x2816 : Shape := ⟨3, ![1, 1, 2816]⟩
abbrev S16384x1024 : Shape := ⟨2, ![16384, 1024]⟩

abbrev nBuf : Space → Nat
  | .hbm => 124
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S16384x512, .bf16⟩
  | .hbm, ⟨3, _⟩ => ⟨S2x8192x256, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x5632, .f32⟩
  | .hbm, ⟨8, _⟩ => ⟨S3x2816, .f32⟩
  | .hbm, ⟨9, _⟩ => ⟨S2816, .f32⟩
  | .hbm, ⟨10, _⟩ => ⟨S2816x1024, .f32⟩
  | .hbm, ⟨11, _⟩ => ⟨S1024, .f32⟩
  | .hbm, ⟨12, _⟩ => ⟨S1024x1024, .f32⟩
  | .hbm, ⟨13, _⟩ => ⟨S256x1024, .f32⟩
  | .hbm, ⟨14, _⟩ => ⟨S2x8192x512, .f32⟩
  | .hbm, ⟨15, _⟩ => ⟨S_, .f32⟩
  | .hbm, ⟨16, _⟩ => ⟨S2x8192, .f32⟩
  | .hbm, ⟨17, _⟩ => ⟨S2x8192x1, .f32⟩
  | .hbm, ⟨18, _⟩ => ⟨S_, .f32⟩
  | .hbm, ⟨19, _⟩ => ⟨S2x8192x1, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1, .f32⟩
  | .hbm, ⟨25, _⟩ => ⟨S2x8192x512, .f32⟩
  | .hbm, ⟨26, _⟩ => ⟨S2x8192x512, .f32⟩
  | .hbm, ⟨27, _⟩ => ⟨S1x1x512, .f32⟩
  | .hbm, ⟨28, _⟩ => ⟨S2x8192x512, .f32⟩
  | .hbm, ⟨29, _⟩ => ⟨S2x8192x512, .f32⟩
  | .hbm, ⟨30, _⟩ => ⟨S16384x512, .f32⟩
  | .hbm, ⟨31, _⟩ => ⟨S2x8192x512, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S_, .f32⟩
  | .hbm, ⟨37, _⟩ => ⟨S2x8192, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S2x8192x1, .f32⟩
  | .hbm, ⟨46, _⟩ => ⟨S2x8192x1024, .f32⟩
  | .hbm, ⟨47, _⟩ => ⟨S2x8192x1024, .f32⟩
  | .hbm, ⟨48, _⟩ => ⟨S1x1x1024, .f32⟩
  | .hbm, ⟨49, _⟩ => ⟨S2x8192x1024, .f32⟩
  | .hbm, ⟨50, _⟩ => ⟨S2x8192x1024, .f32⟩
  | .hbm, ⟨51, _⟩ => ⟨S2x8192x5632, .f32⟩
  | .hbm, ⟨52, _⟩ => ⟨S2x8192x2816, .f32⟩
  | .hbm, ⟨53, _⟩ => ⟨S2x8192x2816, .f32⟩
  | .hbm, ⟨54, _⟩ => ⟨S_, .i32⟩
  | .hbm, ⟨55, _⟩ => ⟨S_, .f32⟩
  | .hbm, ⟨56, _⟩ => ⟨S2x8194x2816, .f32⟩
  | .hbm, ⟨57, _⟩ => ⟨S1x2816, .f32⟩
  | .hbm, ⟨58, _⟩ => ⟨S2816, .f32⟩
  | .hbm, ⟨59, _⟩ => ⟨S2x8192x2816, .f32⟩
  | .hbm, ⟨60, _⟩ => ⟨S1x1x2816, .f32⟩
  | .hbm, ⟨61, _⟩ => ⟨S2x8192x2816, .f32⟩
  | .hbm, ⟨62, _⟩ => ⟨S2x8192x2816, .f32⟩
  | .hbm, ⟨63, _⟩ => ⟨S_, .f32⟩
  | .hbm, ⟨64, _⟩ => ⟨S2x8192x2816, .f32⟩
  | .hbm, ⟨65, _⟩ => ⟨S2x8192x2816, .f32⟩
  | .hbm, ⟨66, _⟩ => ⟨S1x2816, .f32⟩
  | .hbm, ⟨67, _⟩ => ⟨S2816, .f32⟩
  | .hbm, ⟨68, _⟩ => ⟨S2x8192x2816, .f32⟩
  | .hbm, ⟨69, _⟩ => ⟨S1x1x2816, .f32⟩
  | .hbm, ⟨70, _⟩ => ⟨S2x8192x2816, .f32⟩
  | .hbm, ⟨71, _⟩ => ⟨S2x8192x2816, .f32⟩
  | .hbm, ⟨72, _⟩ => ⟨S2x8192x2816, .f32⟩
  | .hbm, ⟨73, _⟩ => ⟨S1x2816, .f32⟩
  | .hbm, ⟨74, _⟩ => ⟨S2816, .f32⟩
  | .hbm, ⟨75, _⟩ => ⟨S2x8192x2816, .f32⟩
  | .hbm, ⟨76, _⟩ => ⟨S1x1x2816, .f32⟩
  | .hbm, ⟨77, _⟩ => ⟨S2x8192x2816, .f32⟩
  | .hbm, ⟨78, _⟩ => ⟨S2x8192x2816, .f32⟩
  | .hbm, ⟨79, _⟩ => ⟨S2x8192x2816, .f32⟩
  | .hbm, ⟨80, _⟩ => ⟨S1x1x2816, .f32⟩
  | .hbm, ⟨81, _⟩ => ⟨S2x8192x2816, .f32⟩
  | .hbm, ⟨82, _⟩ => ⟨S2x8192x2816, .f32⟩
  | .hbm, ⟨83, _⟩ => ⟨S2x8192x2816, .f32⟩
  | .hbm, ⟨84, _⟩ => ⟨S2x8192x2816, .f32⟩
  | .hbm, ⟨85, _⟩ => ⟨S_, .f32⟩
  | .hbm, ⟨86, _⟩ => ⟨S2x8192x2816, .f32⟩
  | .hbm, ⟨87, _⟩ => ⟨S2x8192x2816, .f32⟩
  | .hbm, ⟨88, _⟩ => ⟨S_, .f32⟩
  | .hbm, ⟨89, _⟩ => ⟨S2x8192x2816, .f32⟩
  | .hbm, ⟨90, _⟩ => ⟨S2x8192x2816, .f32⟩
  | .hbm, ⟨91, _⟩ => ⟨S2x8192x2816, .f32⟩
  | .hbm, ⟨92, _⟩ => ⟨S2x8192x2816, .f32⟩
  | .hbm, ⟨93, _⟩ => ⟨S2x8192x1024, .f32⟩
  | .hbm, ⟨94, _⟩ => ⟨S2x8192x1024, .f32⟩
  | .hbm, ⟨95, _⟩ => ⟨S2x8192x1024, .f32⟩
  | .hbm, ⟨96, _⟩ => ⟨S_, .f32⟩
  | .hbm, ⟨97, _⟩ => ⟨S2x8192, .f32⟩
  | .hbm, ⟨98, _⟩ => ⟨S2x8192x1, .f32⟩
  | .hbm, ⟨99, _⟩ => ⟨S_, .f32⟩
  | .hbm, ⟨100, _⟩ => ⟨S2x8192x1, .f32⟩
  | .hbm, ⟨101, _⟩ => ⟨S2x8192x1, .f32⟩
  | .hbm, ⟨102, _⟩ => ⟨S_, .f32⟩
  | .hbm, ⟨103, _⟩ => ⟨S2x8192x1, .f32⟩
  | .hbm, ⟨104, _⟩ => ⟨S2x8192x1, .f32⟩
  | .hbm, ⟨105, _⟩ => ⟨S2x8192x1, .f32⟩
  | .hbm, ⟨106, _⟩ => ⟨S2x8192x1024, .f32⟩
  | .hbm, ⟨107, _⟩ => ⟨S2x8192x1024, .f32⟩
  | .hbm, ⟨108, _⟩ => ⟨S1x1x1024, .f32⟩
  | .hbm, ⟨109, _⟩ => ⟨S2x8192x1024, .f32⟩
  | .hbm, ⟨110, _⟩ => ⟨S2x8192x1024, .f32⟩
  | .hbm, ⟨111, _⟩ => ⟨S2x8192x1024, .f32⟩
  | .hbm, ⟨112, _⟩ => ⟨S2x8192x1024, .f32⟩
  | .hbm, ⟨113, _⟩ => ⟨S2x8192x1024, .f32⟩
  | .hbm, ⟨114, _⟩ => ⟨S_, .f32⟩
  | .hbm, ⟨115, _⟩ => ⟨S2x8192x1024, .f32⟩
  | .hbm, ⟨116, _⟩ => ⟨S2x8192x1024, .f32⟩
  | .hbm, ⟨117, _⟩ => ⟨S_, .f32⟩
  | .hbm, ⟨118, _⟩ => ⟨S2x8192x1024, .f32⟩
  | .hbm, ⟨119, _⟩ => ⟨S2x8192x1024, .f32⟩
  | .hbm, ⟨120, _⟩ => ⟨S2x8192x1024, .f32⟩
  | .hbm, ⟨121, _⟩ => ⟨S2x8192x1024, .f32⟩
  | .hbm, ⟨122, _⟩ => ⟨S2x8192x1024, .f32⟩
  | .hbm, ⟨123, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c : Ref sig .tc := ⟨.hbm, 54, rfl⟩
abbrev main_call0_v0 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_5 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_call1_v0 : Ref sig .tc := ⟨.hbm, 83, rfl⟩
abbrev main_call1_v1 : Ref sig .tc := ⟨.hbm, 84, rfl⟩
abbrev main_call1_cst : Ref sig .tc := ⟨.hbm, 85, rfl⟩
abbrev main_call1_v2 : Ref sig .tc := ⟨.hbm, 86, rfl⟩
abbrev main_call1_v3 : Ref sig .tc := ⟨.hbm, 87, rfl⟩
abbrev main_call1_cst_0 : Ref sig .tc := ⟨.hbm, 88, rfl⟩
abbrev main_call1_v4 : Ref sig .tc := ⟨.hbm, 89, rfl⟩
abbrev main_call1_v5 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_6 : Ref sig .tc := ⟨.hbm, 96, rfl⟩
abbrev main_v65 : Ref sig .tc := ⟨.hbm, 97, rfl⟩
abbrev main_v66 : Ref sig .tc := ⟨.hbm, 98, rfl⟩
abbrev main_cst_7 : Ref sig .tc := ⟨.hbm, 99, rfl⟩
abbrev main_v67 : Ref sig .tc := ⟨.hbm, 100, rfl⟩
abbrev main_v68 : Ref sig .tc := ⟨.hbm, 101, rfl⟩
abbrev main_cst_8 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_9 : Ref sig .tc := ⟨.hbm, 114, rfl⟩
abbrev main_v80 : Ref sig .tc := ⟨.hbm, 115, rfl⟩
abbrev main_v81 : Ref sig .tc := ⟨.hbm, 116, rfl⟩
abbrev main_cst_10 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S1024x2840 : Shape := ⟨2, ![1024, 2840]⟩
abbrev S64 : Shape := ⟨1, ![64]⟩
abbrev S3x64 : Shape := ⟨2, ![3, 64]⟩
abbrev S3x512 : Shape := ⟨2, ![3, 512]⟩
abbrev S512 : Shape := ⟨1, ![512]⟩
abbrev S16384x1024 : Shape := ⟨2, ![16384, 1024]⟩
abbrev S1024x512 : Shape := ⟨2, ![1024, 512]⟩
abbrev S1024x768 : Shape := ⟨2, ![1024, 768]⟩
abbrev S1024x1536 : Shape := ⟨2, ![1024, 1536]⟩
abbrev S1024x12 : Shape := ⟨2, ![1024, 12]⟩
abbrev S_ : Shape := ⟨0, ![]⟩
abbrev S1024x128 : Shape := ⟨2, ![1024, 128]⟩
abbrev S1024x256 : Shape := ⟨2, ![1024, 256]⟩
abbrev S8192 : Shape := ⟨1, ![8192]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x48 : Shape := ⟨2, ![8192, 48]⟩
abbrev S8192x64 : Shape := ⟨2, ![8192, 64]⟩
abbrev S8192x128 : Shape := ⟨2, ![8192, 128]⟩
abbrev S8x1 : Shape := ⟨2, ![8, 1]⟩
abbrev S8x64 : Shape := ⟨2, ![8, 64]⟩
abbrev S512x1 : Shape := ⟨2, ![512, 1]⟩
abbrev S1x512 : Shape := ⟨2, ![1, 512]⟩
abbrev S512x512 : Shape := ⟨2, ![512, 512]⟩
abbrev S2 : Shape := ⟨1, ![2]⟩
abbrev S2x1 : Shape := ⟨2, ![2, 1]⟩
abbrev S2x64 : Shape := ⟨2, ![2, 64]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x1024 : Shape := ⟨2, ![1, 1024]⟩
abbrev S1x64 : Shape := ⟨2, ![1, 64]⟩
abbrev S2x128 : Shape := ⟨2, ![2, 128]⟩
abbrev S16384x512 : Shape := ⟨2, ![16384, 512]⟩
abbrev S16384x128 : Shape := ⟨2, ![16384, 128]⟩
abbrev S2x2x8192x256 : Shape := ⟨4, ![2, 2, 8192, 256]⟩
abbrev S2x2x8192x128 : Shape := ⟨4, ![2, 2, 8192, 128]⟩
abbrev S16384x256 : Shape := ⟨2, ![16384, 256]⟩
abbrev S256x1024 : Shape := ⟨2, ![256, 1024]⟩
abbrev S256x128 : Shape := ⟨2, ![256, 128]⟩
abbrev S256x512 : Shape := ⟨2, ![256, 512]⟩
abbrev S1x2x256x256 : Shape := ⟨4, ![1, 2, 256, 256]⟩
abbrev S1x2x256x128 : Shape := ⟨4, ![1, 2, 256, 128]⟩
abbrev S256x256 : Shape := ⟨2, ![256, 256]⟩
abbrev S264x512 : Shape := ⟨2, ![264, 512]⟩
abbrev S256 : Shape := ⟨1, ![256]⟩
abbrev S256x1 : Shape := ⟨2, ![256, 1]⟩
abbrev S256x768 : Shape := ⟨2, ![256, 768]⟩
abbrev S1x1x256x256 : Shape := ⟨4, ![1, 1, 256, 256]⟩
abbrev S1x1x256x128 : Shape := ⟨4, ![1, 1, 256, 128]⟩
abbrev S256x1536 : Shape := ⟨2, ![256, 1536]⟩
abbrev S8x512 : Shape := ⟨2, ![8, 512]⟩

abbrev nBuf : Space → Nat
  | .hbm => 116
  | .vmem => 38
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2840, .f32⟩
  | .hbm, ⟨3, _⟩ => ⟨S64, .f32⟩
  | .hbm, ⟨4, _⟩ => ⟨S3x64, .f32⟩
  | .hbm, ⟨5, _⟩ => ⟨S3x512, .f32⟩
  | .hbm, ⟨6, _⟩ => ⟨S512, .f32⟩
  | .hbm, ⟨7, _⟩ => ⟨S16384x1024, .f32⟩
  | .hbm, ⟨8, _⟩ => ⟨S1024x512, .f32⟩
  | .hbm, ⟨9, _⟩ => ⟨S1024x512, .bf16⟩
  | .hbm, ⟨10, _⟩ => ⟨S1024x768, .f32⟩
  | .hbm, ⟨11, _⟩ => ⟨S1024x768, .bf16⟩
  | .hbm, ⟨12, _⟩ => ⟨S1024x1536, .f32⟩
  | .hbm, ⟨13, _⟩ => ⟨S1024x1536, .bf16⟩
  | .hbm, ⟨14, _⟩ => ⟨S1024x12, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x12, .f32⟩
  | .hbm, ⟨19, _⟩ => ⟨S_, .i32⟩
  | .hbm, ⟨20, _⟩ => ⟨S_, .f32⟩
  | .hbm, ⟨21, _⟩ => ⟨S1024x128, .f32⟩
  | .hbm, ⟨22, _⟩ => ⟨S1024x256, .f32⟩
  | .hbm, ⟨23, _⟩ => ⟨S1024x256, .bf16⟩
  | .hbm, ⟨24, _⟩ => ⟨S8192, .i32⟩
  | .hbm, ⟨25, _⟩ => ⟨S8, .f32⟩
  | .hbm, ⟨26, _⟩ => ⟨S8, .f32⟩
  | .hbm, ⟨27, _⟩ => ⟨S_, .f32⟩
  | .hbm, ⟨28, _⟩ => ⟨S8, .f32⟩
  | .hbm, ⟨29, _⟩ => ⟨S8, .f32⟩
  | .hbm, ⟨30, _⟩ => ⟨S_, .f32⟩
  | .hbm, ⟨31, _⟩ => ⟨S8, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S8192, .f32⟩
  | .hbm, ⟨37, _⟩ => ⟨S8192x1, .f32⟩
  | .hbm, ⟨38, _⟩ => ⟨S1x8, .f32⟩
  | .hbm, ⟨39, _⟩ => ⟨S8192x8, .f32⟩
  | .hbm, ⟨40, _⟩ => ⟨S8192x8, .f32⟩
  | .hbm, ⟨41, _⟩ => ⟨S8192x8, .f32⟩
  | .hbm, ⟨42, _⟩ => ⟨S8192x8, .f32⟩
  | .hbm, ⟨43, _⟩ => ⟨S8192x8, .f32⟩
  | .hbm, ⟨44, _⟩ => ⟨S_, .f32⟩
  | .hbm, ⟨45, _⟩ => ⟨S8192x48, .f32⟩
  | .hbm, ⟨46, _⟩ => ⟨S_, .f32⟩
  | .hbm, ⟨47, _⟩ => ⟨S8192x8, .f32⟩
  | .hbm, ⟨48, _⟩ => ⟨S_, .f32⟩
  | .hbm, ⟨49, _⟩ => ⟨S8192x48, .f32⟩
  | .hbm, ⟨50, _⟩ => ⟨S8192x48, .f32⟩
  | .hbm, ⟨51, _⟩ => ⟨S8192x64, .f32⟩
  | .hbm, ⟨52, _⟩ => ⟨S8192x8, .f32⟩
  | .hbm, ⟨53, _⟩ => ⟨S8192x64, .f32⟩
  | .hbm, ⟨54, _⟩ => ⟨S8192x64, .f32⟩
  | .hbm, ⟨55, _⟩ => ⟨S8192x128, .f32⟩
  | .hbm, ⟨56, _⟩ => ⟨S8192x128, .f32⟩
  | .hbm, ⟨57, _⟩ => ⟨S8192x128, .f32⟩
  | .hbm, ⟨58, _⟩ => ⟨S8, .i32⟩
  | .hbm, ⟨59, _⟩ => ⟨S8x1, .i32⟩
  | .hbm, ⟨60, _⟩ => ⟨S8x64, .i32⟩
  | .hbm, ⟨61, _⟩ => ⟨S512, .i32⟩
  | .hbm, ⟨62, _⟩ => ⟨S512x1, .i32⟩
  | .hbm, ⟨63, _⟩ => ⟨S1x512, .i32⟩
  | .hbm, ⟨64, _⟩ => ⟨S512x512, .i32⟩
  | .hbm, ⟨65, _⟩ => ⟨S512x512, .i32⟩
  | .hbm, ⟨66, _⟩ => ⟨S512x512, .i1⟩
  | .hbm, ⟨67, _⟩ => ⟨S_, .f32⟩
  | .hbm, ⟨68, _⟩ => ⟨S_, .f32⟩
  | .hbm, ⟨69, _⟩ => ⟨S512x512, .f32⟩
  | .hbm, ⟨70, _⟩ => ⟨S512x512, .f32⟩
  | .hbm, ⟨71, _⟩ => ⟨S512x512, .f32⟩
  | .hbm, ⟨72, _⟩ => ⟨S512x512, .bf16⟩
  | .hbm, ⟨73, _⟩ => ⟨S2, .i32⟩
  | .hbm, ⟨74, _⟩ => ⟨S2x1, .i32⟩
  | .hbm, ⟨75, _⟩ => ⟨S2x64, .i32⟩
  | .hbm, ⟨76, _⟩ => ⟨S128, .i32⟩
  | .hbm, ⟨77, _⟩ => ⟨S128x1, .i32⟩
  | .hbm, ⟨78, _⟩ => ⟨S1x128, .i32⟩
  | .hbm, ⟨79, _⟩ => ⟨S128x128, .i32⟩
  | .hbm, ⟨80, _⟩ => ⟨S128x128, .i32⟩
  | .hbm, ⟨81, _⟩ => ⟨S128x128, .i1⟩
  | .hbm, ⟨82, _⟩ => ⟨S_, .f32⟩
  | .hbm, ⟨83, _⟩ => ⟨S_, .f32⟩
  | .hbm, ⟨84, _⟩ => ⟨S128x128, .f32⟩
  | .hbm, ⟨85, _⟩ => ⟨S128x128, .f32⟩
  | .hbm, ⟨86, _⟩ => ⟨S128x128, .f32⟩
  | .hbm, ⟨87, _⟩ => ⟨S128x128, .bf16⟩
  | .hbm, ⟨88, _⟩ => ⟨S1x1024, .f32⟩
  | .hbm, ⟨89, _⟩ => ⟨S1x64, .f32⟩
  | .hbm, ⟨90, _⟩ => ⟨S8x64, .f32⟩
  | .hbm, ⟨91, _⟩ => ⟨S512, .f32⟩
  | .hbm, ⟨92, _⟩ => ⟨S1x512, .f32⟩
  | .hbm, ⟨93, _⟩ => ⟨S1x64, .f32⟩
  | .hbm, ⟨94, _⟩ => ⟨S64, .f32⟩
  | .hbm, ⟨95, _⟩ => ⟨S1x64, .f32⟩
  | .hbm, ⟨96, _⟩ => ⟨S2x64, .f32⟩
  | .hbm, ⟨97, _⟩ => ⟨S128, .f32⟩
  | .hbm, ⟨98, _⟩ => ⟨S1x64, .f32⟩
  | .hbm, ⟨99, _⟩ => ⟨S64, .f32⟩
  | .hbm, ⟨100, _⟩ => ⟨S1x64, .f32⟩
  | .hbm, ⟨101, _⟩ => ⟨S2x64, .f32⟩
  | .hbm, ⟨102, _⟩ => ⟨S128, .f32⟩
  | .hbm, ⟨103, _⟩ => ⟨S1x128, .f32⟩
  | .hbm, ⟨104, _⟩ => ⟨S1x128, .f32⟩
  | .hbm, ⟨105, _⟩ => ⟨S2x128, .f32⟩
  | .hbm, ⟨106, _⟩ => ⟨S1x512, .f32⟩
  | .hbm, ⟨107, _⟩ => ⟨S16384x512, .bf16⟩
  | .hbm, ⟨108, _⟩ => ⟨S16384x128, .f32⟩
  | .hbm, ⟨109, _⟩ => ⟨S16384x128, .f32⟩
  | .hbm, ⟨110, _⟩ => ⟨S2x2x8192x256, .bf16⟩
  | .hbm, ⟨111, _⟩ => ⟨S2x2x8192x128, .bf16⟩
  | .hbm, ⟨112, _⟩ => ⟨S2x2x8192x128, .bf16⟩
  | .hbm, ⟨113, _⟩ => ⟨S2x2x8192x128, .bf16⟩
  | .hbm, ⟨114, _⟩ => ⟨S16384x256, .f32⟩
  | .hbm, ⟨115, _⟩ => ⟨S16384x512, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S1024x768, .bf16⟩
  | .local _ .vmem, ⟨5, _⟩ => ⟨S1024x256, .bf16⟩
  | .local _ .vmem, ⟨6, _⟩ => ⟨S1024x1536, .bf16⟩
  | .local _ .vmem, ⟨7, _⟩ => ⟨S1x512, .f32⟩
  | .local _ .vmem, ⟨8, _⟩ => ⟨S2x128, .f32⟩
  | .local _ .vmem, ⟨9, _⟩ => ⟨S512x512, .bf16⟩
  | .local _ .vmem, ⟨10, _⟩ => ⟨S128x128, .bf16⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S3x512, .f32⟩
  | .local _ .vmem, ⟨18, _⟩ => ⟨S1x512, .f32⟩
  | .local _ .vmem, ⟨19, _⟩ => ⟨S256x512, .bf16⟩
  | .local _ .vmem, ⟨20, _⟩ => ⟨S256x512, .bf16⟩
  | .local _ .vmem, ⟨21, _⟩ => ⟨S256x128, .f32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S1x2x256x256, .bf16⟩
  | .local _ .vmem, ⟨26, _⟩ => ⟨S1x2x256x256, .bf16⟩
  | .local _ .vmem, ⟨27, _⟩ => ⟨S1x2x256x128, .bf16⟩
  | .local _ .vmem, ⟨28, _⟩ => ⟨S1x2x256x128, .bf16⟩
  | .local _ .vmem, ⟨29, _⟩ => ⟨S1x2x256x128, .bf16⟩
  | .local _ .vmem, ⟨30, _⟩ => ⟨S1x2x256x128, .bf16⟩
  | .local _ .vmem, ⟨31, _⟩ => ⟨S1x2x256x128, .bf16⟩
  | .local _ .vmem, ⟨32, _⟩ => ⟨S1x2x256x128, .bf16⟩
  | .local _ .vmem, ⟨33, _⟩ => ⟨S256x256, .f32⟩
  | .local _ .vmem, ⟨34, _⟩ => ⟨S256x256, .f32⟩
  | .local _ .vmem, ⟨35, _⟩ => ⟨S256x512, .bf16⟩
  | .local _ .vmem, ⟨36, _⟩ => ⟨S256x512, .bf16⟩
  | .local _ .vmem, ⟨37, _⟩ => ⟨S264x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_cst_7 : Ref sig .tc := ⟨.hbm, 68, rfl⟩
abbrev main_call2_v0 : Ref sig .tc := ⟨.hbm, 69, rfl⟩
abbrev main_call2_v1 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_8 : Ref sig .tc := ⟨.hbm, 82, rfl⟩
abbrev main_cst_9 : Ref sig .tc := ⟨.hbm, 83, rfl⟩
abbrev main_call3_v0 : Ref sig .tc := ⟨.hbm, 84, rfl⟩
abbrev main_call3_v1 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82_0 : Ref sig .tc := ⟨.hbm, 107, rfl⟩
abbrev main_v82_1 : Ref sig .tc := ⟨.hbm, 108, rfl⟩
abbrev main_v82_2 : Ref sig .tc := ⟨.hbm, 109, rfl⟩
abbrev main_v82_3 : Ref sig .tc := ⟨.hbm, 110, rfl⟩
abbrev main_v82_4 : Ref sig .tc := ⟨.hbm, 111, rfl⟩
abbrev main_v82_5 : Ref sig .tc := ⟨.hbm, 112, rfl⟩
abbrev main_v82_6 : Ref sig .tc := ⟨.hbm, 113, rfl⟩
abbrev main_v82_7 : Ref sig .tc := ⟨.hbm, 114, rfl⟩
abbrev main_v82_8 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_stg19_0 : Ref sig .tc := ⟨.vmem, 27, rfl⟩
abbrev cc0_stg19_1 : Ref sig .tc := ⟨.vmem, 28, rfl⟩
abbrev cc0_stg20_0 : Ref sig .tc := ⟨.vmem, 29, rfl⟩
abbrev cc0_stg20_1 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28
abbrev cc0_sem20_0 : DmaSem sig := 29
abbrev cc0_sem20_1 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_19 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_20 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_21 (i : grid0.Coords) : Fin 4 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32_4 : BitVec 32 := 32#32
  let c0_i32_5 : BitVec 32 := 0#32
  let v17 : BitVec 1 := Scalar.cmpi .eq c32_i32_4 c0_i32_5
  let c1_i32_6 : BitVec 32 := 1#32
  let v18 : BitVec 32 := Scalar.select v17 c1_i32_6 c32_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S3x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x2x256x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x2x256x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x2x256x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x2x256x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S256x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== Reference3Ideal.lean ====
abbrev S2x8192x1024 : Shape := ⟨3, ![2, 8192, 1024]⟩
abbrev S1024 : Shape := ⟨1, ![1024]⟩
abbrev S1024x2840 : Shape := ⟨2, ![1024, 2840]⟩
abbrev S64 : Shape := ⟨1, ![64]⟩
abbrev S3x64 : Shape := ⟨2, ![3, 64]⟩
abbrev S3x512 : Shape := ⟨2, ![3, 512]⟩
abbrev S512 : Shape := ⟨1, ![512]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2840 : Shape := ⟨3, ![2, 8192, 2840]⟩
abbrev S2x8192x512 : Shape := ⟨3, ![2, 8192, 512]⟩
abbrev S2x8192x128 : Shape := ⟨3, ![2, 8192, 128]⟩
abbrev S2x8192x24 : Shape := ⟨3, ![2, 8192, 24]⟩
abbrev S8192 : Shape := ⟨1, ![8192]⟩
abbrev S2x8192x8x64 : Shape := ⟨4, ![2, 8192, 8, 64]⟩
abbrev S2x8192x8 : Shape := ⟨3, ![2, 8192, 8]⟩
abbrev S2x8192x8x1 : Shape := ⟨4, ![2, 8192, 8, 1]⟩
abbrev S1x1x1x64 : Shape := ⟨4, ![1, 1, 1, 64]⟩
abbrev S8 : Shape := ⟨1, ![8]⟩
abbrev S8192x1 : Shape := ⟨2, ![8192, 1]⟩
abbrev S1x8 : Shape := ⟨2, ![1, 8]⟩
abbrev S8192x8 : Shape := ⟨2, ![8192, 8]⟩
abbrev S8192x1x8 : Shape := ⟨3, ![8192, 1, 8]⟩
abbrev S2x8192x8x8 : Shape := ⟨4, ![2, 8192, 8, 8]⟩
abbrev S2x8192x8x48 : Shape := ⟨4, ![2, 8192, 8, 48]⟩
abbrev S1x8192x1x8 : Shape := ⟨4, ![1, 8192, 1, 8]⟩
abbrev S2x8192x2x64 : Shape := ⟨4, ![2, 8192, 2, 64]⟩
abbrev S1x64 : Shape := ⟨2, ![1, 64]⟩
abbrev S2x8192x2 : Shape := ⟨3, ![2, 8192, 2]⟩
abbrev S2x8192x2x1 : Shape := ⟨4, ![2, 8192, 2, 1]⟩
abbrev S2x8192x2x8 : Shape := ⟨4, ![2, 8192, 2, 8]⟩
abbrev S2x8192x2x48 : Shape := ⟨4, ![2, 8192, 2, 48]⟩
abbrev S128 : Shape := ⟨1, ![128]⟩
abbrev S128x1 : Shape := ⟨2, ![128, 1]⟩
abbrev S128x64 : Shape := ⟨2, ![128, 64]⟩
abbrev S1x128 : Shape := ⟨2, ![1, 128]⟩
abbrev S8192x128 : Shape := ⟨2, ![8192, 128]⟩
abbrev S2x8192x2x128 : Shape := ⟨4, ![2, 8192, 2, 128]⟩
abbrev S2x2x8192x128 : Shape := ⟨4, ![2, 2, 8192, 128]⟩
abbrev S2x2x8192x256 : Shape := ⟨4, ![2, 2, 8192, 256]⟩
abbrev S16384x2x12 : Shape := ⟨3, ![16384, 2, 12]⟩
abbrev S16384x2x128 : Shape := ⟨3, ![16384, 2, 128]⟩
abbrev S2x8194x512 : Shape := ⟨3, ![2, 8194, 512]⟩
abbrev S1x512 : Shape := ⟨2, ![1, 512]⟩
abbrev S1x1x512 : Shape := ⟨3, ![1, 1, 512]⟩
abbrev S16384x512 : Shape := ⟨2, ![16384, 512]⟩
abbrev S16384x128 : Shape := ⟨2, ![16384, 128]⟩
abbrev S16384x256 : Shape := ⟨2, ![16384, 256]⟩

abbrev nBuf : Space → Nat
  | .hbm => 303
  | .vmem => 0
  | .smem => 0
  | _ => 0

abbrev hbmTy0_0 (i : Nat) : BufTy := match i % 128 with
  | 0 => ⟨S2x8192x1024, .f32⟩
  | 1 => ⟨S1024, .f32⟩
  | 2 => ⟨S1024x2840, .f32⟩
  | 3 => ⟨S64, .f32⟩
  | 4 => ⟨S3x64, .f32⟩
  | 5 => ⟨S3x512, .f32⟩
  | 6 => ⟨S512, .f32⟩
  | 7 => ⟨S2x8192x1024, .f32⟩
  | 8 => ⟨S_, .f32⟩
  | 9 => ⟨S2x8192, .f32⟩
  | 10 => ⟨S2x8192x1, .f32⟩
  | 11 => ⟨S_, .f32⟩
  | 12 => ⟨S2x8192x1, .f32⟩
  | 13 => ⟨S2x8192x1, .f32⟩
  | 14 => ⟨S_, .f32⟩
  | 15 => ⟨S2x8192x1, .f32⟩
  | 16 => ⟨S2x8192x1, .f32⟩
  | 17 => ⟨S2x8192x1, .f32⟩
  | 18 => ⟨S2x8192x1024, .f32⟩
  | 19 => ⟨S2x8192x1024, .f32⟩
  | 20 => ⟨S1x1x1024, .f32⟩
  | 21 => ⟨S2x8192x1024, .f32⟩
  | 22 => ⟨S2x8192x1024, .f32⟩
  | 23 => ⟨S2x8192x2840, .f32⟩
  | 24 => ⟨S2x8192x512, .f32⟩
  | 25 => ⟨S2x8192x128, .f32⟩
  | 26 => ⟨S2x8192x128, .f32⟩
  | 27 => ⟨S2x8192x128, .f32⟩
  | 28 => ⟨S2x8192x128, .f32⟩
  | 29 => ⟨S2x8192x128, .f32⟩
  | 30 => ⟨S2x8192x128, .f32⟩
  | 31 => ⟨S2x8192x24, .f32⟩
  | 32 => ⟨S2x8192x512, .f32⟩
  | 33 => ⟨S2x8192x512, .f32⟩
  | 34 => ⟨S2x8192x512, .f32⟩
  | 35 => ⟨S8192, .i32⟩
  | 36 => ⟨S2x8192x8x64, .f32⟩
  | 37 => ⟨S2x8192x8x64, .f32⟩
  | 38 => ⟨S_, .f32⟩
  | 39 => ⟨S2x8192x8, .f32⟩
  | 40 => ⟨S2x8192x8x1, .f32⟩
  | 41 => ⟨S_, .f32⟩
  | 42 => ⟨S2x8192x8x1, .f32⟩
  | 43 => ⟨S2x8192x8x1, .f32⟩
  | 44 => ⟨S_, .f32⟩
  | 45 => ⟨S2x8192x8x1, .f32⟩
  | 46 => ⟨S2x8192x8x1, .f32⟩
  | 47 => ⟨S2x8192x8x1, .f32⟩
  | 48 => ⟨S2x8192x8x64, .f32⟩
  | 49 => ⟨S2x8192x8x64, .f32⟩
  | 50 => ⟨S1x1x1x64, .f32⟩
  | 51 => ⟨S2x8192x8x64, .f32⟩
  | 52 => ⟨S2x8192x8x64, .f32⟩
  | 53 => ⟨S8, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S8192, .f32⟩
  | 65 => ⟨S8192x1, .f32⟩
  | 66 => ⟨S1x8, .f32⟩
  | 67 => ⟨S8192x8, .f32⟩
  | 68 => ⟨S8192x8, .f32⟩
  | 69 => ⟨S8192x8, .f32⟩
  | 70 => ⟨S8192x1x8, .f32⟩
  | 71 => ⟨S8192x1x8, .f32⟩
  | 72 => ⟨S8192x1x8, .f32⟩
  | 73 => ⟨S2x8192x8x8, .f32⟩
  | 74 => ⟨S2x8192x8x8, .f32⟩
  | 75 => ⟨S2x8192x8x48, .f32⟩
  | 76 => ⟨S1x8192x1x8, .f32⟩
  | 77 => ⟨S2x8192x8x8, .f32⟩
  | 78 => ⟨S2x8192x8x8, .f32⟩
  | 79 => ⟨S1x8192x1x8, .f32⟩
  | 80 => ⟨S2x8192x8x8, .f32⟩
  | 81 => ⟨S2x8192x8x8, .f32⟩
  | 82 => ⟨S2x8192x8x8, .f32⟩
  | 83 => ⟨S1x8192x1x8, .f32⟩
  | 84 => ⟨S2x8192x8x8, .f32⟩
  | 85 => ⟨S2x8192x8x8, .f32⟩
  | 86 => ⟨S1x8192x1x8, .f32⟩
  | 87 => ⟨S2x8192x8x8, .f32⟩
  | 88 => ⟨S2x8192x8x8, .f32⟩
  | 89 => ⟨S2x8192x8x8, .f32⟩
  | 90 => ⟨S2x8192x8x64, .f32⟩
  | 91 => ⟨S_, .f32⟩
  | 92 => ⟨S2x8192x8x64, .f32⟩
  | 93 => ⟨S2x8192x8x64, .f32⟩
  | 94 => ⟨S2x8192x2x64, .f32⟩
  | 95 => ⟨S1x64, .f32⟩
  | 96 => ⟨S64, .f32⟩
  | 97 => ⟨S2x8192x2x64, .f32⟩
  | 98 => ⟨S_, .f32⟩
  | 99 => ⟨S2x8192x2, .f32⟩
  | 100 => ⟨S2x8192x2x1, .f32⟩
  | 101 => ⟨S_, .f32⟩
  | 102 => ⟨S2x8192x2x1, .f32⟩
  | 103 => ⟨S2x8192x2x1, .f32⟩
  | 104 => ⟨S_, .f32⟩
  | 105 => ⟨S2x8192x2x1, .f32⟩
  | 106 => ⟨S2x8192x2x1, .f32⟩
  | 107 => ⟨S2x8192x2x1, .f32⟩
  | 108 => ⟨S2x8192x2x64, .f32⟩
  | 109 => ⟨S2x8192x2x64, .f32⟩
  | 110 => ⟨S1x1x1x64, .f32⟩
  | 111 => ⟨S2x8192x2x64, .f32⟩
  | 112 => ⟨S2x8192x2x64, .f32⟩
  | 113 => ⟨S8, .f32⟩
  | 114 => ⟨S8, .f32⟩
  | 115 => ⟨S_, .f32⟩
  | 116 => ⟨S8, .f32⟩
  | 117 => ⟨S8, .f32⟩
  | 118 => ⟨S_, .f32⟩
  | 119 => ⟨S8, .f32⟩
  | 120 => ⟨S8, .f32⟩
  | 121 => ⟨S_, .f32⟩
  | 122 => ⟨S8, .f32⟩
  | 123 => ⟨S8, .f32⟩
  | 124 => ⟨S8192, .f32⟩
  | 125 => ⟨S8192x1, .f32⟩
  | 126 => ⟨S1x8, .f32⟩
  | 127 => ⟨S8192x8, .f32⟩
  | _ => ⟨S2x8192x1024, .f32⟩

abbrev hbmTy0_1 (i : Nat) : BufTy := match i % 128 with
  | 0 => ⟨S8192x8, .f32⟩
  | 1 => ⟨S8192x8, .f32⟩
  | 2 => ⟨S8192x1x8, .f32⟩
  | 3 => ⟨S8192x1x8, .f32⟩
  | 4 => ⟨S8192x1x8, .f32⟩
  | 5 => ⟨S2x8192x2x8, .f32⟩
  | 6 => ⟨S2x8192x2x8, .f32⟩
  | 7 => ⟨S2x8192x2x48, .f32⟩
  | 8 => ⟨S1x8192x1x8, .f32⟩
  | 9 => ⟨S2x8192x2x8, .f32⟩
  | 10 => ⟨S2x8192x2x8, .f32⟩
  | 11 => ⟨S1x8192x1x8, .f32⟩
  | 12 => ⟨S2x8192x2x8, .f32⟩
  | 13 => ⟨S2x8192x2x8, .f32⟩
  | 14 => ⟨S2x8192x2x8, .f32⟩
  | 15 => ⟨S1x8192x1x8, .f32⟩
  | 16 => ⟨S2x8192x2x8, .f32⟩
  | 17 => ⟨S2x8192x2x8, .f32⟩
  | 18 => ⟨S1x8192x1x8, .f32⟩
  | 19 => ⟨S2x8192x2x8, .f32⟩
  | 20 => ⟨S2x8192x2x8, .f32⟩
  | 21 => ⟨S2x8192x2x8, .f32⟩
  | 22 => ⟨S2x8192x2x64, .f32⟩
  | 23 => ⟨S2x8192x2x64, .f32⟩
  | 24 => ⟨S1x64, .f32⟩
  | 25 => ⟨S64, .f32⟩
  | 26 => ⟨S2x8192x2x64, .f32⟩
  | 27 => ⟨S_, .f32⟩
  | 28 => ⟨S2x8192x2, .f32⟩
  | 29 => ⟨S2x8192x2x1, .f32⟩
  | 30 => ⟨S_, .f32⟩
  | 31 => ⟨S2x8192x2x1, .f32⟩
  | 32 => ⟨S2x8192x2x1, .f32⟩
  | 33 => ⟨S_, .f32⟩
  | 34 => ⟨S2x8192x2x1, .f32⟩
  | 35 => ⟨S2x8192x2x1, .f32⟩
  | 36 => ⟨S2x8192x2x1, .f32⟩
  | 37 => ⟨S2x8192x2x64, .f32⟩
  | 38 => ⟨S2x8192x2x64, .f32⟩
  | 39 => ⟨S1x1x1x64, .f32⟩
  | 40 => ⟨S2x8192x2x64, .f32⟩
  | 41 => ⟨S2x8192x2x64, .f32⟩
  | 42 => ⟨S8, .f32⟩
  | 43 => ⟨S8, .f32⟩
  | 44 => ⟨S_, .f32⟩
  | 45 => ⟨S8, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S8192, .f32⟩
  | 54 => ⟨S8192x1, .f32⟩
  | 55 => ⟨S1x8, .f32⟩
  | 56 => ⟨S8192x8, .f32⟩
  | 57 => ⟨S8192x8, .f32⟩
  | 58 => ⟨S8192x8, .f32⟩
  | 59 => ⟨S8192x1x8, .f32⟩
  | 60 => ⟨S8192x1x8, .f32⟩
  | 61 => ⟨S8192x1x8, .f32⟩
  | 62 => ⟨S2x8192x2x8, .f32⟩
  | 63 => ⟨S2x8192x2x8, .f32⟩
  | 64 => ⟨S2x8192x2x48, .f32⟩
  | 65 => ⟨S1x8192x1x8, .f32⟩
  | 66 => ⟨S2x8192x2x8, .f32⟩
  | 67 => ⟨S2x8192x2x8, .f32⟩
  | 68 => ⟨S1x8192x1x8, .f32⟩
  | 69 => ⟨S2x8192x2x8, .f32⟩
  | 70 => ⟨S2x8192x2x8, .f32⟩
  | 71 => ⟨S2x8192x2x8, .f32⟩
  | 72 => ⟨S1x8192x1x8, .f32⟩
  | 73 => ⟨S2x8192x2x8, .f32⟩
  | 74 => ⟨S2x8192x2x8, .f32⟩
  | 75 => ⟨S1x8192x1x8, .f32⟩
  | 76 => ⟨S2x8192x2x8, .f32⟩
  | 77 => ⟨S2x8192x2x8, .f32⟩
  | 78 => ⟨S2x8192x2x8, .f32⟩
  | 79 => ⟨S2x8192x2x64, .f32⟩
  | 80 => ⟨S128, .i32⟩
  | 81 => ⟨S128x1, .i32⟩
  | 82 => ⟨S128x64, .i32⟩
  | 83 => ⟨S8192, .i32⟩
  | 84 => ⟨S8192x1, .i32⟩
  | 85 => ⟨S128, .i32⟩
  | 86 => ⟨S1x128, .i32⟩
  | 87 => ⟨S8192x128, .i32⟩
  | 88 => ⟨S8192x128, .i32⟩
  | 89 => ⟨S8192x128, .i1⟩
  | 90 => ⟨S_, .f32⟩
  | 91 => ⟨S_, .f32⟩
  | 92 => ⟨S8192x128, .f32⟩
  | 93 => ⟨S8192x128, .f32⟩
  | 94 => ⟨S8192x128, .f32⟩
  | 95 => ⟨S2x8192x2x128, .f32⟩
  | 96 => ⟨S2x2x8192x128, .f32⟩
  | 97 => ⟨S2x2x8192x128, .f32⟩
  | 98 => ⟨S2x2x8192x128, .f32⟩
  | 99 => ⟨S2x2x8192x256, .f32⟩
  | 100 => ⟨S16384x2x12, .f32⟩
  | 101 => ⟨S_, .i32⟩
  | 102 => ⟨S_, .f32⟩
  | 103 => ⟨S16384x2x128, .f32⟩
  | 104 => ⟨S16384x2x128, .f32⟩
  | 105 => ⟨S16384x2x128, .f32⟩
  | 106 => ⟨S_, .f32⟩
  | 107 => ⟨S16384x2x128, .f32⟩
  | 108 => ⟨S16384x2x128, .f32⟩
  | 109 => ⟨S_, .f32⟩
  | 110 => ⟨S16384x2x128, .f32⟩
  | 111 => ⟨S16384x2x128, .f32⟩
  | 112 => ⟨S2x8192x512, .f32⟩
  | 113 => ⟨S_, .i32⟩
  | 114 => ⟨S_, .f32⟩
  | 115 => ⟨S2x8194x512, .f32⟩
  | 116 => ⟨S1x512, .f32⟩
  | 117 => ⟨S512, .f32⟩
  | 118 => ⟨S2x8192x512, .f32⟩
  | 119 => ⟨S1x1x512, .f32⟩
  | 120 => ⟨S2x8192x512, .f32⟩
  | 121 => ⟨S2x8192x512, .f32⟩
  | 122 => ⟨S_, .f32⟩
  | 123 => ⟨S2x8192x512, .f32⟩
  | 124 => ⟨S2x8192x512, .f32⟩
  | 125 => ⟨S1x512, .f32⟩
  | 126 => ⟨S512, .f32⟩
  | 127 => ⟨S2x8192x512, .f32⟩
  | _ => ⟨S2x8192x1024, .f32⟩

abbrev hbmTy0_2 (i : Nat) : BufTy := match i % 128 with
  | 0 => ⟨S1x1x512, .f32⟩
  | 1 => ⟨S2x8192x512, .f32⟩
  | 2 => ⟨S2x8192x512, .f32⟩
  | 3 => ⟨S2x8192x512, .f32⟩
  | 4 => ⟨S1x512, .f32⟩
  | 5 => ⟨S512, .f32⟩
  | 6 => ⟨S2x8192x512, .f32⟩
  | 7 => ⟨S1x1x512, .f32⟩
  | 8 => ⟨S2x8192x512, .f32⟩
  | 9 => ⟨S2x8192x512, .f32⟩
  | 10 => ⟨S2x8192x512, .f32⟩
  | 11 => ⟨S2x8192x512, .f32⟩
  | 12 => ⟨S2x8192x512, .f32⟩
  | 13 => ⟨S_, .f32⟩
  | 14 => ⟨S2x8192, .f32⟩
  | 15 => ⟨S2x8192x1, .f32⟩
  | 16 => ⟨S_, .f32⟩
  | 17 => ⟨S2x8192x1, .f32⟩
  | 18 => ⟨S2x8192x1, .f32⟩
  | 19 => ⟨S_, .f32⟩
  | 20 => ⟨S2x8192x1, .f32⟩
  | 21 => ⟨S2x8192x1, .f32⟩
  | 22 => ⟨S2x8192x1, .f32⟩
  | 23 => ⟨S2x8192x512, .f32⟩
  | 24 => ⟨S2x8192x512, .f32⟩
  | 25 => ⟨S1x1x512, .f32⟩
  | 26 => ⟨S2x8192x512, .f32⟩
  | 27 => ⟨S2x8192x512, .f32⟩
  | 28 => ⟨S16384x512, .f32⟩
  | 29 => ⟨S16384x512, .bf16⟩
  | 30 => ⟨S16384x128, .f32⟩
  | 31 => ⟨S16384x128, .f32⟩
  | 32 => ⟨S2x2x8192x256, .bf16⟩
  | 33 => ⟨S2x8192x2x64, .f32⟩
  | 34 => ⟨S2x8192x2x128, .f32⟩
  | 35 => ⟨S2x2x8192x128, .f32⟩
  | 36 => ⟨S2x2x8192x128, .bf16⟩
  | 37 => ⟨S2x8192x2x128, .f32⟩
  | 38 => ⟨S2x2x8192x128, .f32⟩
  | 39 => ⟨S2x2x8192x128, .bf16⟩
  | 40 => ⟨S2x8192x2x64, .f32⟩
  | 41 => ⟨S2x8192x2x128, .f32⟩
  | 42 => ⟨S2x2x8192x128, .f32⟩
  | 43 => ⟨S2x2x8192x128, .bf16⟩
  | 44 => ⟨S16384x256, .f32⟩
  | 45 => ⟨S16384x512, .f32⟩
  | 46 => ⟨S16384x512, .bf16⟩
  | _ => ⟨S2x8192x1024, .f32⟩

abbrev hbmTy (i : Nat) : BufTy := match i / 128 with
  | 0 => hbmTy0_0 i
  | 1 => hbmTy0_1 i
  | 2 => hbmTy0_2 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_5 : Ref sig .tc := ⟨.hbm, 55, rfl⟩
abbrev main_v42 : Ref sig .tc := ⟨.hbm, 56, rfl⟩
abbrev main_v43 : Ref sig .tc := ⟨.hbm, 57, rfl⟩
abbrev main_cst_6 : Ref sig .tc := ⟨.hbm, 58, rfl⟩
abbrev main_v44 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_8 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_9 : Ref sig .tc := ⟨.hbm, 98, rfl⟩
abbrev main_v81 : Ref sig .tc := ⟨.hbm, 99, rfl⟩
abbrev main_v82 : Ref sig .tc := ⟨.hbm, 100, rfl⟩
abbrev main_cst_10 : Ref sig .tc := ⟨.hbm, 101, rfl⟩
abbrev main_v83 : Ref sig .tc := ⟨.hbm, 102, rfl⟩
abbrev main_v84 : Ref sig .tc := ⟨.hbm, 103, rfl⟩
abbrev main_cst_11 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_cst_12 : Ref sig .tc := ⟨.hbm, 115, rfl⟩
abbrev main_v95 : Ref sig .tc := ⟨.hbm, 116, rfl⟩
abbrev main_v96 : Ref sig .tc := ⟨.hbm, 117, rfl⟩
abbrev main_cst_13 : Ref sig .tc := ⟨.hbm, 118, rfl⟩
abbrev main_v97 : Ref sig .tc := ⟨.hbm, 119, rfl⟩
abbrev main_v98 : Ref sig .tc := ⟨.hbm, 120, rfl⟩
abbrev main_cst_14 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_cst_15 : Ref sig .tc := ⟨.hbm, 155, rfl⟩
abbrev main_v132 : Ref sig .tc := ⟨.hbm, 156, rfl⟩
abbrev main_v133 : Ref sig .tc := ⟨.hbm, 157, rfl⟩
abbrev main_cst_16 : Ref sig .tc := ⟨.hbm, 158, rfl⟩
abbrev main_v134 : Ref sig .tc := ⟨.hbm, 159, rfl⟩
abbrev main_v135 : Ref sig .tc := ⟨.hbm, 160, rfl⟩
abbrev main_cst_17 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_cst_18 : Ref sig .tc := ⟨.hbm, 172, rfl⟩
abbrev main_v146 : Ref sig .tc := ⟨.hbm, 173, rfl⟩
abbrev main_v147 : Ref sig .tc := ⟨.hbm, 174, rfl⟩
abbrev main_cst_19 : Ref sig .tc := ⟨.hbm, 175, rfl⟩
abbrev main_v148 : Ref sig .tc := ⟨.hbm, 176, rfl⟩
abbrev main_v149 : Ref sig .tc := ⟨.hbm, 177, rfl⟩
abbrev main_cst_20 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_cst_21 : Ref sig .tc := ⟨.hbm, 218, rfl⟩
abbrev main_cst_22 : Ref sig .tc := ⟨.hbm, 219, rfl⟩
abbrev main_call0_v0 : Ref sig .tc := ⟨.hbm, 220, rfl⟩
abbrev main_call0_v1 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_c : Ref sig .tc := ⟨.hbm, 229, rfl⟩
abbrev main_call1_v0 : Ref sig .tc := ⟨.hbm, 230, rfl⟩
abbrev main_v196 : Ref sig .tc := ⟨.hbm, 231, rfl⟩
abbrev main_v197 : Ref sig .tc := ⟨.hbm, 232, rfl⟩
abbrev main_v198 : Ref sig .tc := ⟨.hbm, 233, rfl⟩
abbrev main_cst_23 : Ref sig .tc := ⟨.hbm, 234, rfl⟩
abbrev main_v199 : Ref sig .tc := ⟨.hbm, 235, rfl⟩
abbrev main_v200 : Ref sig .tc := ⟨.hbm, 236, rfl⟩
abbrev main_cst_24 : Ref sig .tc := ⟨.hbm, 237, rfl⟩
abbrev main_v201 : Ref sig .tc := ⟨.hbm, 238, rfl⟩
abbrev main_v202 : Ref sig .tc := ⟨.hbm, 239, rfl⟩
abbrev main_v203 : Ref sig .tc := ⟨.hbm, 240, rfl⟩
abbrev main_c_25 : Ref sig .tc := ⟨.hbm, 241, rfl⟩
abbrev main_call2_v0 : Ref sig .tc := ⟨.hbm, 242, rfl⟩
abbrev main_v204 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_v209 : Ref sig .tc := ⟨.hbm, 248, rfl⟩
abbrev main_v210 : Ref sig .tc := ⟨.hbm, 249, rfl⟩
abbrev main_cst_26 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_cst_27 : Ref sig .tc := ⟨.hbm, 269, rfl⟩
abbrev main_v229 : Ref sig .tc := ⟨.hbm, 270, rfl⟩
abbrev main_v230 : Ref sig .tc := ⟨.hbm, 271, rfl⟩
abbrev main_cst_28 : Ref sig .tc := ⟨.hbm, 272, rfl⟩
abbrev main_v231 : Ref sig .tc := ⟨.hbm, 273, rfl⟩
abbrev main_v232 : Ref sig .tc := ⟨.hbm, 274, rfl⟩
abbrev main_cst_29 : Ref sig .tc := ⟨.hbm, 275, rfl⟩
abbrev main_v233 : Ref sig .tc := ⟨.hbm, 276, rfl⟩
abbrev main_v234 : Ref sig .tc := ⟨.hbm, 277, rfl⟩
abbrev main_v235 : Ref sig .tc := ⟨.hbm, 278, rfl⟩
abbrev main_v236 : Ref sig .tc := ⟨.hbm, 279, rfl⟩
abbrev main_v237 : Ref sig .tc := ⟨.hbm, 280, rfl⟩
abbrev main_v238 : Ref sig .tc := ⟨.hbm, 281, rfl⟩
abbrev main_v239 : Ref sig .tc := ⟨.hbm, 282, rfl⟩
abbrev main_v240 : Ref sig .tc := ⟨.hbm, 283, rfl⟩
abbrev main_v241 : Ref sig .tc := ⟨.hbm, 284, rfl⟩
abbrev main_v242 : Ref sig .tc := ⟨.hbm, 285, rfl⟩
abbrev main_v243 : Ref sig .tc := ⟨.hbm, 286, rfl⟩
abbrev main_v244 : Ref sig .tc := ⟨.hbm, 287, rfl⟩
abbrev main_v245 : Ref sig .tc := ⟨.hbm, 288, rfl⟩
abbrev main_v246 : Ref sig .tc := ⟨.hbm, 289, rfl⟩
abbrev main_v247 : Ref sig .tc := ⟨.hbm, 290, rfl⟩
abbrev main_v248 : Ref sig .tc := ⟨.hbm, 291, rfl⟩
abbrev main_v249 : Ref sig .tc := ⟨.hbm, 292, rfl⟩
abbrev main_v250 : Ref sig .tc := ⟨.hbm, 293, rfl⟩
abbrev main_v251 : Ref sig .tc := ⟨.hbm, 294, rfl⟩
abbrev main_v252 : Ref sig .tc := ⟨.hbm, 295, rfl⟩
abbrev main_v253 : Ref sig .tc := ⟨.hbm, 296, rfl⟩
abbrev main_v254 : Ref sig .tc := ⟨.hbm, 297, rfl⟩
abbrev main_v255 : Ref sig .tc := ⟨.hbm, 298, rfl⟩
abbrev main_v256 : Ref sig .tc := ⟨.hbm, 299, rfl⟩
abbrev main_v257 : Ref sig .tc := ⟨.hbm, 300, rfl⟩
abbrev main_v258 : Ref sig .tc := ⟨.hbm, 301, rfl⟩
abbrev main_v259 : Ref sig .tc := ⟨.hbm, 302, rfl⟩

abbrev nD : Nat := 1
abbrev τ : Topo := Topo.v7x

variable {F : FTy → Type} [FloatOps F]
-- ==== Proof.Post.Window.lean ====
module

public import proofs.«01_k».proof.Proof.Gen.Kernel2Ideal.Frame
public import proofs.«01_k».proof.Proof.Gen.Kernel2Ideal.Skeleton
public import Idealize.ShloMosaic.Lib.Claim
public import Idealize.ShloMosaic.Lib.VecWindow

/-!
The rows the body keeps between row tiles, as plain functions of arrays: a load reads a window of an array and a
store puts a payload over a window. The carried buffer holds eight rows of the previous tile in front of the 256 rows
of the current one, so a load one or two rows early reads the tile shifted down, its first rows from the carried ones.
-/

@[expose] public section

set_option maxRecDepth 16384

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

/-- The condition of the first branch: the point's column chunk is the first. -/
abbrev cond1 (i : grid0.Coords) : BitVec 1 :=
  Scalar.cmpi .ne (Scalar.extui (Scalar.cmpi .eq (BitVec.ofNat 32 (i 1).val) 0#32) : BitVec 32) 0#32

theorem off1_eq (i : grid0.Coords) : k0_off1 i = ![(i 1).val, 0, 0] :=
  (by decide : ∀ n : Fin 2, (![(Scalar.indexCast (BitVec.ofNat 32 n.val)).toNat, 0, 0] : Fin 3 → ℕ) = ![n.val, 0, 0]) (i 1)
theorem off2_eq (i : grid0.Coords) : k0_off2 i = ![(i 1).val, 8, 0] :=
  (by decide : ∀ n : Fin 2, (![(Scalar.indexCast (BitVec.ofNat 32 n.val)).toNat, 8, 0] : Fin 3 → ℕ) = ![n.val, 8, 0]) (i 1)
theorem off3_eq (i : grid0.Coords) : k0_off3 i = ![(i 1).val, 7, 0] :=
  (by decide : ∀ n : Fin 2, (![(Scalar.indexCast (BitVec.ofNat 32 n.val)).toNat, 7, 0] : Fin 3 → ℕ) = ![n.val, 7, 0]) (i 1)
theorem off4_eq (i : grid0.Coords) : k0_off4 i = ![(i 1).val, 6, 0] :=
  (by decide : ∀ n : Fin 2, (![(Scalar.indexCast (BitVec.ofNat 32 n.val)).toNat, 6, 0] : Fin 3 → ℕ) = ![n.val, 6, 0]) (i 1)
theorem off5_eq (i : grid0.Coords) : k0_off5 i = ![(i 1).val, 256, 0] :=
  (by decide : ∀ n : Fin 2, (![(Scalar.indexCast (BitVec.ofNat 32 n.val)).toNat, 256, 0] : Fin 3 → ℕ) = ![n.val, 256, 0]) (i 1)
theorem off6_eq (i : grid0.Coords) : k0_off6 i = ![(i 1).val, 0, 0] :=
  (by decide : ∀ n : Fin 2, (![(Scalar.indexCast (BitVec.ofNat 32 n.val)).toNat, 0, 0] : Fin 3 → ℕ) = ![n.val, 0, 0]) (i 1)

section Window

variable {α : Type}

/-- A window of the array's own sizes is the array. -/
theorem window_full {s : Shape} (x : s.Idx → α) (off : Fin s.rank → ℕ) (inb : ∀ a, off a + s.size a ≤ s.size a) :
    window x off s.size inb = x := by
  funext y
  exact congrArg x (Rect.emb_unit_full inb y)

/-- A payload of the array's own sizes replaces the array. -/
theorem put_full {s : Shape} (x : s.Idx → α) (off : Fin s.rank → ℕ) (inb : ∀ a, off a + s.size a ≤ s.size a) (w : s.Idx → α) :
    put x off s.size w = w := by
  have h := VecWindow.window_put_same x off s.size inb w
  rwa [window_full] at h

/-- The index of a carried row. -/
def rowIx (n : ℕ) (hn : n < 8) (k : Fin 1408) : S1x8x1408.Idx := fun a => match a with | 0 => (0 : Fin 1) | 1 => (⟨n, hn⟩ : Fin 8) | 2 => k
/-- The index of a row of the tile. -/
def tileIx (n : ℕ) (hn : n < 256) (k : Fin 1408) : S1x256x1408.Idx := fun a => match a with | 0 => (0 : Fin 1) | 1 => (⟨n, hn⟩ : Fin 256) | 2 => k

/-- The tile `w` shifted down by `k` rows, the first `k` rows being the last `k` of the eight rows `a`. -/
def shift (k : ℕ) (hk : k ≤ 8) (a : S1x8x1408.Idx → α) (w : S1x256x1408.Idx → α) : S1x256x1408.Idx → α := fun y =>
  if h : (y 1).val < k then a (rowIx (8 - k + (y 1).val) (by omega) (y 2))
  else w (tileIx ((y 1).val - k) (by have : (y 1).val < 256 := (y 1).isLt; omega) (y 2))

/-- The last eight rows of the tile. -/
def tail8 (w : S1x256x1408.Idx → α) : S1x8x1408.Idx → α := fun y =>
  w (tileIx (248 + (y 1).val) (by have : (y 1).val < 8 := (y 1).isLt; omega) (y 2))

variable (X : S2x264x1408.Idx → α) (w : S1x256x1408.Idx → α) (n : ℕ)

/-- A load `k` rows before the tile just stored reads the shifted tile. -/
theorem window_shift (k : ℕ) (hk : k ≤ 8) (b : ℕ) (hb : b + k = 8) (inb : ∀ a, (![n, b, 0] : Fin 3 → ℕ) a + S1x256x1408.size a ≤ S2x264x1408.size a)
    (inb0 : ∀ a, (![n, 0, 0] : Fin 3 → ℕ) a + S1x8x1408.size a ≤ S2x264x1408.size a) :
    window (put X ![n, 8, 0] S1x256x1408.size w) ![n, b, 0] S1x256x1408.size inb = shift k hk (window X ![n, 0, 0] S1x8x1408.size inb0) w := by
  funext y
  have h0 : (y 0).val < 1 := (y 0).isLt
  have h1 : (y 1).val < 256 := (y 1).isLt
  have h2 : (y 2).val < 1408 := (y 2).isLt
  unfold window put shift
  by_cases h : (y 1).val < k
  · rw [dif_pos h, dif_neg]
    · refine congrArg X (funext fun a => Fin.ext ?_)
      fin_cases a
      · show n + 1 * (y 0).val = n + 1 * 0
        omega
      · show b + 1 * (y 1).val = 0 + 1 * (8 - k + (y 1).val)
        omega
      · show 0 + 1 * (y 2).val = 0 + 1 * (y 2).val
        rfl
    · intro hall
      have := (hall 1).1
      have e : (8 : ℕ) ≤ b + 1 * (y 1).val := this
      omega
  · rw [dif_neg h, dif_pos]
    · refine congrArg w (funext fun a => Fin.ext ?_)
      fin_cases a
      · show n + 1 * (y 0).val - n = 0
        omega
      · show b + 1 * (y 1).val - 8 = (y 1).val - k
        omega
      · show 0 + 1 * (y 2).val - 0 = (y 2).val
        omega
    · intro a
      fin_cases a
      · show n ≤ n + 1 * (y 0).val ∧ n + 1 * (y 0).val < n + 1
        omega
      · show 8 ≤ b + 1 * (y 1).val ∧ b + 1 * (y 1).val < 8 + 256
        omega
      · show 0 ≤ 0 + 1 * (y 2).val ∧ 0 + 1 * (y 2).val < 0 + 1408
        omega

/-- A load of the last eight rows reads those of the tile just stored. -/
theorem window_tail (inb : ∀ a, (![n, 256, 0] : Fin 3 → ℕ) a + S1x8x1408.size a ≤ S2x264x1408.size a) :
    window (put X ![n, 8, 0] S1x256x1408.size w) ![n, 256, 0] S1x8x1408.size inb = tail8 w := by
  funext y
  have h0 : (y 0).val < 1 := (y 0).isLt
  have h1 : (y 1).val < 8 := (y 1).isLt
  have h2 : (y 2).val < 1408 := (y 2).isLt
  unfold window put tail8
  rw [dif_pos]
  · refine congrArg w (funext fun a => Fin.ext ?_)
    fin_cases a
    · show n + 1 * (y 0).val - n = 0
      omega
    · show 256 + 1 * (y 1).val - 8 = 248 + (y 1).val
      omega
    · show 0 + 1 * (y 2).val - 0 = (y 2).val
      omega
  · intro a
    fin_cases a
    · show n ≤ n + 1 * (y 0).val ∧ n + 1 * (y 0).val < n + 1
      omega
    · show 8 ≤ 256 + 1 * (y 1).val ∧ 256 + 1 * (y 1).val < 8 + 256
      omega
    · show 0 ≤ 0 + 1 * (y 2).val ∧ 0 + 1 * (y 2).val < 0 + 1408
      omega

end Window

section Read

variable {sig : RefSig} {κ : Kind} {sp : Space} {s : Shape} {e : EltTy} {Val : EltTy → Type}

/-- A load through a unit-stride rectangle reads a window. -/
theorem readAt_win (v : View sig κ sp s e) (f : v.ty.Contents Val) {off size : Fin s.rank → ℕ} (inb : ∀ a, off a + size a ≤ s.size a) :
    v.readAt Val (Rect.unit off size inb).toLoadRect f = window (v.read Val f) off size inb := rfl

/-- A store through a unit-stride rectangle puts its payload. -/
theorem read_put (v : View sig κ sp s e) (f : v.ty.Contents Val) {off size : Fin s.rank → ℕ} (inb : ∀ a, off a + size a ≤ s.size a)
    (w : (Rect.unit off size inb).shape.Idx → Val e) (L : List (View.Piece Val s e)) :
    v.read Val (v.writes Val f (⟨Rect.unit off size inb, w⟩ :: L)) = put (v.read Val (v.writes Val f L)) off size w :=
  View.read_writes_cons_put v f inb w L rfl

end Read

/-! ## What one grid point computes from what it loads -/

/-- The hidden row tile after the first residual sum. -/
def hOf (x0 : Vec F S256x1024 .f32) (x1 : Vec F S256x512 .f32) (x2 : Vec F S256x512 .bf16) (x4 : Vec F S1x512 .f32)
    (x5 : Vec F S1024x1024 .bf16) : Vec F S256x1024 .f32 := k0_pay3 x1 x4 x2 x0 x5
/-- The normalized hidden row tile. -/
def xnOf (x0 : Vec F S256x1024 .f32) (x1 : Vec F S256x512 .f32) (x2 : Vec F S256x512 .bf16) (x4 : Vec F S1x512 .f32)
    (x5 : Vec F S1024x1024 .bf16) (x6 : Vec F S1x1024 .f32) : Vec F S256x1024 .bf16 :=
  k0_pay6 (k0_pay2 x1 x4 x2 x0 x5) (k0_pay4 x6) (k0_pay5 x1 x4 x2 x0 x5)
/-- A row of the three convolution taps. -/
def tap (r : ℕ) (h : ∀ a, (![r, 0] : Fin 2 → ℕ) a + S1x1408.size a ≤ S3x1408.size a) (x9 : Vec F S3x1408 .f32) : Vec F S1x1408 .f32 :=
  window x9 ![r, 0] S1x1408.size h
/-- The accumulator after one column chunk: `a` are the carried rows of the gate, `s` the accumulator before. -/
def accOf (xn : Vec F S256x1024 .bf16) (x7 x8 : Vec F S1024x1408 .bf16) (x9 : Vec F S3x1408 .f32) (x10 : Vec F S1x1408 .f32)
    (x11 : Vec F S1408x1024 .bf16) (a : Vec F S1x8x1408 .f32) (s : Vec F S256x1024 .f32) : Vec F S256x1024 .f32 :=
  k0_pay14 (k0_pay10 xn x8) (k0_pay12 xn x7 (tap 2 inb_S3x1408_S1x1408_2_0 x9)) (tap 1 inb_S3x1408_S1x1408_1_0 x9)
    (shift 1 (by decide) a (k0_pay11 xn x7)) (tap 0 inb_S3x1408_S1x1408_0_0 x9) (shift 2 (by decide) a (k0_pay11 xn x7)) x10 s x11
/-- The rows carried to the next row tile. -/
def carryOf (xn : Vec F S256x1024 .bf16) (x7 : Vec F S1024x1408 .bf16) : Vec F S1x8x1408 .f32 := k0_pay13 (tail8 (k0_pay11 xn x7))
/-- The carried rows a point starts from: zero at the first row tile of a sequence. -/
def startOf (i : grid0.Coords) (g : Vec F S2x264x1408 .f32) : Vec F S2x264x1408 .f32 :=
  if k0_cond2 i = 1#1 then put g ![(i 1).val, 0, 0] S1x8x1408.size (k0_pay8 (F := F)) else g

theorem inb_carry (i : grid0.Coords) : ∀ a, (![(i 1).val, 0, 0] : Fin 3 → ℕ) a + S1x8x1408.size a ≤ S2x264x1408.size a := by
  have h : (i 1).val < 2 := (i 1).isLt
  intro a
  fin_cases a
  · show (i 1).val + 1 ≤ 2
    omega
  · show 0 + 8 ≤ 264
    omega
  · show 0 + 1408 ≤ 1408
    omega

/-- A window of the array's own sizes, the sizes written out. -/
theorem window_all {α : Type} {a b : ℕ} (x : (⟨2, ![a, b]⟩ : Shape).Idx → α)
    (inb : ∀ k, (![0, 0] : Fin 2 → ℕ) k + (![a, b] : Fin 2 → ℕ) k ≤ (⟨2, ![a, b]⟩ : Shape).size k) :
    window (s := ⟨2, ![a, b]⟩) x ![0, 0] ![a, b] inb = x := window_full x _ inb
/-- A payload of the array's own sizes, the sizes written out. -/
theorem put_all {α : Type} {a b : ℕ} (x : (⟨2, ![a, b]⟩ : Shape).Idx → α) (w : (⟨2, ![a, b]⟩ : Shape).Idx → α) :
    put (s := ⟨2, ![a, b]⟩) x ![0, 0] ![a, b] w = w :=
  put_full (s := ⟨2, ![a, b]⟩) x ![0, 0] (fun k => by fin_cases k <;> exact (Nat.zero_add _).le) w

section Off

variable {α : Type} (X : S2x264x1408.Idx → α) (w : S1x256x1408.Idx → α) (w8 : S1x8x1408.Idx → α) (i : grid0.Coords)

theorem window_off3 (inb : ∀ a, k0_off3 i a + (![1, 256, 1408] : Fin 3 → ℕ) a ≤ S2x264x1408.size a) :
    window (put X ![(i 1).val, 8, 0] ![1, 256, 1408] w) (k0_off3 i) ![1, 256, 1408] inb
      = shift 1 (by decide) (window X ![(i 1).val, 0, 0] ![1, 8, 1408] (inb_carry i)) w := by
  revert inb
  generalize hoff : k0_off3 i = off
  obtain rfl : off = ![(i 1).val, 7, 0] := hoff.symm.trans (off3_eq i)
  intro inb
  exact window_shift X w _ 1 _ 7 rfl _ _
theorem window_off4 (inb : ∀ a, k0_off4 i a + (![1, 256, 1408] : Fin 3 → ℕ) a ≤ S2x264x1408.size a) :
    window (put X ![(i 1).val, 8, 0] ![1, 256, 1408] w) (k0_off4 i) ![1, 256, 1408] inb
      = shift 2 (by decide) (window X ![(i 1).val, 0, 0] ![1, 8, 1408] (inb_carry i)) w := by
  revert inb
  generalize hoff : k0_off4 i = off
  obtain rfl : off = ![(i 1).val, 6, 0] := hoff.symm.trans (off4_eq i)
  intro inb
  exact window_shift X w _ 2 _ 6 rfl _ _
theorem window_off5 (inb : ∀ a, k0_off5 i a + (![1, 8, 1408] : Fin 3 → ℕ) a ≤ S2x264x1408.size a) :
    window (put X ![(i 1).val, 8, 0] ![1, 256, 1408] w) (k0_off5 i) ![1, 8, 1408] inb = tail8 w := by
  revert inb
  generalize hoff : k0_off5 i = off
  obtain rfl : off = ![(i 1).val, 256, 0] := hoff.symm.trans (off5_eq i)
  intro inb
  exact window_tail X w _ _
theorem window_start (inb : ∀ a, (![(i 1).val, 0, 0] : Fin 3 → ℕ) a + (![1, 8, 1408] : Fin 3 → ℕ) a ≤ S2x264x1408.size a) :
    window (put X ![(i 1).val, 0, 0] ![1, 8, 1408] w8) ![(i 1).val, 0, 0] ![1, 8, 1408] inb = w8 :=
  VecWindow.window_put_same X _ _ inb w8

end Off

/-- The carried buffer after a point. -/
def gbufOf (i : grid0.Coords) (xn : Vec F S256x1024 .bf16) (x7 : Vec F S1024x1408 .bf16) (g : Vec F S2x264x1408 .f32) : Vec F S2x264x1408 .f32 :=
  put (put (startOf i g) ![(i 1).val, 8, 0] S1x256x1408.size (k0_pay11 xn x7)) ![(i 1).val, 0, 0] S1x8x1408.size (carryOf xn x7)

end Cert.Post

end
-- ==== Proof.Post.Inv.lean ====
module

public import proofs.«01_k».proof.Proof.Gen.Kernel2Ideal.Frame
public import proofs.«01_k».proof.Proof.Gen.Kernel2Ideal.Skeleton
public import Idealize.ShloMosaic.Lib.Claim
public import Idealize.ShloMosaic.Lib.VecWindow
public import proofs.«01_k».proof.Proof.Post.Window

/-!
What the buffers kept between grid points hold, in closed form. Point `k` of the grid works at row tile `k / 2` and column
chunk `k % 2`; the even point of a tile computes the tile's rows, and the carried rows of a chunk come from two points before.
-/

@[expose] public section

set_option maxRecDepth 16384

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

variable (m : (ℓ : Loc nD τ sig) → Buf (Elt F) ℓ) (ρ : Dev nD → PrngReg)

/-- Point `k` of the grid. -/
def pt (k : ℕ) : Fin cfg0.N := ⟨k % cfg0.N, Nat.mod_lt _ (by decide)⟩

theorem pt_val (t : Fin cfg0.N) : pt t.val = t := Fin.ext (Nat.mod_eq_of_lt t.isLt)

theorem coord1 (t : Fin cfg0.N) : (grid0.coords t 1).val = t.val % 2 :=
  (by decide +kernel : ∀ t : Fin grid0.N, (grid0.coords t 1).val = t.val % 2) t
theorem cond1_iff (t : Fin cfg0.N) : cond1 (grid0.coords t) = 1#1 ↔ t.val % 2 = 0 :=
  (by decide +kernel : ∀ t : Fin grid0.N, cond1 (grid0.coords t) = 1#1 ↔ t.val % 2 = 0) t
theorem cond2_iff (t : Fin cfg0.N) : k0_cond2 (grid0.coords t) = 1#1 ↔ t.val / 2 % 32 = 0 :=
  (by decide +kernel : ∀ t : Fin grid0.N, k0_cond2 (grid0.coords t) = 1#1 ↔ t.val / 2 % 32 = 0) t
theorem cond3_iff (t : Fin cfg0.N) : k0_cond3 (grid0.coords t) = 1#1 ↔ t.val % 2 = 1 :=
  (by decide +kernel : ∀ t : Fin grid0.N, k0_cond3 (grid0.coords t) = 1#1 ↔ t.val % 2 = 1) t
theorem idle15 (t : Fin cfg0.N) : idle0 15 (grid0.coords t) = decide (t.val % 2 = 0) :=
  (by decide +kernel : ∀ t : Fin grid0.N, idle0 15 (grid0.coords t) = decide (t.val % 2 = 0)) t

/-- The residual rows of the tile of even point `k`, -/
def hT (c : Dev nD) (k : ℕ) : Vec F S256x1024 .f32 :=
  hOf (iblk m c 0 (pt k)) (iblk m c 1 (pt k)) (iblk m c 2 (pt k)) (iblk m c 4 (pt k)) (iblk m c 5 (pt k))
/-- and their normalized form. -/
def xnT (c : Dev nD) (k : ℕ) : Vec F S256x1024 .bf16 :=
  xnOf (iblk m c 0 (pt k)) (iblk m c 1 (pt k)) (iblk m c 2 (pt k)) (iblk m c 4 (pt k)) (iblk m c 5 (pt k)) (iblk m c 6 (pt k))
/-- The rows point `k` carries to point `k + 2`. -/
def carT (c : Dev nD) (k : ℕ) : Vec F S1x8x1408 .f32 := carryOf (xnT m c (k - k % 2)) (iblk m c 7 (pt k))
/-- The rows point `k` finds carried. -/
def staT (c : Dev nD) (k : ℕ) : Vec F S1x8x1408 .f32 := if k / 2 % 32 = 0 then k0_pay8 else carT m c (k - 2)
/-- The sum of the products after point `k`, from the sum `s` before. -/
def accT (c : Dev nD) (k : ℕ) (s : Vec F S256x1024 .f32) : Vec F S256x1024 .f32 :=
  accOf (xnT m c (k - k % 2)) (iblk m c 7 (pt k)) (iblk m c 8 (pt k)) (iblk m c 9 (pt k)) (iblk m c 10 (pt k)) (iblk m c 11 (pt k))
    (staT m c k) s
/-- The sum before point `k`. -/
def sumT (c : Dev nD) (k : ℕ) : Vec F S256x1024 .f32 := if k % 2 = 0 then k0_pay7 else accT m c (k - 1) k0_pay7
/-- The output rows odd point `k` writes. -/
def outT (c : Dev nD) (k : ℕ) : Vec F S256x1024 .f32 :=
  k0_pay1 (hT m c (k - k % 2)) (accT m c k (sumT m c k)) (iblk m c 12 (pt k)) (iblk m c 13 (pt k)) (iblk m c 3 (pt k)) (iblk m c 14 (pt k))

/-- What the four scratch buffers hold before point `n`. -/
structure Inv (c : Dev nD) (n : ℕ) (h : Vec F S256x1024 .f32) (xn : Vec F S256x1024 .bf16) (acc : Vec F S256x1024 .f32)
    (g : Vec F S2x264x1408 .f32) : Prop where
  rows : n % 2 = 1 → h = hT m c (n - 1) ∧ xn = xnT m c (n - 1) ∧ acc = accT m c (n - 1) k0_pay7
  carry : ∀ k j, n = k + 1 ∨ n = k + 2 → j = k % 2 → ∀ inb, window g ![j, 0, 0] ![1, 8, 1408] inb = carT m c k

theorem inv_zero (c : Dev nD) (h xn acc g) : Inv m c 0 h xn acc g where
  rows h := by omega
  carry k j h := by omega

variable {m}

section Step

variable {c : Dev nD} {t : Fin cfg0.N} {x16 x17 x18 x19}

theorem step_h (hI : Inv m c t.val x16 x17 x18 x19) :
    hT m c (t.val - t.val % 2) = if cond1 (grid0.coords t) = 1#1 then
      hOf (iblk m c 0 t) (iblk m c 1 t) (iblk m c 2 t) (iblk m c 4 t) (iblk m c 5 t) else x16 := by
  rcases Nat.mod_two_eq_zero_or_one t.val with e | e
  · rw [if_pos ((cond1_iff t).2 e), e, Nat.sub_zero, hT, pt_val]
  · rw [if_neg (fun h => by have := (cond1_iff t).1 h; omega), e, (hI.rows e).1]

theorem step_xn (hI : Inv m c t.val x16 x17 x18 x19) :
    xnT m c (t.val - t.val % 2) = if cond1 (grid0.coords t) = 1#1 then
      xnOf (iblk m c 0 t) (iblk m c 1 t) (iblk m c 2 t) (iblk m c 4 t) (iblk m c 5 t) (iblk m c 6 t) else x17 := by
  rcases Nat.mod_two_eq_zero_or_one t.val with e | e
  · rw [if_pos ((cond1_iff t).2 e), e, Nat.sub_zero, xnT, pt_val]
  · rw [if_neg (fun h => by have := (cond1_iff t).1 h; omega), e, (hI.rows e).2.1]

theorem step_sum (hI : Inv m c t.val x16 x17 x18 x19) :
    sumT m c t.val = if cond1 (grid0.coords t) = 1#1 then k0_pay7 else x18 := by
  rcases Nat.mod_two_eq_zero_or_one t.val with e | e
  · rw [if_pos ((cond1_iff t).2 e), sumT, if_pos e]
  · rw [if_neg (fun h => by have := (cond1_iff t).1 h; omega), (hI.rows e).2.2, sumT, if_neg (by omega)]

theorem step_start (hI : Inv m c t.val x16 x17 x18 x19) :
    window (startOf (grid0.coords t) x19) ![(grid0.coords t 1).val, 0, 0] S1x8x1408.size (inb_carry (grid0.coords t)) = staT m c t.val := by
  rw [startOf, staT]
  by_cases e : t.val / 2 % 32 = 0
  · rw [if_pos ((cond2_iff t).2 e), if_pos e]
    exact VecWindow.window_put_same _ _ _ _ _
  · rw [if_neg (fun h => e ((cond2_iff t).1 h)), if_neg e]
    exact hI.carry (t.val - 2) _ (Or.inr (by omega)) (by rw [coord1]; omega) _

theorem step_acc (hI : Inv m c t.val x16 x17 x18 x19) :
    accT m c t.val (sumT m c t.val) = accOf (xnT m c (t.val - t.val % 2)) (iblk m c 7 t) (iblk m c 8 t) (iblk m c 9 t) (iblk m c 10 t)
      (iblk m c 11 t) (window (startOf (grid0.coords t) x19) ![(grid0.coords t 1).val, 0, 0] S1x8x1408.size (inb_carry (grid0.coords t)))
      (if cond1 (grid0.coords t) = 1#1 then k0_pay7 else x18) := by
  rw [step_start hI, ← step_sum hI, accT, pt_val]

theorem step_inv (hI : Inv m c t.val x16 x17 x18 x19) :
    Inv m c (t.val + 1) (hT m c (t.val - t.val % 2)) (xnT m c (t.val - t.val % 2)) (accT m c t.val (sumT m c t.val))
      (gbufOf (grid0.coords t) (xnT m c (t.val - t.val % 2)) (iblk m c 7 t) x19) where
  rows h := by
    have e : t.val % 2 = 0 := by omega
    rw [e, Nat.sub_zero, Nat.add_sub_cancel, sumT, if_pos e]
    exact ⟨rfl, rfl, rfl⟩
  carry k j hk hj inb := by
    unfold gbufOf startOf
    have hc := coord1 t
    revert inb
    generalize (grid0.coords t 1).val = i at hc
    intro inb
    rcases hk with hk | hk
    · obtain rfl : k = t.val := by omega
      obtain rfl : i = j := by omega
      rw [carT, pt_val]
      exact VecWindow.window_put_same _ _ _ _ _
    · have ne : i ≠ j := by omega
      have a0 : ∀ s s' : ℕ, s = 1 → s' = 1 → j + s' ≤ i ∨ i + s ≤ j := by omega
      rw [VecWindow.window_put_of_disjoint _ _ _ _ _ inb _ 0 (a0 _ _ rfl rfl),
        VecWindow.window_put_of_disjoint _ _ _ _ _ inb _ 0 (a0 _ _ rfl rfl)]
      split_ifs
      · rw [VecWindow.window_put_of_disjoint _ _ _ _ _ inb _ 0 (a0 _ _ rfl rfl)]
        exact hI.carry k j (Or.inl (by omega)) hj inb
      · exact hI.carry k j (Or.inl (by omega)) hj inb

theorem step_out (hI : Inv m c t.val x16 x17 x18 x19) (e : t.val % 2 = 1) :
    outT m c t.val = k0_pay1 (hT m c (t.val - t.val % 2)) (accT m c t.val (sumT m c t.val)) (iblk m c 12 t) (iblk m c 13 t) (iblk m c 3 t)
      (iblk m c 14 t) := by
  rw [outT, pt_val]

end Step

end Cert.Post

end
-- ==== Proof.Post.Blocks.lean ====
module

public import proofs.«01_k».proof.Proof.Gen.Kernel2Ideal.Frame
public import proofs.«01_k».proof.Proof.Gen.Kernel2Ideal.Skeleton
public import Idealize.ShloMosaic.Lib.Claim
public import Idealize.ShloMosaic.Lib.VecWindow
public import proofs.«01_k».proof.Proof.Post.Inv
public import Idealize.ShloMosaic.Lib.ValueIdx
public import Idealize.ShloMosaic.Lib.Pointwise
public import Idealize.ShloMosaic.Lib.Pipeline.ValueKit
public import Idealize.ShloMosaic.Lib.Claim

/-!
The blocks the kernel reads, as elements of the launch arguments.
-/

@[expose] public section

set_option maxRecDepth 16384

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

variable (m : (ℓ : Loc nD τ sig) → Buf (Elt Ideal) ℓ) (c : Dev nD) (t : Fin cfg0.N)
theorem idx0 : ∀ t : Fin cfg0.N, win0_0.index t = ![t.val / 2, 0] := (by decide +kernel : ∀ t : Fin grid0.N, _)
theorem idx1 : ∀ t : Fin cfg0.N, win0_1.index t = ![t.val / 2, 0] := (by decide +kernel : ∀ t : Fin grid0.N, _)
theorem idx2 : ∀ t : Fin cfg0.N, win0_2.index t = ![t.val / 2, 0] := (by decide +kernel : ∀ t : Fin grid0.N, _)
theorem idx3 : ∀ t : Fin cfg0.N, win0_3.index t = ![t.val / 2, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, t.val % 2] := (by decide +kernel : ∀ t : Fin grid0.N, _)
theorem idx8 : ∀ t : Fin cfg0.N, win0_8.index t = ![0, 2 + t.val % 2] := (by decide +kernel : ∀ t : Fin grid0.N, _)
theorem idx9 : ∀ t : Fin cfg0.N, win0_9.index t = ![0, t.val % 2] := (by decide +kernel : ∀ t : Fin grid0.N, _)
theorem idx10 : ∀ t : Fin cfg0.N, win0_10.index t = ![0, t.val % 2] := (by decide +kernel : ∀ t : Fin grid0.N, _)
theorem idx11 : ∀ t : Fin cfg0.N, win0_11.index t = ![t.val % 2, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![t.val / 2, 0] := (by decide +kernel : ∀ t : Fin grid0.N, _)

/-- The sequence of row `q` of row tile `k / 2`, -/
def bq (k : ℕ) (q : Fin 256) : Fin 2 := ⟨(256 * (k / 2) + q.val) / 8192 % 2, Nat.mod_lt _ (by decide)⟩
/-- and its place in the sequence. -/
def sq (k : ℕ) (q : Fin 256) : Fin 8192 := ⟨(256 * (k / 2) + q.val) % 8192, Nat.mod_lt _ (by decide)⟩
/-- The row in the flattened array. -/
def rq (k : ℕ) (q : Fin 256) : Fin 16384 := ⟨(256 * (k / 2) + q.val) % 16384, Nat.mod_lt _ (by decide)⟩
/-- Column `l` of chunk `k % 2`. -/
def cq (k : ℕ) (l : Fin 1408) : Fin 2816 := ⟨1408 * (k % 2) + l.val, by have := Nat.mod_lt k (show 0 < 2 by decide); omega⟩

/-- A vector read as a row. -/
theorem one_512 (x : Vec Ideal S512 .f32) (n : Fin 512) : shapeCast S1x512 x shapeCasts_S512_S1x512 (ix2 0 n) = x (ix1 n) := by
  pointwise
/-- A vector read as a row. -/
theorem one_1024 (x : Vec Ideal S1024 .f32) (n : Fin 1024) : shapeCast S1x1024 x shapeCasts_S1024_S1x1024 (ix2 0 n) = x (ix1 n) := by
  pointwise
/-- A vector read as a row. -/
theorem one_2816 (x : Vec Ideal S2816 .f32) (n : Fin 2816) : shapeCast S1x2816 x shapeCasts_S2816_S1x2816 (ix2 0 n) = x (ix1 n) := by
  pointwise
/-- The flattened array read at a row of a tile. -/
theorem rows1024 (x : Vec Ideal S2x8192x1024 .f32) (k : ℕ) (q : Fin 256) (n : Fin 1024) :
    shapeCast S16384x1024 x shapeCasts_S2x8192x1024_S16384x1024 (ix2 (rq k q) n) = x (ix3 (bq k q) (sq k q) n) := by
  generalize hr : rq k q = r
  have hv : r.val = (256 * (k / 2) + q.val) % 16384 := by rw [← hr]; rfl
  pointwise
  refine congrArg x ((ix3_inj ..).2 ⟨Fin.ext ?_, Fin.ext ?_, rfl⟩)
  · show r.val / 8192 = (256 * (k / 2) + q.val) / 8192 % 2
    omega
  · show r.val % 8192 = (256 * (k / 2) + q.val) % 8192
    omega
/-- The flattened array read at a row of a tile. -/
theorem rows512 (x : Vec Ideal S2x8192x512 .f32) (k : ℕ) (q : Fin 256) (n : Fin 512) :
    shapeCast S16384x512 x shapeCasts_S2x8192x512_S16384x512 (ix2 (rq k q) n) = x (ix3 (bq k q) (sq k q) n) := by
  generalize hr : rq k q = r
  have hv : r.val = (256 * (k / 2) + q.val) % 16384 := by rw [← hr]; rfl
  pointwise
  refine congrArg x ((ix3_inj ..).2 ⟨Fin.ext ?_, Fin.ext ?_, rfl⟩)
  · show r.val / 8192 = (256 * (k / 2) + q.val) / 8192 % 2
    omega
  · show r.val % 8192 = (256 * (k / 2) + q.val) % 8192
    omega
/-- The flattened array read at a row of a tile. -/
theorem rows256 (x : Vec Ideal S2x8192x256 .f32) (k : ℕ) (q : Fin 256) (n : Fin 256) :
    shapeCast S16384x256 x shapeCasts_S2x8192x256_S16384x256 (ix2 (rq k q) n) = x (ix3 (bq k q) (sq k q) n) := by
  generalize hr : rq k q = r
  have hv : r.val = (256 * (k / 2) + q.val) % 16384 := by rw [← hr]; rfl
  pointwise
  refine congrArg x ((ix3_inj ..).2 ⟨Fin.ext ?_, Fin.ext ?_, rfl⟩)
  · show r.val / 8192 = (256 * (k / 2) + q.val) / 8192 % 2
    omega
  · show r.val % 8192 = (256 * (k / 2) + q.val) % 8192
    omega
theorem blk0 (q : Fin 256) (n : Fin 1024) : (iblk m c 0 t : Vec Ideal _ _) (ix2 q n) = m ((c : Thread nD τ).loc main_arg0) (ix3 (bq t.val q) (sq t.val q) n) := by
  have ht : t.val < 128 := t.isLt
  have e : (win0_0.blk t).view.emb (ix2 q n) = (ix2 (rq t.val q) n : S16384x1024.Idx) := by blk_ext [idx0 t, rq]
  unfold iblk
  entry_read
  show shapeCast S16384x1024 (m ((c : Thread nD τ).loc main_arg0)) _ ((win0_0.blk t).view.emb (ix2 q n)) = _
  rw [e]
  exact rows1024 _ _ _ _
theorem blk1 (q : Fin 256) (n : Fin 512) : (iblk m c 1 t : Vec Ideal _ _) (ix2 q n) = m ((c : Thread nD τ).loc main_arg1) (ix3 (bq t.val q) (sq t.val q) n) := by
  have ht : t.val < 128 := t.isLt
  have e : (win0_1.blk t).view.emb (ix2 q n) = (ix2 (rq t.val q) n : S16384x512.Idx) := by blk_ext [idx1 t, rq]
  unfold iblk
  entry_read
  show shapeCast S16384x512 (m ((c : Thread nD τ).loc main_arg1)) _ ((win0_1.blk t).view.emb (ix2 q n)) = _
  rw [e]
  exact rows512 _ _ _ _
theorem blk2 (q : Fin 256) (n : Fin 512) : (iblk m c 2 t : Vec Ideal _ _) (ix2 q n) = m ((c : Thread nD τ).loc main_arg2) (ix2 (rq t.val q) n) := by
  have ht : t.val < 128 := t.isLt
  unfold iblk
  entry_read
  blk_ext [idx2 t, rq]
theorem blk3 (q : Fin 256) (n : Fin 256) : (iblk m c 3 t : Vec Ideal _ _) (ix2 q n) = m ((c : Thread nD τ).loc main_arg3) (ix3 (bq t.val q) (sq t.val q) n) := by
  have ht : t.val < 128 := t.isLt
  have e : (win0_3.blk t).view.emb (ix2 q n) = (ix2 (rq t.val q) n : S16384x256.Idx) := by blk_ext [idx3 t, rq]
  unfold iblk
  entry_read
  show shapeCast S16384x256 (m ((c : Thread nD τ).loc main_arg3)) _ ((win0_3.blk t).view.emb (ix2 q n)) = _
  rw [e]
  exact rows256 _ _ _ _
theorem blk4 (n : Fin 512) : (iblk m c 4 t : Vec Ideal _ _) (ix2 0 n) = m ((c : Thread nD τ).loc main_arg4) (ix1 n) := by
  have ht : t.val < 128 := t.isLt
  have e : (win0_4.blk t).view.emb (ix2 0 n) = (ix2 0 n : S1x512.Idx) := by blk_ext [idx4 t]
  unfold iblk
  entry_read
  show shapeCast S1x512 (m ((c : Thread nD τ).loc main_arg4)) _ ((win0_4.blk t).view.emb (ix2 0 n)) = _
  rw [e]
  exact one_512 _ _
theorem blk5 (k n : Fin 1024) : (iblk m c 5 t : Vec Ideal _ _) (ix2 k n) = m ((c : Thread nD τ).loc main_arg5) (ix2 k n) := by
  have ht : t.val < 128 := t.isLt
  unfold iblk
  entry_read
  blk_ext [idx5 t]
theorem blk6 (n : Fin 1024) : (iblk m c 6 t : Vec Ideal _ _) (ix2 0 n) = m ((c : Thread nD τ).loc main_arg6) (ix1 n) := by
  have ht : t.val < 128 := t.isLt
  have e : (win0_6.blk t).view.emb (ix2 0 n) = (ix2 0 n : S1x1024.Idx) := by blk_ext [idx6 t]
  unfold iblk
  entry_read
  show shapeCast S1x1024 (m ((c : Thread nD τ).loc main_arg6)) _ ((win0_6.blk t).view.emb (ix2 0 n)) = _
  rw [e]
  exact one_1024 _ _
theorem blk7 (k : Fin 1024) (l : Fin 1408) : (iblk m c 7 t : Vec Ideal _ _) (ix2 k l) = m ((c : Thread nD τ).loc main_arg7) (ix2 k ⟨(cq t.val l).val, by omega⟩) := by
  have ht : t.val < 128 := t.isLt
  unfold iblk
  entry_read
  blk_ext [idx7 t, cq]
theorem blk8 (k : Fin 1024) (l : Fin 1408) : (iblk m c 8 t : Vec Ideal _ _) (ix2 k l) = m ((c : Thread nD τ).loc main_arg7) (ix2 k ⟨2816 + (cq t.val l).val, by omega⟩) := by
  have ht : t.val < 128 := t.isLt
  unfold iblk
  entry_read
  blk_ext [idx8 t, cq]
theorem blk9 (k : Fin 3) (l : Fin 1408) : (iblk m c 9 t : Vec Ideal _ _) (ix2 k l) = m ((c : Thread nD τ).loc main_arg8) (ix2 k (cq t.val l)) := by
  have ht : t.val < 128 := t.isLt
  unfold iblk
  entry_read
  blk_ext [idx9 t, cq]
theorem blk10 (l : Fin 1408) : (iblk m c 10 t : Vec Ideal _ _) (ix2 0 l) = m ((c : Thread nD τ).loc main_arg9) (ix1 (cq t.val l)) := by
  have ht : t.val < 128 := t.isLt
  have e : (win0_10.blk t).view.emb (ix2 0 l) = (ix2 0 (cq t.val l) : S1x2816.Idx) := by blk_ext [idx10 t, cq]
  unfold iblk
  entry_read
  show shapeCast S1x2816 (m ((c : Thread nD τ).loc main_arg9)) _ ((win0_10.blk t).view.emb (ix2 0 l)) = _
  rw [e]
  exact one_2816 _ _
theorem blk11 (l : Fin 1408) (n : Fin 1024) : (iblk m c 11 t : Vec Ideal _ _) (ix2 l n) = m ((c : Thread nD τ).loc main_arg10) (ix2 (cq t.val l) n) := by
  have ht : t.val < 128 := t.isLt
  unfold iblk
  entry_read
  blk_ext [idx11 t, cq]
theorem blk12 (n : Fin 1024) : (iblk m c 12 t : Vec Ideal _ _) (ix2 0 n) = m ((c : Thread nD τ).loc main_arg11) (ix1 n) := by
  have ht : t.val < 128 := t.isLt
  have e : (win0_12.blk t).view.emb (ix2 0 n) = (ix2 0 n : S1x1024.Idx) := by blk_ext [idx12 t]
  unfold iblk
  entry_read
  show shapeCast S1x1024 (m ((c : Thread nD τ).loc main_arg11)) _ ((win0_12.blk t).view.emb (ix2 0 n)) = _
  rw [e]
  exact one_1024 _ _
theorem blk13 (k n : Fin 1024) : (iblk m c 13 t : Vec Ideal _ _) (ix2 k n) = m ((c : Thread nD τ).loc main_arg12) (ix2 k n) := by
  have ht : t.val < 128 := t.isLt
  unfold iblk
  entry_read
  blk_ext [idx13 t]
theorem blk14 (k : Fin 256) (n : Fin 1024) : (iblk m c 14 t : Vec Ideal _ _) (ix2 k n) = m ((c : Thread nD τ).loc main_arg13) (ix2 k n) := by
  have ht : t.val < 128 := t.isLt
  unfold iblk
  entry_read
  blk_ext [idx14 t]

end Cert.Post

end
-- ==== Proof.Post.Spec.lean ====
module

public import Idealize.ShloMosaic.Lib.ValueIdx
public import Idealize.ShloMosaic.Lib.Pointwise

@[expose] public section

set_option maxRecDepth 16384

/-! # The arithmetic of one row, shared by the two programs. -/

noncomputable section

namespace Cert.Post

open Idealize.ShloMosaic

/-- One element of a row `f` divided by its root mean square over `N` elements and scaled by the gain `g`. -/
def normed (N : EReal) {d : ℕ} (f g : Fin d → EReal) (l : Fin d) : EReal :=
  f l * Ideal.rsqrt (Ideal.div (∑ x, f x * f x) N + Ideal.ofBits .f32 0x358637BD#32) * g l

/-- One element of the hidden row: the residual plus the product of the joined branches with a column of the weight. -/
def hiddenAt (r : EReal) (o g c : Fin 512 → EReal) (w : Fin 1024 → EReal) : EReal :=
  r + ((∑ x : Fin 512, normed (Ideal.ofBits .f32 0x44000000#32) o g x * w ⟨x.val, by omega⟩) + ∑ x : Fin 512, c x * w ⟨512 + x.val, by omega⟩)

/-- The gate of one column after the three taps: `g0` is its own row, `g1` and `g2` the one and two rows before. -/
def tapped (w : Fin 3 → EReal) (g0 g1 g2 bias : EReal) : EReal := w 2 * g0 + w 1 * g1 + w 0 * g2 + bias

/-- The gate through its smooth step, times the other half. -/
def gated (z u : EReal) : EReal := z * Ideal.logistic z * u

/-- One element of the output row from the row `f` after the two residuals. -/
def lastAt (f g : Fin 1024 → EReal) (w : Fin 1024 → EReal) (p v : Fin 256 → EReal) (n : Fin 1024) : EReal :=
  f n + Ideal.logistic (∑ x, normed (Ideal.ofBits .f32 0x44800000#32) f g x * w x) * ∑ x, p x * v x

end Cert.Post
-- ==== Proof.Post.KernRows.lean ====
module

public import proofs.«01_k».proof.Proof.Gen.Kernel2Ideal.Frame
public import proofs.«01_k».proof.Proof.Gen.Kernel2Ideal.Skeleton
public import Idealize.ShloMosaic.Lib.Claim
public import Idealize.ShloMosaic.Lib.VecWindow
public import proofs.«01_k».proof.Proof.Post.Window
public import proofs.«01_k».proof.Proof.Post.Spec

/-!
The kernel's payloads, one element at a time.
-/

@[expose] public section

set_option maxRecDepth 16384

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

variable (x0 : Vec Ideal S256x1024 .f32) (x1 : Vec Ideal S256x512 .f32) (x2 : Vec Ideal S256x512 .bf16) (x3 : Vec Ideal S256x256 .f32)
  (x4 : Vec Ideal S1x512 .f32) (x5 : Vec Ideal S1024x1024 .bf16) (x6 : Vec Ideal S1x1024 .f32) (x7 x8 : Vec Ideal S1024x1408 .bf16)
  (x9 : Vec Ideal S3x1408 .f32) (x10 : Vec Ideal S1x1408 .f32) (x11 : Vec Ideal S1408x1024 .bf16) (x12 : Vec Ideal S1x1024 .f32)
  (x13 : Vec Ideal S1024x1024 .bf16) (x14 : Vec Ideal S256x1024 .bf16) (xn : Vec Ideal S256x1024 .bf16) (a : Vec Ideal S1x8x1408 .f32)
  (w : Vec Ideal S1x256x1408 .f32) (h s : Vec Ideal S256x1024 .f32) (q : Fin 256)

theorem h_apply (n : Fin 1024) : hOf (F := Ideal) x0 x1 x2 x4 x5 (ix2 q n) = hiddenAt (x0 (ix2 q n)) (fun k => x1 (ix2 q k)) (fun k => x4 (ix2 0 k))
    (fun k => x2 (ix2 q k)) (fun k => x5 (ix2 k n)) := by
  pointwise [hOf, k0_pay3, k0_pay2]
  rfl

theorem xn_apply (n : Fin 1024) : xnOf (F := Ideal) x0 x1 x2 x4 x5 x6 (ix2 q n) =
    normed (Ideal.ofBits .f32 0x44800000#32) (fun k => hOf (F := Ideal) x0 x1 x2 x4 x5 (ix2 q k)) (fun k => x6 (ix2 0 k)) n := by
  have e : ∀ k, k0_pay2 (F := Ideal) x1 x4 x2 x0 x5 (ix2 q k) = hOf (F := Ideal) x0 x1 x2 x4 x5 (ix2 q k) := fun k => by
    pointwise [hOf, k0_pay3]
  unfold xnOf
  pointwise [k0_pay4, k0_pay5, k0_pay6]
  simp only [e]
  rfl

theorem tap_apply (r : ℕ) (hr : r < 3) (hb : ∀ a, (![r, 0] : Fin 2 → ℕ) a + S1x1408.size a ≤ S3x1408.size a) (l : Fin 1408) :
    tap (F := Ideal) r hb x9 (ix2 0 l) = x9 (ix2 ⟨r, hr⟩ l) := by
  unfold tap window
  refine congrArg x9 (funext fun a => Fin.ext ?_)
  fin_cases a
  · show r + 1 * 0 = r
    omega
  · show 0 + 1 * l.val = l.val
    omega

theorem gate_apply (l : Fin 1408) : k0_pay9 (F := Ideal) xn x7 (ix2 q l) = ∑ k : Fin 1024, xn (ix2 q k) * x7 (ix2 k l) := by
  pointwise [k0_pay9]

theorem up_apply (l : Fin 1408) : k0_pay10 (F := Ideal) xn x8 (ix2 q l) = ∑ k : Fin 1024, xn (ix2 q k) * x8 (ix2 k l) := by
  pointwise [k0_pay10]

theorem tile_apply (l : Fin 1408) : k0_pay11 (F := Ideal) xn x7 (ix3 0 q l) = k0_pay9 (F := Ideal) xn x7 (ix2 q l) := by
  pointwise [k0_pay11]

theorem carry_apply (e : Fin 8) (l : Fin 1408) : carryOf (F := Ideal) xn x7 (ix3 0 e l) = k0_pay9 (F := Ideal) xn x7 (ix2 ⟨248 + e.val, by omega⟩ l) := by
  unfold carryOf
  pointwise [k0_pay13]
  refine Eq.trans ?_ (tile_apply x7 xn ⟨248 + e.val, by omega⟩ l)
  unfold tail8
  refine congrArg _ (funext fun x => ?_)
  fin_cases x <;> rfl

theorem shift_apply (k : ℕ) (hk : k ≤ 8) (l : Fin 1408) :
   shift k hk a w (ix3 0 q l) = if h : q.val < k then a (ix3 0 ⟨8 - k + q.val, by omega⟩ l) else w (ix3 0 ⟨q.val - k, by omega⟩ l) := by
  unfold shift
  by_cases h : q.val < k
  · rw [dif_pos h]
    refine (dif_pos h).trans (congrArg a ?_)
    funext x; fin_cases x <;> rfl
  · rw [dif_neg h]
    refine (dif_neg h).trans (congrArg w ?_)
    funext x; fin_cases x <;> rfl

/-- The accumulator, over the gate's own rows and the two rows before. -/
theorem acc_apply (n : Fin 1024) : accOf (F := Ideal) xn x7 x8 x9 x10 x11 a s (ix2 q n) = s (ix2 q n) + ∑ l : Fin 1408,
    gated (tapped (fun r => x9 (ix2 r l)) (k0_pay9 (F := Ideal) xn x7 (ix2 q l)) (shift 1 (by decide) a (k0_pay11 (F := Ideal) xn x7) (ix3 0 q l))
      (shift 2 (by decide) a (k0_pay11 (F := Ideal) xn x7) (ix3 0 q l)) (x10 (ix2 0 l))) (k0_pay10 (F := Ideal) xn x8 (ix2 q l)) * x11 (ix2 l n) := by
  unfold accOf
  pointwise [k0_pay14, k0_pay12]
  simp only [tap_apply x9 2 (by decide), tap_apply x9 1 (by decide), tap_apply x9 0 (by decide)]
  rfl

theorem out_apply (n : Fin 1024) : k0_pay1 (F := Ideal) h s x12 x13 x3 x14 (ix2 q n) =
    lastAt (fun k => h (ix2 q k) + s (ix2 q k)) (fun k => x12 (ix2 0 k)) (fun k => x13 (ix2 k n)) (fun k => x3 (ix2 q k)) (fun k => x14 (ix2 k n)) n := by
  pointwise [k0_pay1]
  rfl

theorem zero7 (n : Fin 1024) : k0_pay7 (F := Ideal) (ix2 q n) = 0 := by
  pointwise [k0_pay7]
theorem zero8 (e : Fin 8) (l : Fin 1408) : k0_pay8 (F := Ideal) (ix3 0 e l) = 0 := by
  pointwise [k0_pay8]

end Cert.Post

end
-- ==== Proof.Post.RefRows.lean ====
module

public import proofs.«01_k».proof.Proof.Gen.Reference2Ideal.Read
public import proofs.«01_k».proof.Proof.Post.Spec

@[expose] public section

set_option maxRecDepth 16384

/-! # The reference's stages, one element at a time. -/

noncomputable section

namespace Cert.Post

open Idealize.ShloMosaic

open Cert.Reference2Ideal Cert.Reference2Ideal.Gen Cert.Reference2Ideal.Read Idealize.ShloMosaic.TcCoe Idealize.SL.Sem Idealize.ShloMosaic.StableHlo

variable (x0 : Vec Ideal S2x8192x1024 .f32) (x1 : Vec Ideal S2x8192x512 .f32) (x2 : Vec Ideal S16384x512 .bf16) (x3 : Vec Ideal S2x8192x256 .f32)
  (x4 : Vec Ideal S512 .f32) (x5 : Vec Ideal S1024x1024 .f32) (x6 : Vec Ideal S1024 .f32) (x7 : Vec Ideal S1024x5632 .f32) (x8 : Vec Ideal S3x2816 .f32)
  (x9 : Vec Ideal S2816 .f32) (x10 : Vec Ideal S2816x1024 .f32) (x11 : Vec Ideal S1024 .f32) (x12 : Vec Ideal S1024x1024 .f32) (x13 : Vec Ideal S256x1024 .f32)
  (b : Fin 2) (s : Fin 8192)

theorem ref_h (n : Fin 1024) : val_main_v17 (F := Ideal) x0 x1 x2 x4 x5 (ix3 b s n) = hiddenAt (x0 (ix3 b s n)) (fun k => x1 (ix3 b s k)) (fun k => x4 (ix1 k))
    (fun k => x2 (ix2 ⟨b.val * 8192 + s.val, by omega⟩ k)) (fun k => x5 (ix2 k n)) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst, val_main_cst_0, val_main_cst_1]
  rfl

theorem ref_xn (n : Fin 1024) : val_main_v30 (F := Ideal) x0 x1 x2 x4 x5 x6 (ix3 b s n) = normed (Ideal.ofBits .f32 0x44800000#32) (fun k => val_main_v17 (F := Ideal) x0 x1 x2 x4 x5 (ix3 b s k)) (fun k => x6 (ix1 k)) n := by
  pointwise [val_main_v18, val_main_v19, val_main_v20, val_main_v21, val_main_v22, val_main_v23, val_main_v24, val_main_v25, val_main_v26, val_main_v27, val_main_v28, val_main_v29, val_main_v30, val_main_cst_2, val_main_cst_3, val_main_cst_4]
  rfl

theorem ref_gate (n : Fin 2816) : val_main_v32 (F := Ideal) x0 x1 x2 x4 x5 x6 x7 (ix3 b s n) = ∑ k : Fin 1024, val_main_v30 (F := Ideal) x0 x1 x2 x4 x5 x6 (ix3 b s k) * x7 (ix2 k ⟨n.val, by omega⟩) := by
  pointwise [val_main_v31, val_main_v32]

theorem ref_up (n : Fin 2816) : val_main_v33 (F := Ideal) x0 x1 x2 x4 x5 x6 x7 (ix3 b s n) = ∑ k : Fin 1024, val_main_v30 (F := Ideal) x0 x1 x2 x4 x5 x6 (ix3 b s k) * x7 (ix2 k ⟨2816 + n.val, by omega⟩) := by
  pointwise [val_main_v31, val_main_v33]

/-- The gate `d` rows before row `s` of the sequence, zero before its first row. -/
def before (d : ℕ) (n : Fin 2816) (g : S2x8192x2816.Idx → EReal) : EReal := if h : d ≤ s.val then g (ix3 b ⟨s.val - d, by omega⟩ n) else 0

theorem ref_act (n : Fin 2816) : val_main_v61 (F := Ideal) x0 x1 x2 x4 x5 x6 x7 x8 x9 (ix3 b s n) = gated (tapped (fun r => x8 (ix2 r n)) (val_main_v32 (F := Ideal) x0 x1 x2 x4 x5 x6 x7 (ix3 b s n)) (before b s 1 n (val_main_v32 (F := Ideal) x0 x1 x2 x4 x5 x6 x7)) (before b s 2 n (val_main_v32 (F := Ideal) x0 x1 x2 x4 x5 x6 x7)) (x9 (ix1 n))) (val_main_v33 (F := Ideal) x0 x1 x2 x4 x5 x6 x7 (ix3 b s n)) := by
  pointwise [val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_cst_5, val_main_call0_v0, val_main_c, val_main_call1_v0, val_main_call1_v1, val_main_call1_v2, val_main_call1_v3, val_main_call1_v4, val_main_call1_v5, val_main_call1_cst, val_main_call1_cst_0]
  have z : (FloatOps.sitofp FTy.f32 0#32 : Ideal .f32) = (0 : EReal) := by
    show (((0#32 : BitVec 32).toInt : ℝ) : EReal) = 0
    simp
  have e2 : (if h : 2 ≤ s.val ∧ s.val - 2 < 8192 then val_main_v32 (F := Ideal) x0 x1 x2 x4 x5 x6 x7 (ix3 b ⟨s.val - 2, h.2⟩ n) else (FloatOps.sitofp (F := Ideal) FTy.f32 0#32)) = before b s 2 n (val_main_v32 (F := Ideal) x0 x1 x2 x4 x5 x6 x7) := by
    unfold before
    by_cases h : 2 ≤ s.val
    · rw [dif_pos ⟨h, by omega⟩, dif_pos h]
    · rw [dif_neg (fun k => h k.1), dif_neg h, z]
  have e1 : (if h : 2 ≤ 1 + s.val ∧ 1 + s.val - 2 < 8192 then val_main_v32 (F := Ideal) x0 x1 x2 x4 x5 x6 x7 (ix3 b ⟨1 + s.val - 2, h.2⟩ n) else (FloatOps.sitofp (F := Ideal) FTy.f32 0#32)) = before b s 1 n (val_main_v32 (F := Ideal) x0 x1 x2 x4 x5 x6 x7) := by
    unfold before
    by_cases h : 1 ≤ s.val
    · rw [dif_pos ⟨by omega, by omega⟩, dif_pos h]
      exact congrArg _ ((ix3_inj ..).2 ⟨rfl, Fin.ext (by show 1 + s.val - 2 = s.val - 1; omega), rfl⟩)
    · rw [dif_neg (fun k => h (by omega)), dif_neg h, z]
  rw [e1, e2]
  have c : ∀ u v w z : EReal, u + v + w + z = w + v + u + z := fun u v w z => by rw [add_comm (u + v) w, add_comm u v, ← add_assoc]
  rw [c]
  rfl

theorem ref_sum (n : Fin 1024) : val_main_v63 (F := Ideal) x0 x1 x2 x4 x5 x6 x7 x8 x9 x10 (ix3 b s n) = val_main_v17 (F := Ideal) x0 x1 x2 x4 x5 (ix3 b s n) + ∑ l : Fin 2816, val_main_v61 (F := Ideal) x0 x1 x2 x4 x5 x6 x7 x8 x9 (ix3 b s l) * x10 (ix2 l n) := by
  pointwise [val_main_v62, val_main_v63]

theorem ref_out (n : Fin 1024) : val_main_v86 (F := Ideal) x0 x1 x2 x3 x4 x5 x6 x7 x8 x9 x10 x11 x12 x13 (ix3 b s n) = lastAt (fun k => val_main_v63 (F := Ideal) x0 x1 x2 x4 x5 x6 x7 x8 x9 x10 (ix3 b s k)) (fun k => x11 (ix1 k)) (fun k => x12 (ix2 k n)) (fun k => x3 (ix3 b s k)) (fun k => x13 (ix2 k n)) n := by
  pointwise [val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_cst_6, val_main_cst_7, val_main_cst_8, val_main_cst_9, val_main_cst_10]
  rfl

theorem ref_flat (r : Fin 16384) (n : Fin 1024) : val_main_v87 (F := Ideal) x0 x1 x2 x3 x4 x5 x6 x7 x8 x9 x10 x11 x12 x13 (ix2 r n) = val_main_v86 (F := Ideal) x0 x1 x2 x3 x4 x5 x6 x7 x8 x9 x10 x11 x12 x13 (ix3 ⟨r.val / 8192, by omega⟩ ⟨r.val % 8192, by omega⟩ n) := by
  pointwise [val_main_v87]

end Cert.Post
-- ==== Proof.Post.Rows.lean ====
module

public import proofs.«01_k».proof.Proof.Gen.Kernel2Ideal.Frame
public import proofs.«01_k».proof.Proof.Gen.Kernel2Ideal.Skeleton
public import Idealize.ShloMosaic.Lib.Claim
public import Idealize.ShloMosaic.Lib.VecWindow
public import proofs.«01_k».proof.Proof.Post.Blocks
public import proofs.«01_k».proof.Proof.Post.KernRows
public import proofs.«01_k».proof.Proof.Post.RefRows

/-!
The kernel's rows are the reference's rows.
-/

@[expose] public section

set_option maxRecDepth 16384

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

variable (m : (ℓ : Loc nD τ sig) → Buf (Elt Ideal) ℓ) (c : Dev nD) (t : Fin cfg0.N)

theorem hidden_congr {r r' : EReal} {o o' g g' e e' : Fin 512 → EReal} {w w' : Fin 1024 → EReal} (h1 : r = r') (h2 : o = o') (h3 : g = g') (h4 : e = e')
    (h5 : w = w') : hiddenAt r o g e w = hiddenAt r' o' g' e' w' := by rw [h1, h2, h3, h4, h5]
theorem normed_congr {N : EReal} {f f' g g' : Fin 1024 → EReal} (h1 : f = f') (h2 : g = g') (n : Fin 1024) : normed N f g n = normed N f' g' n := by rw [h1, h2]
theorem gated_congr {w w' : Fin 3 → EReal} {g0 g0' g1 g1' g2 g2' b b' u u' : EReal} (h1 : w = w') (h2 : g0 = g0') (h3 : g1 = g1') (h4 : g2 = g2') (h5 : b = b')
    (h6 : u = u') : gated (tapped w g0 g1 g2 b) u = gated (tapped w' g0' g1' g2' b') u' := by rw [h1, h2, h3, h4, h5, h6]
theorem last_congr {f f' g g' w w' : Fin 1024 → EReal} {p p' v v' : Fin 256 → EReal} (h1 : f = f') (h2 : g = g') (h3 : w = w') (h4 : p = p') (h5 : v = v')
    (n : Fin 1024) : lastAt f g w p v n = lastAt f' g' w' p' v' n := by rw [h1, h2, h3, h4, h5]

theorem half_even (k : ℕ) : (k - k % 2) / 2 = k / 2 := by omega
theorem bq_even (k : ℕ) (q : Fin 256) : bq (k - k % 2) q = bq k q := by unfold bq; simp only [half_even]
theorem sq_even (k : ℕ) (q : Fin 256) : sq (k - k % 2) q = sq k q := by unfold sq; simp only [half_even]

/-- The even point of the row tile. -/
def ev : Fin cfg0.N := ⟨t.val - t.val % 2, by have h : t.val < 128 := t.isLt; show _ < 128; omega⟩

/-- The reference's hidden rows, -/
def hA : S2x8192x1024.Idx → EReal := Cert.Reference2Ideal.Read.val_main_v17 (F := Ideal) (m ((c : Thread nD τ).loc main_arg0)) (m ((c : Thread nD τ).loc main_arg1)) (m ((c : Thread nD τ).loc main_arg2)) (m ((c : Thread nD τ).loc main_arg4)) (m ((c : Thread nD τ).loc main_arg5))
/-- their normalized form, -/
def nA : S2x8192x1024.Idx → EReal := Cert.Reference2Ideal.Read.val_main_v30 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
/-- the gate, -/
def gA : (⟨3, ![2, 8192, 2816]⟩ : Shape).Idx → EReal := Cert.Reference2Ideal.Read.val_main_v32 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))
/-- the other half, -/
def uA : (⟨3, ![2, 8192, 2816]⟩ : Shape).Idx → EReal := Cert.Reference2Ideal.Read.val_main_v33 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))
/-- the gated half, -/
def aA : (⟨3, ![2, 8192, 2816]⟩ : Shape).Idx → EReal := Cert.Reference2Ideal.Read.val_main_v61 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
/-- the rows after the second residual, -/
def sA : S2x8192x1024.Idx → EReal := Cert.Reference2Ideal.Read.val_main_v63 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- the output rows, -/
def oA : S2x8192x1024.Idx → EReal := Cert.Reference2Ideal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))
/-- and the output rows flattened. -/
def rA : S16384x1024.Idx → EReal := Cert.Reference2Ideal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem rowOf_h (q : Fin 256) (n : Fin 1024) : hOf (F := Ideal) (iblk m c 0 t) (iblk m c 1 t) (iblk m c 2 t) (iblk m c 4 t) (iblk m c 5 t) (ix2 q n) =
    hA m c (ix3 (bq t.val q) (sq t.val q) n) := by
  have ht : t.val < 128 := t.isLt
  refine (h_apply _ _ _ _ _ q n).trans (Eq.trans ?_ (ref_h _ _ _ _ _ _ _ n).symm)
  refine hidden_congr (blk0 m c t q n) (funext fun k => blk1 m c t q k) (funext fun k => blk4 m c t k) (funext fun k => (blk2 m c t q k).trans ?_)
    (funext fun k => blk5 m c t k n)
  refine congrArg (m ((c : Thread nD τ).loc main_arg2)) ((ix2_inj ..).2 ⟨Fin.ext ?_, rfl⟩)
  show (256 * (t.val / 2) + q.val) % 16384 = (256 * (t.val / 2) + q.val) / 8192 % 2 * 8192 + (256 * (t.val / 2) + q.val) % 8192
  omega

theorem row_h (q : Fin 256) (n : Fin 1024) : (hT m c t.val : Vec Ideal _ _) (ix2 q n) = hA m c (ix3 (bq t.val q) (sq t.val q) n) := by
  unfold hT
  rw [pt_val]
  exact rowOf_h m c t q n

theorem row_xn (q : Fin 256) (n : Fin 1024) : (xnT m c t.val : Vec Ideal _ _) (ix2 q n) = nA m c (ix3 (bq t.val q) (sq t.val q) n) := by
  unfold xnT
  rw [pt_val]
  refine (xn_apply _ _ _ _ _ _ q n).trans (Eq.trans ?_ (ref_xn _ _ _ _ _ _ _ _ n).symm)
  exact normed_congr (funext fun k => rowOf_h m c t q k) (funext fun k => blk6 m c t k) n

theorem row_xn_even (q : Fin 256) (n : Fin 1024) : (xnT m c (t.val - t.val % 2) : Vec Ideal _ _) (ix2 q n) = nA m c (ix3 (bq t.val q) (sq t.val q) n) := by
  refine (row_xn m c (ev t) q n).trans ?_
  show nA m c (ix3 (bq (t.val - t.val % 2) q) (sq (t.val - t.val % 2) q) n) = _
  rw [bq_even, sq_even]

theorem row_h_even (q : Fin 256) (n : Fin 1024) : (hT m c (t.val - t.val % 2) : Vec Ideal _ _) (ix2 q n) = hA m c (ix3 (bq t.val q) (sq t.val q) n) := by
  refine (row_h m c (ev t) q n).trans ?_
  show hA m c (ix3 (bq (t.val - t.val % 2) q) (sq (t.val - t.val % 2) q) n) = _
  rw [bq_even, sq_even]

theorem row_gate (q : Fin 256) (l : Fin 1408) : k0_pay9 (F := Ideal) (xnT m c (t.val - t.val % 2)) (iblk m c 7 t) (ix2 q l) =
    gA m c (ix3 (bq t.val q) (sq t.val q) (cq t.val l)) := by
  refine (gate_apply _ _ q l).trans (Eq.trans ?_ (ref_gate _ _ _ _ _ _ _ _ _ (cq t.val l)).symm)
  exact Finset.sum_congr rfl fun k _ => congrArg₂ (fun a b : EReal => a * b) (row_xn_even m c t q k) (blk7 m c t k l)

theorem row_up (q : Fin 256) (l : Fin 1408) : k0_pay10 (F := Ideal) (xnT m c (t.val - t.val % 2)) (iblk m c 8 t) (ix2 q l) =
    uA m c (ix3 (bq t.val q) (sq t.val q) (cq t.val l)) := by
  refine (up_apply _ _ q l).trans (Eq.trans ?_ (ref_up _ _ _ _ _ _ _ _ _ (cq t.val l)).symm)
  exact Finset.sum_congr rfl fun k _ => congrArg₂ (fun a b : EReal => a * b) (row_xn_even m c t q k) (blk8 m c t k l)

/-- The carried rows are the tile's last eight rows of the gate. -/
theorem row_carry (e : Fin 8) (l : Fin 1408) : (carT m c t.val : Vec Ideal _ _) (ix3 0 e l) =
    gA m c (ix3 (bq t.val ⟨248 + e.val, by omega⟩) (sq t.val ⟨248 + e.val, by omega⟩) (cq t.val l)) := by
  unfold carT
  rw [pt_val]
  exact (carry_apply _ _ e l).trans (row_gate m c t _ l)

/-- The tile shifted by one or two rows is the gate one or two rows before, in the same sequence. -/
theorem row_before (d : ℕ) (hd : d ≤ 2) (h8 : d ≤ 8) (q : Fin 256) (l : Fin 1408) :
    shift d h8 (staT m c t.val) (k0_pay11 (F := Ideal) (xnT m c (t.val - t.val % 2)) (iblk m c 7 t)) (ix3 0 q l) =
      before (bq t.val q) (sq t.val q) d (cq t.val l) (gA m c) := by
  have ht : t.val < 128 := t.isLt
  have hs : (sq t.val q).val = (256 * (t.val / 2) + q.val) % 8192 := rfl
  refine (shift_apply _ _ q d h8 l).trans ?_
  unfold before
  by_cases h : q.val < d
  · rw [dif_pos h]
    unfold staT
    by_cases h0 : t.val / 2 % 32 = 0
    · rw [if_pos h0, dif_neg (by rw [hs]; omega)]
      exact zero8 _ l
    · rw [if_neg h0, dif_pos (by rw [hs]; omega)]
      refine (row_carry m c ⟨t.val - 2, by show _ < 128; omega⟩ ⟨8 - d + q.val, by omega⟩ l).trans ?_
      refine congrArg (gA m c) ((ix3_inj ..).2 ⟨Fin.ext ?_, Fin.ext ?_, Fin.ext ?_⟩)
      · show (256 * ((t.val - 2) / 2) + (248 + (8 - d + q.val))) / 8192 % 2 = (256 * (t.val / 2) + q.val) / 8192 % 2
        omega
      · show (256 * ((t.val - 2) / 2) + (248 + (8 - d + q.val))) % 8192 = (256 * (t.val / 2) + q.val) % 8192 - d
        omega
      · show 1408 * ((t.val - 2) % 2) + l.val = 1408 * (t.val % 2) + l.val
        omega
  · rw [dif_neg h, dif_pos (by rw [hs]; omega)]
    refine (tile_apply _ _ _ l).trans ((row_gate m c t ⟨q.val - d, by omega⟩ l).trans ?_)
    refine congrArg (gA m c) ((ix3_inj ..).2 ⟨Fin.ext ?_, Fin.ext ?_, rfl⟩)
    · show (256 * (t.val / 2) + (q.val - d)) / 8192 % 2 = (256 * (t.val / 2) + q.val) / 8192 % 2
      omega
    · show (256 * (t.val / 2) + (q.val - d)) % 8192 = (256 * (t.val / 2) + q.val) % 8192 - d
      omega

end Cert.Post

end
-- ==== Proof.Post.Sums.lean ====
module

public import proofs.«01_k».proof.Proof.Gen.Kernel2Ideal.Frame
public import proofs.«01_k».proof.Proof.Gen.Kernel2Ideal.Skeleton
public import Idealize.ShloMosaic.Lib.Claim
public import Idealize.ShloMosaic.Lib.VecWindow
public import proofs.«01_k».proof.Proof.Post.Rows

/-!
The accumulated products and the output rows are the reference's.
-/

@[expose] public section

set_option maxRecDepth 16384

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

variable (m : (ℓ : Loc nD τ sig) → Buf (Elt Ideal) ℓ) (c : Dev nD) (t : Fin cfg0.N)

theorem acc_row (s : Vec Ideal S256x1024 .f32) (q : Fin 256) (n : Fin 1024) : accT m c t.val s (ix2 q n) = s (ix2 q n) + ∑ l : Fin 1408,
    aA m c (ix3 (bq t.val q) (sq t.val q) (cq t.val l)) * m ((c : Thread nD τ).loc main_arg10) (ix2 (cq t.val l) n) := by
  unfold accT
  rw [pt_val]
  refine (acc_apply _ _ _ _ _ _ _ _ q n).trans ?_
  refine congrArg (fun z : EReal => s (ix2 q n) + z) (Finset.sum_congr rfl fun l _ => congrArg₂ (fun a b : EReal => a * b) ?_ (blk11 m c t l n))
  refine Eq.trans ?_ (ref_act _ _ _ _ _ _ _ _ _ _ _ (cq t.val l)).symm
  exact gated_congr (funext fun r => blk9 m c t r l) (row_gate m c t q l) (row_before m c t 1 (by decide) _ q l) (row_before m c t 2 (by decide) _ q l)
    (blk10 m c t l) (row_up m c t q l)

/-- At the odd point of a row tile both halves of the contraction are summed. -/
theorem sum_row (ho : t.val % 2 = 1) (q : Fin 256) (n : Fin 1024) :
    (show EReal from hT m c (t.val - t.val % 2) (ix2 q n)) + (show EReal from accT m c t.val (sumT m c t.val) (ix2 q n)) = sA m c (ix3 (bq t.val q) (sq t.val q) n) := by
  have ht : t.val < 128 := t.isLt
  refine Eq.trans ?_ (ref_sum _ _ _ _ _ _ _ _ _ _ _ _ n).symm
  refine congrArg₂ (fun a b : EReal => a + b) (row_h_even m c t q n) ?_
  refine (acc_row m c t _ q n).trans ?_
  have hb : bq (t.val - 1) q = bq t.val q := by rw [← bq_even t.val, ho]
  have hs : sq (t.val - 1) q = sq t.val q := by rw [← sq_even t.val, ho]
  have e1 : (sumT m c t.val : Vec Ideal _ _) (ix2 q n) = ∑ l : Fin 1408, aA m c (ix3 (bq t.val q) (sq t.val q) (cq (t.val - 1) l)) *
      m ((c : Thread nD τ).loc main_arg10) (ix2 (cq (t.val - 1) l) n) := by
    unfold sumT
    rw [if_neg (by omega)]
    refine (acc_row m c ⟨t.val - 1, by show _ < 128; omega⟩ _ q n).trans ?_
    rw [zero7]
    refine (zero_add _).trans ?_
    show ∑ l : Fin 1408, aA m c (ix3 (bq (t.val - 1) q) (sq (t.val - 1) q) (cq (t.val - 1) l)) * _ = _
    rw [hb, hs]
  refine (congrArg (fun z : EReal => z + _) e1).trans ?_
  refine Eq.trans ?_ (Fin.sum_univ_two_halves 1408 1408 rfl _).symm
  refine congrArg₂ (fun a b : EReal => a + b) ?_ ?_
  · refine Finset.sum_congr rfl fun l _ => ?_
    have e : cq (t.val - 1) l = ⟨l.val, by omega⟩ := Fin.ext (by show 1408 * ((t.val - 1) % 2) + l.val = l.val; omega)
    rw [e]
    rfl
  · refine Finset.sum_congr rfl fun l _ => ?_
    have e : cq t.val l = ⟨1408 + l.val, by omega⟩ := Fin.ext (by show 1408 * (t.val % 2) + l.val = 1408 + l.val; omega)
    rw [e]
    rfl

theorem out_row (ho : t.val % 2 = 1) (q : Fin 256) (n : Fin 1024) : (outT m c t.val : Vec Ideal _ _) (ix2 q n) = oA m c (ix3 (bq t.val q) (sq t.val q) n) := by
  unfold outT
  rw [pt_val]
  refine (out_apply _ _ _ _ _ _ q n).trans (Eq.trans ?_ (ref_out _ _ _ _ _ _ _ _ _ _ _ _ _ _ _ _ n).symm)
  exact last_congr (funext fun k => sum_row m c t ho q k) (funext fun k => blk12 m c t k) (funext fun k => blk13 m c t k n) (funext fun k => blk3 m c t q k)
    (funext fun k => blk14 m c t k n) n

theorem flat_row (ho : t.val % 2 = 1) (q : Fin 256) (n : Fin 1024) : (outT m c t.val : Vec Ideal _ _) (ix2 q n) = rA m c (ix2 (rq t.val q) n) := by
  have ht : t.val < 128 := t.isLt
  refine (out_row m c t ho q n).trans (Eq.trans ?_ (ref_flat _ _ _ _ _ _ _ _ _ _ _ _ _ _ _ _).symm)
  refine congrArg (oA m c) ((ix3_inj ..).2 ⟨Fin.ext ?_, Fin.ext ?_, rfl⟩)
  · show (256 * (t.val / 2) + q.val) / 8192 % 2 = (256 * (t.val / 2) + q.val) % 16384 / 8192
    omega
  · show (256 * (t.val / 2) + q.val) % 8192 = (256 * (t.val / 2) + q.val) % 16384 % 8192
    omega

end Cert.Post

end
-- ==== Proof.Post.Body.lean ====
module

public import proofs.«01_k».proof.Proof.Gen.Kernel2Ideal.Frame
public import proofs.«01_k».proof.Proof.Gen.Kernel2Ideal.Skeleton
public import Idealize.ShloMosaic.Lib.Claim
public import Idealize.ShloMosaic.Lib.VecWindow
public import proofs.«01_k».proof.Proof.Post.Window
/-!
The body at one grid point, run once: from what the buffers hold before to what they hold after, in each of the four
ways its branches can go.
-/

@[expose] public section

set_option maxRecDepth 16384

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

set_option maxHeartbeats 8000000 in
/-- The body's triple. `h`, `xn`, `acc`, `o` are what the three whole scratch buffers and the output block hold after it. -/
theorem run (c : Dev nD) (i : grid0.Coords)
    (arg2 : Memref sig .tc .vmem S256x1024 .f32) (harg2 : arg2.IsWhole)
    (arg3 : Memref sig .tc .vmem S256x512 .f32) (harg3 : arg3.IsWhole)
    (arg4 : Memref sig .tc .vmem S256x512 .bf16) (harg4 : arg4.IsWhole)
    (arg5 : Memref sig .tc .vmem S256x256 .f32) (harg5 : arg5.IsWhole)
    (arg6 : Memref sig .tc .vmem S1x512 .f32) (harg6 : arg6.IsWhole)
    (arg7 : Memref sig .tc .vmem S1024x1024 .bf16) (harg7 : arg7.IsWhole)
    (arg8 : Memref sig .tc .vmem S1x1024 .f32) (harg8 : arg8.IsWhole)
    (arg9 : Memref sig .tc .vmem S1024x1408 .bf16) (harg9 : arg9.IsWhole)
    (arg10 : Memref sig .tc .vmem S1024x1408 .bf16) (harg10 : arg10.IsWhole)
    (arg11 : Memref sig .tc .vmem S3x1408 .f32) (harg11 : arg11.IsWhole)
    (arg12 : Memref sig .tc .vmem S1x1408 .f32) (harg12 : arg12.IsWhole)
    (arg13 : Memref sig .tc .vmem S1408x1024 .bf16) (harg13 : arg13.IsWhole)
    (arg14 : Memref sig .tc .vmem S1x1024 .f32) (harg14 : arg14.IsWhole)
    (arg15 : Memref sig .tc .vmem S1024x1024 .bf16) (harg15 : arg15.IsWhole)
    (arg16 : Memref sig .tc .vmem S256x1024 .bf16) (harg16 : arg16.IsWhole)
    (arg17 : Memref sig .tc .vmem S256x1024 .f32) (harg17 : arg17.IsWhole)
    (arg18 : Memref sig .tc .vmem S256x1024 .f32) (harg18 : arg18.IsWhole)
    (arg19 : Memref sig .tc .vmem S256x1024 .bf16) (harg19 : arg19.IsWhole)
    (arg20 : Memref sig .tc .vmem S256x1024 .f32) (harg20 : arg20.IsWhole)
    (arg21 : Memref sig .tc .vmem S2x264x1408 .f32) (harg21 : arg21.IsWhole)
    (x0 : Vec F S256x1024 .f32)
    (x1 : Vec F S256x512 .f32)
    (x2 : Vec F S256x512 .bf16)
    (x3 : Vec F S256x256 .f32)
    (x4 : Vec F S1x512 .f32)
    (x5 : Vec F S1024x1024 .bf16)
    (x6 : Vec F S1x1024 .f32)
    (x7 : Vec F S1024x1408 .bf16)
    (x8 : Vec F S1024x1408 .bf16)
    (x9 : Vec F S3x1408 .f32)
    (x10 : Vec F S1x1408 .f32)
    (x11 : Vec F S1408x1024 .bf16)
    (x12 : Vec F S1x1024 .f32)
    (x13 : Vec F S1024x1024 .bf16)
    (x14 : Vec F S256x1024 .bf16)
    (x15 : Vec F S256x1024 .f32)
    (x16 : Vec F S256x1024 .f32)
    (x17 : Vec F S256x1024 .bf16)
    (x18 : Vec F S256x1024 .f32)
    (x19 : Vec F S2x264x1408 .f32)
    (h : Vec F S256x1024 .f32) (xn : Vec F S256x1024 .bf16) (acc o : Vec F S256x1024 .f32)
    (hh : h = if cond1 i = 1#1 then hOf x0 x1 x2 x4 x5 else x16)
    (hxn : xn = if cond1 i = 1#1 then xnOf x0 x1 x2 x4 x5 x6 else x17)
    (hacc : acc = accOf xn x7 x8 x9 x10 x11 (window (startOf i x19) ![(i 1).val, 0, 0] S1x8x1408.size (inb_carry i))
      (if cond1 i = 1#1 then k0_pay7 else x18))
    (ho : o = if k0_cond3 i = 1#1 then k0_pay1 h acc x12 x13 x3 x14 else x15)
    (hc : cond1 i = 1#1 ∧ ¬ k0_cond3 i = 1#1 ∨ ¬ cond1 i = 1#1 ∧ k0_cond3 i = 1#1)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ ((owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare o ∗ owns (c : Thread nD τ) arg18 fullShare h ∗ owns (c : Thread nD τ) arg19 fullShare xn ∗ owns (c : Thread nD τ) arg20 fullShare acc ∗ owns (c : Thread nD τ) arg21 fullShare (gbufOf i xn x7 x19)) -∗ K ⟨⟩))
    ⊢ wp frame (wpE (defs₀ (F := F)) Variants.none c none) E (cc0_post i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_post_eq_skeleton]; unfold cc0_post_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  rcases hc with ⟨hc1, hc3⟩ | ⟨hc1, hc3⟩ <;> by_cases hc2 : k0_cond2 i = 1#1
  all_goals
    sl_exec (disch := first | sl_exact hc1 | sl_exact hc2 | sl_exact hc3)
    sl_step
    iapply Hk
    isplitl [H0]
    · iexists _; isplitr; rotate_left; · iexact H0
      ipureintro
      exact hf0
    isplitl [H1]
    · iexists _; isplitr; rotate_left; · iexact H1
      ipureintro
      exact hf1
    isplitl [H2]
    · iexists _; isplitr; rotate_left; · iexact H2
      ipureintro
      exact hf2
    isplitl [H3]
    · iexists _; isplitr; rotate_left; · iexact H3
      ipureintro
      exact hf3
    isplitl [H4]
    · iexists _; isplitr; rotate_left; · iexact H4
      ipureintro
      exact hf4
    isplitl [H5]
    · iexists _; isplitr; rotate_left; · iexact H5
      ipureintro
      exact hf5
    isplitl [H6]
    · iexists _; isplitr; rotate_left; · iexact H6
      ipureintro
      exact hf6
    isplitl [H7]
    · iexists _; isplitr; rotate_left; · iexact H7
      ipureintro
      exact hf7
    isplitl [H8]
    · iexists _; isplitr; rotate_left; · iexact H8
      ipureintro
      exact hf8
    isplitl [H9]
    · iexists _; isplitr; rotate_left; · iexact H9
      ipureintro
      exact hf9
    isplitl [H10]
    · iexists _; isplitr; rotate_left; · iexact H10
      ipureintro
      exact hf10
    isplitl [H11]
    · iexists _; isplitr; rotate_left; · iexact H11
      ipureintro
      exact hf11
    isplitl [H12]
    · iexists _; isplitr; rotate_left; · iexact H12
      ipureintro
      exact hf12
    isplitl [H13]
    · iexists _; isplitr; rotate_left; · iexact H13
      ipureintro
      exact hf13
    isplitl [H14]
    · iexists _; isplitr; rotate_left; · iexact H14
      ipureintro
      exact hf14
    isplitl [H15]
    · iexists _; isplitr; rotate_left; · iexact H15
      ipureintro
      sl_unfold_run_names
      simp only [View.readCov, readAt_win, read_put, View.writes_nil, window_all, put_all, off1_eq, off2_eq, off6_eq, window_off3, window_off4,
        window_off5, window_start, hacc, hxn, hh, ho, accOf, startOf, gbufOf, carryOf, xnOf, hOf, tap, hc1, hc2, hc3, if_true, if_false,
        hf0, hf1, hf2, hf3, hf4, hf5, hf6, hf7, hf8, hf9, hf10, hf11, hf12, hf13, hf14, hf15, hf16, hf17, hf18, hf19]
    isplitl [H16]
    · iexists _; isplitr; rotate_left; · iexact H16
      ipureintro
      sl_unfold_run_names
      simp only [View.readCov, readAt_win, read_put, View.writes_nil, window_all, put_all, off1_eq, off2_eq, off6_eq, window_off3, window_off4,
        window_off5, window_start, hacc, hxn, hh, ho, accOf, startOf, gbufOf, carryOf, xnOf, hOf, tap, hc1, hc2, hc3, if_true, if_false,
        hf0, hf1, hf2, hf3, hf4, hf5, hf6, hf7, hf8, hf9, hf10, hf11, hf12, hf13, hf14, hf15, hf16, hf17, hf18, hf19]
    isplitl [H17]
    · iexists _; isplitr; rotate_left; · iexact H17
      ipureintro
      sl_unfold_run_names
      simp only [View.readCov, readAt_win, read_put, View.writes_nil, window_all, put_all, off1_eq, off2_eq, off6_eq, window_off3, window_off4,
        window_off5, window_start, hacc, hxn, hh, ho, accOf, startOf, gbufOf, carryOf, xnOf, hOf, tap, hc1, hc2, hc3, if_true, if_false,
        hf0, hf1, hf2, hf3, hf4, hf5, hf6, hf7, hf8, hf9, hf10, hf11, hf12, hf13, hf14, hf15, hf16, hf17, hf18, hf19]
    isplitl [H18]
    · iexists _; isplitr; rotate_left; · iexact H18
      ipureintro
      sl_unfold_run_names
      simp only [View.readCov, readAt_win, read_put, View.writes_nil, window_all, put_all, off1_eq, off2_eq, off6_eq, window_off3, window_off4,
        window_off5, window_start, hacc, hxn, hh, ho, accOf, startOf, gbufOf, carryOf, xnOf, hOf, tap, hc1, hc2, hc3, if_true, if_false,
        hf0, hf1, hf2, hf3, hf4, hf5, hf6, hf7, hf8, hf9, hf10, hf11, hf12, hf13, hf14, hf15, hf16, hf17, hf18, hf19]
    iexists _; isplitr; rotate_left; · iexact H19
    ipureintro
    sl_unfold_run_names
    simp only [View.readCov, readAt_win, read_put, View.writes_nil, window_all, put_all, off1_eq, off2_eq, off6_eq, window_off3, window_off4,
      window_off5, window_start, hacc, hxn, hh, ho, accOf, startOf, gbufOf, carryOf, xnOf, hOf, tap, hc1, hc2, hc3, if_true, if_false,
      hf0, hf1, hf2, hf3, hf4, hf5, hf6, hf7, hf8, hf9, hf10, hf11, hf12, hf13, hf14, hf15, hf16, hf17, hf18, hf19]

end Cert.Post

end
-- ==== Proof.Post.Frame.lean ====
module

public import proofs.«01_k».proof.Proof.Gen.Kernel2Ideal.Frame
public import proofs.«01_k».proof.Proof.Gen.Kernel2Ideal.Skeleton
public import Idealize.ShloMosaic.Lib.Claim
public import Idealize.ShloMosaic.Lib.VecWindow
public import proofs.«01_k».proof.Proof.Post.Inv
public import proofs.«01_k».proof.Proof.Post.Body

/-!
The pipeline's proof data and the body's obligation at every grid point.
-/

@[expose] public section

set_option maxRecDepth 16384

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

variable (m : (ℓ : Loc nD τ sig) → Buf (Elt F) ℓ) (ρ : Dev nD → PrngReg)

abbrev ms0 (t : Fin cfg0.N) : Memref sig .tc .vmem S256x1024 .f32 := win0_0.stage (cfg0.slots t 0)
abbrev ms1 (t : Fin cfg0.N) : Memref sig .tc .vmem S256x512 .f32 := win0_1.stage (cfg0.slots t 1)
abbrev ms2 (t : Fin cfg0.N) : Memref sig .tc .vmem S256x512 .bf16 := win0_2.stage (cfg0.slots t 2)
abbrev ms3 (t : Fin cfg0.N) : Memref sig .tc .vmem S256x256 .f32 := win0_3.stage (cfg0.slots t 3)
abbrev ms4 (t : Fin cfg0.N) : Memref sig .tc .vmem S1x512 .f32 := win0_4.stage (cfg0.slots t 4)
abbrev ms5 (t : Fin cfg0.N) : Memref sig .tc .vmem S1024x1024 .bf16 := win0_5.stage (cfg0.slots t 5)
abbrev ms6 (t : Fin cfg0.N) : Memref sig .tc .vmem S1x1024 .f32 := win0_6.stage (cfg0.slots t 6)
abbrev ms7 (t : Fin cfg0.N) : Memref sig .tc .vmem S1024x1408 .bf16 := win0_7.stage (cfg0.slots t 7)
abbrev ms8 (t : Fin cfg0.N) : Memref sig .tc .vmem S1024x1408 .bf16 := win0_8.stage (cfg0.slots t 8)
abbrev ms9 (t : Fin cfg0.N) : Memref sig .tc .vmem S3x1408 .f32 := win0_9.stage (cfg0.slots t 9)
abbrev ms10 (t : Fin cfg0.N) : Memref sig .tc .vmem S1x1408 .f32 := win0_10.stage (cfg0.slots t 10)
abbrev ms11 (t : Fin cfg0.N) : Memref sig .tc .vmem S1408x1024 .bf16 := win0_11.stage (cfg0.slots t 11)
abbrev ms12 (t : Fin cfg0.N) : Memref sig .tc .vmem S1x1024 .f32 := win0_12.stage (cfg0.slots t 12)
abbrev ms13 (t : Fin cfg0.N) : Memref sig .tc .vmem S1024x1024 .bf16 := win0_13.stage (cfg0.slots t 13)
abbrev ms14 (t : Fin cfg0.N) : Memref sig .tc .vmem S256x1024 .bf16 := win0_14.stage (cfg0.slots t 14)
abbrev ms15 (t : Fin cfg0.N) : Memref sig .tc .vmem S256x1024 .f32 := win0_15.stage (cfg0.slots t 15)
abbrev sc0 : Memref sig .tc .vmem S256x1024 .f32 := Memref.whole cc0_scratch0
abbrev sc1 : Memref sig .tc .vmem S256x1024 .bf16 := Memref.whole cc0_scratch1
abbrev sc2 : Memref sig .tc .vmem S256x1024 .f32 := Memref.whole cc0_scratch2
abbrev sc3 : Memref sig .tc .vmem S2x264x1408 .f32 := Memref.whole cc0_scratch3

/-- The four scratch buffers at contents of the invariant before point `n`, and the generator register. -/
def PhiAt (c : Dev nD) (n : ℕ) : sProp 𝕄 :=
  iprop(∃ h xn acc g, ⌜Inv m c n h xn acc g⌝ ∗ (owns (c : Thread nD τ) sc0 fullShare h ∗ owns (c : Thread nD τ) sc1 fullShare xn
    ∗ owns (c : Thread nD τ) sc2 fullShare acc ∗ owns (c : Thread nD τ) sc3 fullShare g) ∗ (∃ r, prngReg c r))

/-- The proof data: each input's block in place, the output's block at the closed form. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outT m c t.val
    | ⟨n + 16, h⟩ => absurd h (Nat.not_lt.2 (Nat.le_add_left _ _))
  Φ t := PhiAt m c t.val
  q := Pipeline.shareOf spec0
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = outT m c t.val := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

/-- and what it returns, the output block at `P`. -/
def bodyPost (c : Dev nD) (t : Fin cfg0.N) (P : sProp 𝕄) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t)
    ∗ owns (c : Thread nD τ) (ms14 t) fullShare ((dats m 0 c).after 14 t)
    ∗ P)

set_option maxHeartbeats 4000000 in
/-- The body at any point. -/
theorem sound_body (c : Dev nD) (t : Fin cfg0.N) (P : sProp 𝕄)
    (hP : ∀ d, owns (c : Thread nD τ) (ms15 t) fullShare
      (if k0_cond3 (grid0.coords t) = 1#1 then outT m c t.val else (dats m 0 c).before 15 t d : Vec F S256x1024 .f32) ⊢ P) :
    bodyPre m c t ⊢ wp frame (wpE (defs₀ (F := F)) Variants.none c none) Set.univ (bodyAt0 t) (fun _ => bodyPost m c t P) := by
  unfold bodyPre bodyPost bodyAt0
  simp only [before0, before1, before2, before3, before4, before5, before6, before7, before8, before9, before10, before11, before12, before13, before14]
  rw [show (dats m 0 c).Φ t.succ = PhiAt m c (t.val + 1) from rfl, show (dats m 0 c).Φ t.castSucc = PhiAt m c t.val from rfl,
    show (dats m 0 c).owesAt () t.succ = (dats m 0 c).owesAt () t.castSucc from rfl,
    after0, after1, after2, after3, after4, after5, after6, after7, after8, after9, after10, after11, after12, after13, after14]
  unfold PhiAt
  iintro ⟨⟨%x16, %x17, %x18, %x19, %hI, ⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ x16 x17 x18 x19
    (hT m c (t.val - t.val % 2)) (xnT m c (t.val - t.val % 2)) (accT m c t.val (sumT m c t.val)) _
    (step_h hI) (step_xn hI) (step_acc hI) rfl
    (by rw [cond1_iff, cond3_iff]; omega) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, HS0, HS1, HS2, HS3⟩
  isplitl [HS0 HS1 HS2 HS3 Hg]
  · iexists _, _, _, _
    isplitr; rotate_left
    · isplitl [HS0 HS1 HS2 HS3]
      · isplitl [HS0]
        · iexact HS0
        isplitl [HS1]
        · iexact HS1
        isplitl [HS2]
        · iexact HS2
        iexact HS3
      iexact Hg
    ipureintro; exact step_inv hI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iapply (hP d15)
  have e : (if k0_cond3 (grid0.coords t) = 1#1 then outT m c t.val else (dats m 0 c).before 15 t d15 : Vec F S256x1024 .f32)
      = if k0_cond3 (grid0.coords t) = 1#1 then k0_pay1 (hT m c (t.val - t.val % 2)) (accT m c t.val (sumT m c t.val)) (iblk m c 12 t)
        (iblk m c 13 t) (iblk m c 3 t) (iblk m c 14 t) else (dats m 0 c).before 15 t d15 := by
    split_ifs with h
    · exact step_out hI ((cond3_iff t).1 h)
    · rfl
  rw [e]
  iexact H15

end Cert.Post

end
-- ==== Proof.Post.Launch.lean ====
module

public import proofs.«01_k».proof.Proof.Gen.Kernel2Ideal.Frame
public import proofs.«01_k».proof.Proof.Gen.Kernel2Ideal.Skeleton
public import Idealize.ShloMosaic.Lib.Claim
public import Idealize.ShloMosaic.Lib.VecWindow
public import proofs.«01_k».proof.Proof.Post.Frame

/-!
The program's run: every execution ends, with the output array at the closed form of `Inv.lean` point by point and the
arguments unchanged.
-/

@[expose] public section

set_option maxRecDepth 16384

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

variable (m : (ℓ : Loc nD τ sig) → Buf (Elt F) ℓ) (ρ : Dev nD → PrngReg)

theorem body_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation: a block is left as found at the even points, written at the odd ones. -/
theorem body_obligation (c : Dev nD) : BodyObligation (dats (F := F) m 0 c) (defs₀ (F := F)) Variants.none () Set.univ := fun t => by
  rw [bigSep_W0, bigSep_W0, body_row]
  rcases Nat.mod_two_eq_zero_or_one t.val with e | e
  · have hi : idle0 15 (grid0.coords t) = true := by rw [idle15, e]; rfl
    have hf : (win0 15).flush t = false := by
      rw [Bool.eq_false_iff]; intro h; have := (flush0_15 t).1 h; omega
    have hP := sound_body m c t (iprop(∃ d, owns (c : Thread nD τ) (ms15 t) fullShare ((dats m 0 c).before 15 t d))) (fun d => by
      rw [if_neg (fun h => by have := (cond3_iff t).1 h; omega)]
      iintro H; iexists _; iexact H)
    have hi' : cfg0.idle 15 (cfg0.grid.coords t) = true := hi
    simp only [hi', hi, hf]
    exact triple_restated hP rfl .rfl fun _ => .rfl
  · have hi : idle0 15 (grid0.coords t) = false := by rw [idle15, e]; rfl
    have hP := sound_body m c t (owns (c : Thread nD τ) (ms15 t) fullShare ((dats m 0 c).after 15 t)) (fun d => by
      rw [if_pos ((cond3_iff t).2 e), after15])
    have hi' : cfg0.idle 15 (cfg0.grid.coords t) = false := hi
    simp only [hi', hi]
    exact triple_restated hP rfl .rfl fun _ => .rfl

theorem phiA_eq (c : Dev nD) : (Pipeline.ΦA spec0 c : sProp 𝕄)
    = iprop(iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

theorem phi_in (c : Dev nD) : (Pipeline.ΦA spec0 c : sProp 𝕄) ⊢ PhiAt m c 0 := by
  rw [phiA_eq]; unfold PhiAt
  iintro ⟨⟨⟨%a, H0⟩, ⟨%b, H1⟩, ⟨%d, H2⟩, ⟨%e, H3⟩⟩, Hg⟩
  iexists a, b, d, e
  isplitr; · ipureintro; exact inv_zero m c _ _ _ _
  isplitl [H0 H1 H2 H3]
  · isplitl [H0]; · iexact H0
    isplitl [H1]; · iexact H1
    isplitl [H2]; · iexact H2
    iexact H3
  iexact Hg

theorem phi_out (c : Dev nD) (n : ℕ) : PhiAt m c n ⊢ (Pipeline.ΦA spec0 c : sProp 𝕄) := by
  rw [phiA_eq]; unfold PhiAt
  iintro ⟨%a, %b, %d, %e, %hI, ⟨H0, H1, H2, H3⟩, Hg⟩
  isplitl [H0 H1 H2 H3]
  · isplitl [H0]; · iexists a; iexact H0
    isplitl [H1]; · iexists b; iexact H1
    isplitl [H2]; · iexists d; iexact H2
    iexists e; iexact H3
  iexact Hg

set_option backward.isDefEq.respectTransparency.types false in
/-- The run, and every semaphore counter at zero at its end. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => phi_in m c) (hout := fun c => phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- Every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (frame_of m ρ (dats m) (A_eq m) (run_main m ρ)) ((θ_run defs _ _).mono (fun _ h => h.2) (run_main_quiescent m ρ))

end Cert.Post

end
-- ==== Proof.Post.Final.lean ====
module

public import proofs.«01_k».proof.Proof.Gen.Kernel2Ideal.Frame
public import proofs.«01_k».proof.Proof.Gen.Kernel2Ideal.Skeleton
public import Idealize.ShloMosaic.Lib.Claim
public import Idealize.ShloMosaic.Lib.VecWindow
public import proofs.«01_k».proof.Proof.Post.Sums
public import proofs.«01_k».proof.Proof.Post.Launch

/-!
The kernel's result array is the reference's.
-/

@[expose] public section

set_option maxRecDepth 16384

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

variable (m : (ℓ : Loc nD τ sig) → Buf (Elt Ideal) ℓ) (ρ : Dev nD → PrngReg) (c : Dev nD)

theorem flush15 : ∀ t : Fin cfg0.N, (cfg0.win 15).flush t = true → t.val % 2 = 1 := (by decide +kernel : ∀ t : Fin grid0.N, _)

theorem final : (dats m 0 c).arrAt 15 cfg0.N = rA m c := by
  refine (dats m 0 c).arrAt_eq_of_covers 15 _ (by decide +kernel) fun t hf y => ?_
  have ho := flush15 t hf
  blk_simp
  rw [after15]
  have key : ∀ (q : Fin 256) (n : Fin 1024), (outT m c t.val : Vec Ideal _ _) (ix2 q n) = rA m c ((win0_15.blk t).view.emb (ix2 q n)) := fun q n => by
    have ht : t.val < 128 := t.isLt
    have e : (win0_15.blk t).view.emb (ix2 q n) = (ix2 (rq t.val q) n : S16384x1024.Idx) := by blk_ext [idx15 t, rq]
    rw [e]
    exact flat_row m c t ho q n
  have hy : y = (ix2 (y 0) (y 1) : S256x1024.Idx) := ValueIdx.eq_ix2 (n0 := 256) (n1 := 1024) y
  rw [hy]
  exact key (y 0) (y 1)

/-- Every execution ends with the result at the reference's rows, every argument unchanged. -/
theorem result_run : θ_run defs (onTc (τ := τ) (main (F := Ideal))) ⟨m, fun _ => 0, ρ⟩ (fun r => ∀ c : Dev nD,
      r.2.mem ((c.tc : Thread nD τ).loc main_v12) = rA m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h.1 c).1 15).trans (final m c), (h.2.1 c)⟩) (θ_run_and (run_main m ρ) (frame m ρ))

end Cert.Post

end
-- ==== Proof.Post.Algebraic.lean ====
module

public import proofs.«01_k».proof.Defs
public import proofs.«01_k».proof.Proof.Post.Final
public import proofs.«01_k».proof.Proof.Gen.Reference2Ideal.Run
public import proofs.«01_k».proof.Proof.Gen.Reference2Ideal.Read
public import Idealize.ShloMosaic.Lib.Quiescent

@[expose] public section

set_option maxRecDepth 16384

/-! # The kernel and the reference end with one result -/

noncomputable section

namespace Cert.Post

open Idealize.ShloMosaic Idealize.ShloMosaic.TcCoe Idealize.SL.Sem

open Cert.Reference2Ideal in
theorem flat_congr {x0 y0 : Vec Ideal S2x8192x1024 .f32} {x1 y1 : Vec Ideal S2x8192x512 .f32} {x2 y2 : Vec Ideal S16384x512 .bf16} {x3 y3 : Vec Ideal S2x8192x256 .f32} {x4 y4 : Vec Ideal S512 .f32} {x5 y5 : Vec Ideal S1024x1024 .f32} {x6 y6 : Vec Ideal S1024 .f32}
    {x7 y7 : Vec Ideal S1024x5632 .f32} {x8 y8 : Vec Ideal S3x2816 .f32} {x9 y9 : Vec Ideal S2816 .f32} {x10 y10 : Vec Ideal S2816x1024 .f32} {x11 y11 : Vec Ideal S1024 .f32} {x12 y12 : Vec Ideal S1024x1024 .f32} {x13 y13 : Vec Ideal S256x1024 .f32}
    (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) (h13 : x13 = y13) :
    Read.val_main_v87 (F := Ideal) x0 x1 x2 x3 x4 x5 x6 x7 x8 x9 x10 x11 x12 x13 = Read.val_main_v87 (F := Ideal) y0 y1 y2 y3 y4 y5 y6 y7 y8 y9 y10 y11 y12 y13 := by
  rw [h0, h1, h2, h3, h4, h5, h6, h7, h8, h9, h10, h11, h12, h13]

theorem frame_reference : letI := Cert.Reference2Ideal.Gen.facts; Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem algebraic : letI := Cert.Kernel2Ideal.Gen.facts; letI := Cert.Reference2Ideal.Gen.facts; Cert.algebraic_Kernel2Ideal_Reference2Ideal := by
  intro m ρ m' ρ' _ hagree
  refine ⟨fun c => rA m c, result_run m ρ, ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4, h5, h6, h7, h8, h9, h10, h11, h12, h13⟩ := hagree c
  refine (Cert.Reference2Ideal.Read.val_main_v87_eq (F := Ideal) (StableHlo.launchContents m' c)).trans ?_
  exact flat_congr h0 h1 h2 h3 h4 h5 h6 h7 h8 h9 h10 h11 h12 h13

end Cert.Post

end
-- ==== Proof.In.Window.lean ====
module

public import proofs.«01_k».proof.Proof.Gen.Kernel3Ideal.Frame.Runs
public import proofs.«01_k».proof.Proof.Gen.Kernel3Ideal.Skeleton
public import Idealize.ShloMosaic.Lib.Claim
public import Idealize.ShloMosaic.Lib.VecWindow
public import Idealize.ShloMosaic.Lib.Pointwise
public import proofs.«01_k».proof.Proof.Post.Window

/-! What one grid point stores, as plain functions of what it loads. The carried buffer holds eight rows of the previous
tile in front of the 256 rows of the current one, so a load one or two rows early reads the tile shifted down; a result
with two head groups is stored in two halves. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

section Rows

variable {α : Type}

/-- A block of two halves along its second axis. -/
def halves {n : ℕ} (A B : (⟨4, ![1, 1, 256, n]⟩ : Shape).Idx → α) : (⟨4, ![1, 2, 256, n]⟩ : Shape).Idx → α := fun y =>
  if (y 1).val = 0 then A (ix4 0 0 (y 2) (y 3)) else B (ix4 0 0 (y 2) (y 3))

/-- Storing both halves of a block determines it. -/
theorem put_halves {n : ℕ} (X : (⟨4, ![1, 2, 256, n]⟩ : Shape).Idx → α) (A B : (⟨4, ![1, 1, 256, n]⟩ : Shape).Idx → α) :
    put (s := ⟨4, ![1, 2, 256, n]⟩) (put (s := ⟨4, ![1, 2, 256, n]⟩) X ![0, 0, 0, 0] ![1, 1, 256, n] A) ![0, 1, 0, 0] ![1, 1, 256, n] B
      = halves A B := by
  funext y
  have h0 : (y 0).val < 1 := (y 0).isLt
  have h1 : (y 1).val < 2 := (y 1).isLt
  have h2 : (y 2).val < 256 := (y 2).isLt
  have h3 : (y 3).val < n := (y 3).isLt
  unfold put halves
  by_cases h : (y 1).val = 0
  · rw [if_pos h, dif_neg, dif_pos]
    · refine congrArg A (funext fun a => Fin.ext ?_)
      fin_cases a
      · show (y 0).val - 0 = 0
        omega
      · show (y 1).val - 0 = 0
        omega
      · rfl
      · rfl
    · intro a
      fin_cases a
      · exact ⟨Nat.zero_le _, by show (y 0).val < 0 + 1; omega⟩
      · exact ⟨Nat.zero_le _, by show (y 1).val < 0 + 1; omega⟩
      · exact ⟨Nat.zero_le _, by show (y 2).val < 0 + 256; omega⟩
      · exact ⟨Nat.zero_le _, by show (y 3).val < 0 + n; omega⟩
    · intro hall
      have e : 1 ≤ (y 1).val := (hall 1).1
      omega
  · rw [if_neg h, dif_pos]
    · refine congrArg B (funext fun a => Fin.ext ?_)
      fin_cases a
      · show (y 0).val - 0 = 0
        omega
      · show (y 1).val - 1 = 0
        omega
      · rfl
      · rfl
    · intro a
      fin_cases a
      · exact ⟨Nat.zero_le _, by show (y 0).val < 0 + 1; omega⟩
      · exact ⟨by show 1 ≤ (y 1).val; omega, by show (y 1).val < 1 + 1; omega⟩
      · exact ⟨Nat.zero_le _, by show (y 2).val < 0 + 256; omega⟩
      · exact ⟨Nat.zero_le _, by show (y 3).val < 0 + n; omega⟩

/-- The tile `w` shifted down by `k` rows, the first `k` rows being the last `k` of the eight rows `a`. -/
def late (k : ℕ) (hk : k ≤ 8) (a : S8x512.Idx → α) (w : S256x512.Idx → α) : S256x512.Idx → α := fun y =>
  if h : (y 0).val < k then a (ix2 (n0 := 8) (n1 := 512) ⟨8 - k + (y 0).val, by omega⟩ (y 1))
  else w (ix2 (n0 := 256) (n1 := 512) ⟨(y 0).val - k, by have : (y 0).val < 256 := (y 0).isLt; omega⟩ (y 1))

/-- The last eight rows of the tile. -/
def last8 (w : S256x512.Idx → α) : S8x512.Idx → α := fun y =>
  w (ix2 (n0 := 256) (n1 := 512) ⟨248 + (y 0).val, by have : (y 0).val < 8 := (y 0).isLt; omega⟩ (y 1))

variable (X : S264x512.Idx → α) (w : S256x512.Idx → α)

/-- A load `k` rows before the tile just stored reads the shifted tile. -/
theorem window_late (k : ℕ) (hk : k ≤ 8) (b : ℕ) (hb : b + k = 8) (inb : ∀ a, (![b, 0] : Fin 2 → ℕ) a + S256x512.size a ≤ S264x512.size a)
    (inb0 : ∀ a, (![0, 0] : Fin 2 → ℕ) a + S8x512.size a ≤ S264x512.size a) :
    window (put X ![8, 0] S256x512.size w) ![b, 0] S256x512.size inb = late k hk (window X ![0, 0] S8x512.size inb0) w := by
  funext y
  have h0 : (y 0).val < 256 := (y 0).isLt
  have h1 : (y 1).val < 512 := (y 1).isLt
  unfold window put late
  by_cases h : (y 0).val < k
  · rw [dif_pos h, dif_neg]
    · refine congrArg X (funext fun a => Fin.ext ?_)
      fin_cases a
      · show b + 1 * (y 0).val = 0 + 1 * (8 - k + (y 0).val)
        omega
      · show 0 + 1 * (y 1).val = 0 + 1 * (y 1).val
        rfl
    · intro hall
      have e : (8 : ℕ) ≤ b + 1 * (y 0).val := (hall 0).1
      omega
  · rw [dif_neg h, dif_pos]
    · refine congrArg w (funext fun a => Fin.ext ?_)
      fin_cases a
      · show b + 1 * (y 0).val - 8 = (y 0).val - k
        omega
      · show 0 + 1 * (y 1).val - 0 = (y 1).val
        omega
    · intro a
      fin_cases a
      · show 8 ≤ b + 1 * (y 0).val ∧ b + 1 * (y 0).val < 8 + 256
        omega
      · show 0 ≤ 0 + 1 * (y 1).val ∧ 0 + 1 * (y 1).val < 0 + 512
        omega

/-- A load of the last eight rows reads those of the tile just stored. -/
theorem window_last (inb : ∀ a, (![256, 0] : Fin 2 → ℕ) a + S8x512.size a ≤ S264x512.size a) :
    window (put X ![8, 0] S256x512.size w) ![256, 0] S8x512.size inb = last8 w := by
  funext y
  have h0 : (y 0).val < 8 := (y 0).isLt
  have h1 : (y 1).val < 512 := (y 1).isLt
  unfold window put last8
  rw [dif_pos]
  · refine congrArg w (funext fun a => Fin.ext ?_)
    fin_cases a
    · show 256 + 1 * (y 0).val - 8 = 248 + (y 0).val
      omega
    · show 0 + 1 * (y 1).val - 0 = (y 1).val
      omega
  · intro a
    fin_cases a
    · show 8 ≤ 256 + 1 * (y 0).val ∧ 256 + 1 * (y 0).val < 8 + 256
      omega
    · show 0 ≤ 0 + 1 * (y 1).val ∧ 0 + 1 * (y 1).val < 0 + 512
      omega

theorem window_head (Y : S264x512.Idx → α) (v : S8x512.Idx → α) :
    window (put Y ![0, 0] ![8, 512] v) ![0, 0] ![8, 512] inb_S264x512_S8x512_0_0 = v := VecWindow.window_put_same _ _ _ _ _
theorem window_seven (inb) : window (put X ![8, 0] ![256, 512] w) ![7, 0] ![256, 512] inb
    = late 1 (by decide) (window X ![0, 0] ![8, 512] inb_S264x512_S8x512_0_0) w := window_late X w 1 _ 7 rfl _ _
theorem window_six (inb) : window (put X ![8, 0] ![256, 512] w) ![6, 0] ![256, 512] inb
    = late 2 (by decide) (window X ![0, 0] ![8, 512] inb_S264x512_S8x512_0_0) w := window_late X w 2 _ 6 rfl _ _
theorem window_end (inb) : window (put X ![8, 0] ![256, 512] w) ![256, 0] ![8, 512] inb = last8 w := window_last X w _

end Rows

/-- The place of a tile in its sequence, as the body computes it. -/
def placeOf (i : grid0.Coords) : BitVec 32 :=
  Scalar.select (Scalar.andi (Scalar.xori (Scalar.cmpi .slt (Scalar.remsi (BitVec.ofNat 32 (i 0).val) 32#32) 0#32) 0#1)
    (Scalar.cmpi .ne (Scalar.remsi (BitVec.ofNat 32 (i 0).val) 32#32) 0#32))
    (Scalar.addi (Scalar.remsi (BitVec.ofNat 32 (i 0).val) 32#32) 32#32) (Scalar.remsi (BitVec.ofNat 32 (i 0).val) 32#32)

/-- The carried buffer as the tile's products are stored: its first rows cleared where a sequence starts. -/
def startOf (i : grid0.Coords) (g : Vec F S264x512 .f32) : Vec F S264x512 .f32 :=
  open Classical in if cond0_0 i then put g ![0, 0] ![8, 512] k0_pay49 else g

theorem start_cases (i : grid0.Coords) : (cond0_0 i ∧ ∀ g : Vec F S264x512 .f32, startOf i g = put g ![0, 0] ![8, 512] k0_pay49)
    ∨ (¬ cond0_0 i ∧ ∀ g : Vec F S264x512 .f32, startOf i g = g) := by
  by_cases h : cond0_0 i
  · exact Or.inl ⟨h, fun g => by rw [startOf, if_pos h]⟩
  · exact Or.inr ⟨h, fun g => by rw [startOf, if_neg h]⟩

section Out

variable (i : grid0.Coords) (x0 : Vec F S256x1024 .f32) (x1 : Vec F S1x1024 .f32) (x2 : Vec F S1024x512 .bf16) (x3 : Vec F S1024x768 .bf16) (x4 : Vec F S1024x256 .bf16) (x5 : Vec F S1024x1536 .bf16) (x6 : Vec F S1x512 .f32) (x7 : Vec F S2x128 .f32) (x8 : Vec F S512x512 .bf16) (x9 : Vec F S128x128 .bf16) (x10 : Vec F S256x128 .f32) (x11 : Vec F S256x128 .f32) (x12 : Vec F S256x128 .f32) (x13 : Vec F S3x512 .f32) (x14 : Vec F S1x512 .f32)
  (a : Vec F S8x512 .f32)

/-- The first row of the key gains, and the second. -/
def gain0 : Vec F S1x128 .f32 := window x7 ![0, 0] ![1, 128] inb_S2x128_S1x128_0_0
def gain1 : Vec F S1x128 .f32 := window x7 ![1, 0] ![1, 128] inb_S2x128_S1x128_1_0
/-- The three rows of the convolution's weights. -/
def tap0 : Vec F S1x512 .f32 := window x13 ![0, 0] ![1, 512] inb_S3x512_S1x512_0_0
def tap1 : Vec F S1x512 .f32 := window x13 ![1, 0] ![1, 512] inb_S3x512_S1x512_1_0
def tap2 : Vec F S1x512 .f32 := window x13 ![2, 0] ![1, 512] inb_S3x512_S1x512_2_0

/-- The turned keys of the selected and of the windowed branch. -/
def ksOf : Vec F S256x128 .f32 :=
  k0_pay16 (k0_pay3 x10) (k0_pay4 x11) (k0_pay5 x12) (k0_pay14 (k0_pay2 x0 x1) x3) (k0_pay15 (gain0 x7)) x9
def kwOf : Vec F S256x128 .f32 :=
  k0_pay17 (k0_pay3 x10) (k0_pay4 x11) (k0_pay5 x12) (k0_pay11 (k0_pay2 x0 x1) x3) (gain1 x7) x9

/-- What the nine results' blocks hold after the point. -/
def o15 : Vec F S256x512 .bf16 := k0_pay10 (k0_pay2 x0 x1) (k0_pay6 x10) (k0_pay7 x11) (k0_pay8 x12) (k0_pay9 x2) x6 x8
def o16 : Vec F S256x128 .f32 := k0_pay12 (k0_pay2 x0 x1) x3
def o17 : Vec F S256x128 .f32 := k0_pay13 (k0_pay2 x0 x1) x3
def o18 : Vec F S1x2x256x256 .bf16 :=
  halves (k0_pay36 (ksOf x0 x1 x3 x7 x9 x10 x11 x12) (k0_pay20 (placeOf i)) (iota .tc S256x128 32 [1] iota_S256x128_d1_w32))
    (k0_pay40 (k0_pay21 (k0_pay20 (placeOf i)) (iota .tc S256x128 32 [1] iota_S256x128_d1_w32)) (k0_pay24 (ksOf x0 x1 x3 x7 x9 x10 x11 x12)))
def o19 : Vec F S1x2x256x128 .bf16 :=
  halves (k0_pay37 (k0_pay18 (k0_pay11 (k0_pay2 x0 x1) x3))) (k0_pay41 (k0_pay27 (k0_pay18 (k0_pay11 (k0_pay2 x0 x1) x3))))
def o20 : Vec F S1x2x256x128 .bf16 :=
  halves (k0_pay38 (k0_pay30 (kwOf x0 x1 x3 x7 x9 x10 x11 x12))) (k0_pay42 (k0_pay31 (kwOf x0 x1 x3 x7 x9 x10 x11 x12)))
def o21 : Vec F S1x2x256x128 .bf16 :=
  halves (k0_pay39 (k0_pay34 (k0_pay19 (k0_pay11 (k0_pay2 x0 x1) x3)))) (k0_pay43 (k0_pay35 (k0_pay19 (k0_pay11 (k0_pay2 x0 x1) x3))))
def o22 : Vec F S256x256 .f32 := k0_pay45 (k0_pay2 x0 x1) (k0_pay44 x4)
/-- The products a tile's convolution reads. -/
def zOf : Vec F S256x512 .f32 := k0_pay50 (k0_pay2 x0 x1) x5
def o23 : Vec F S256x512 .bf16 :=
  k0_pay1 (k0_pay47 (k0_pay2 x0 x1) x5)
    (k0_pay51 (k0_pay2 x0 x1) x5 (tap2 x13) (tap1 x13) (late 1 (by decide) a (zOf x0 x1 x5)) (tap0 x13) (late 2 (by decide) a (zOf x0 x1 x5))) x14
/-- The rows a tile hands to the next. -/
def handOf : Vec F S8x512 .f32 := k0_pay52 (last8 (zOf x0 x1 x5))
/-- The carried buffer after the point. -/
def gOf (g : Vec F S264x512 .f32) : Vec F S264x512 .f32 :=
  put (put (startOf i g) ![8, 0] ![256, 512] (zOf x0 x1 x5)) ![0, 0] ![8, 512] (handOf x0 x1 x5)

end Out

end Cert.In

end
-- ==== Proof.In.Spec.lean ====
module

public import proofs.«01_k».proof.Proof.Post.Spec
public import Idealize.ShloMosaic.Lib.ValueIdx
public import Idealize.ShloMosaic.Lib.Pointwise
public import Idealize.ShloMosaic.Lib.Claim

/-! The arithmetic of one row, shared by the two programs. -/

@[expose] public section

set_option maxRecDepth 16384

noncomputable section

namespace Cert.In

open Idealize.ShloMosaic

/-- The lane eight to the right, around the end. -/
def up {w : ℕ} (n : Fin w) : Fin w := ⟨(n.val + 8) % w, Nat.mod_lt _ (Nat.lt_of_le_of_lt (Nat.zero_le _) n.isLt)⟩
/-- The lane eight to the left, around the end. -/
def down {w : ℕ} (n : Fin w) : Fin w := ⟨(n.val + (w - 8)) % w, Nat.mod_lt _ (Nat.lt_of_le_of_lt (Nat.zero_le _) n.isLt)⟩

/-- A row of joined heads, each divided by the root of the mean that the product with `bd` gives, times the gain. -/
def normK {w : ℕ} (f g : Fin w → EReal) (bd : Fin w → Fin w → EReal) (n : Fin w) : EReal :=
  f n * Ideal.rsqrt ((∑ k, f k * f k * bd k n) + Ideal.ofBits .f32 0x358637BD#32) * g n

/-- The rotation as three products over whole rows. -/
def ropeK {w : ℕ} (x c a b : Fin w → EReal) (n : Fin w) : EReal := x n * c n + x (up n) * a n + x (down n) * b n

/-- The rotation of one head: its first eight lanes with the next eight, the others as they are. -/
def roped (c s : Fin 8 → EReal) (x : Fin 64 → EReal) (l : Fin 64) : EReal :=
  if h : l.val < 8 then x l * c ⟨l.val, h⟩ - x ⟨l.val + 8, by omega⟩ * s ⟨l.val, h⟩
  else if h' : l.val < 16 then x l * c ⟨l.val - 8, by omega⟩ + x ⟨l.val - 8, by omega⟩ * s ⟨l.val - 8, by omega⟩
  else x l

/-- The angle of position `p` at the rotation's lane `j`. -/
def angle (p j : ℕ) : EReal :=
  FloatOps.sitofp (F := Ideal) FTy.f32 (BitVec.ofNat 32 p) * Ideal.pow (Ideal.ofBits FTy.f32 1223959552#32)
    (Ideal.div (-FloatOps.sitofp (F := Ideal) FTy.f32 (BitVec.ofNat 32 j) * Ideal.ofBits FTy.f32 1073741824#32) (Ideal.ofBits FTy.f32 1098907648#32))

/-- One head at position `p`: divided by the root of its mean square, times the gain, rotated. -/
def headAt (p : ℕ) (f g : Fin 64 → EReal) : Fin 64 → EReal :=
  roped (fun j => Ideal.cos (angle p j.val)) (fun j => Ideal.sin (angle p j.val)) (Cert.Post.normed (Ideal.ofBits .f32 0x42800000#32) f g)

/-- The row of one product. -/
def prod {w : ℕ} (x : Fin 1024 → EReal) (m : Fin 1024 → Fin w → EReal) (n : Fin w) : EReal := ∑ k, x k * m k n

end Cert.In

end
-- ==== Proof.In.Tables.lean ====
module

public import proofs.«01_k».proof.Proof.Gen.Kernel3Ideal.Frame.Runs
public import proofs.«01_k».proof.Proof.In.Spec
public import Idealize.ShloMosaic.Lib.ValueIdx
public import Idealize.ShloMosaic.Lib.Pointwise
public import Idealize.ShloMosaic.Lib.Claim
public import Idealize.ShloMosaic.Lib.Pipeline.ValueKit

/-! The rotation's tables. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

/-- The rotation's tables over one head, position `p`: cosines, sines with their sign at the left, sines at the right. -/
def tabC (p : ℕ) (l : ℕ) : EReal := if l < 16 then Ideal.cos (angle p (l % 8)) else 1
def tabA (p : ℕ) (l : ℕ) : EReal := if l < 8 then -Ideal.sin (angle p l) else 0
def tabB (p : ℕ) (l : ℕ) : EReal := if l < 8 then 0 else if l < 16 then Ideal.sin (angle p (l - 8)) else 0

end Cert.In

end
-- ==== Proof.In.Split.lean ====
module

public import proofs.«01_k».proof.Proof.Gen.Kernel3Ideal.Frame.Runs
public import proofs.«01_k».proof.Proof.In.Tables
public import Idealize.ShloMosaic.Lib.ValueIdx
public import Idealize.ShloMosaic.Lib.Pointwise
public import Idealize.ShloMosaic.Lib.Claim
public import Idealize.ShloMosaic.Lib.Pipeline.ValueKit

/-! The line of operations before the grid in two parts, and the cosines and sines it leaves. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable (m : (ℓ : Loc nD τ sig) → Buf (Elt Ideal) ℓ) (c : Dev nD)

/-- The host's line up to the cosines and sines, -/
def headOps : List (HloOp τ sig (Elt Ideal)) := hostOps0 ++ (hostOps0_1 ++ (hostOps0_2 ++ (hostOps0_3 ++ hostOps0_4.take 22)))
/-- the constant columns, -/
def midOps : List (HloOp τ sig (Elt Ideal)) := (hostOps0_4.drop 22).take 7
/-- one head's tables, -/
def catOps : List (HloOp τ sig (Elt Ideal)) := (hostOps0_4.drop 29).take 4
/-- and the rest. -/
def tailOps : List (HloOp τ sig (Elt Ideal)) := hostOps0_4.drop 33 ++ (hostOps0_5 ++ (hostOps0_6 ++ (hostOps0_7 ++ hostOps0_8)))

theorem run_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

theorem ops_split : List.flatten [hostOps0, hostOps0_1, hostOps0_2, hostOps0_3, hostOps0_4, hostOps0_5, hostOps0_6, hostOps0_7, hostOps0_8]
    = (headOps ++ (midOps ++ (catOps ++ tailOps)) : List (HloOp τ sig (Elt Ideal))) := rfl

theorem V_split (b : Ref sig .tc) : V m c b = StableHlo.after tailOps (StableHlo.after catOps (StableHlo.after midOps (StableHlo.after headOps fun b => m (c, b)))) b := by
  show StableHlo.after (List.flatten _) _ _ = _
  rw [ops_split, run_append, run_append, run_append]

set_option maxHeartbeats 4000000 in
theorem head_cos (s : Fin 8192) (j : Fin 8) : StableHlo.after headOps (fun b => m (c, b)) main_v28 (ix2 s j) = Ideal.cos (angle s.val j.val) := by
  simp only [headOps, hostOps0, hostOps0_1, hostOps0_2, hostOps0_3, hostOps0_4, List.take_succ_cons, List.take_zero, List.append_nil, List.cons_append, List.nil_append, StableHlo.after_cons, StableHlo.after_nil]
  after_results_simp
  after_results_loop
  pointwise [angle]
set_option maxHeartbeats 4000000 in
theorem head_sin (s : Fin 8192) (j : Fin 8) : StableHlo.after headOps (fun b => m (c, b)) main_v29 (ix2 s j) = Ideal.sin (angle s.val j.val) := by
  simp only [headOps, hostOps0, hostOps0_1, hostOps0_2, hostOps0_3, hostOps0_4, List.take_succ_cons, List.take_zero, List.append_nil, List.cons_append, List.nil_append, StableHlo.after_cons, StableHlo.after_nil]
  after_results_simp
  after_results_loop
  pointwise [angle]

end Cert.In

end
-- ==== Proof.In.TableM.lean ====
module

public import proofs.«01_k».proof.Proof.In.Split

/-! A table of the rotation, entry by entry. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable (m : (ℓ : Loc nD τ sig) → Buf (Elt Ideal) ℓ) (c : Dev nD)

set_option maxHeartbeats 2000000 in
theorem mid_v28 (W : Valuation τ sig (Elt Ideal)) (s : Fin 8192) (j : Fin 8) : (StableHlo.after midOps W main_v28 : Vec Ideal S8192x8 .f32) (ix2 s j) = (W main_v28 : Vec Ideal S8192x8 .f32) (ix2 s j) := by
  try simp only [midOps, hostOps0_4, List.take_succ_cons, List.take_zero, List.drop_succ_cons, List.drop_zero, List.append_nil, List.cons_append, List.nil_append, StableHlo.after_cons, StableHlo.after_nil]
  after_results_simp

set_option maxHeartbeats 2000000 in
theorem mid_v29 (W : Valuation τ sig (Elt Ideal)) (s : Fin 8192) (j : Fin 8) : (StableHlo.after midOps W main_v29 : Vec Ideal S8192x8 .f32) (ix2 s j) = (W main_v29 : Vec Ideal S8192x8 .f32) (ix2 s j) := by
  try simp only [midOps, hostOps0_4, List.take_succ_cons, List.take_zero, List.drop_succ_cons, List.drop_zero, List.append_nil, List.cons_append, List.nil_append, StableHlo.after_cons, StableHlo.after_nil]
  after_results_simp

set_option maxHeartbeats 2000000 in
theorem mid_v30 (W : Valuation τ sig (Elt Ideal)) (s : Fin 8192) (j : Fin 48) : (StableHlo.after midOps W main_v30 : Vec Ideal S8192x48 .f32) (ix2 s j) = (0 : EReal) := by
  try simp only [midOps, hostOps0_4, List.take_succ_cons, List.take_zero, List.drop_succ_cons, List.drop_zero, List.append_nil, List.cons_append, List.nil_append, StableHlo.after_cons, StableHlo.after_nil]
  after_results_simp
  pointwise
set_option maxHeartbeats 2000000 in
theorem mid_v31 (W : Valuation τ sig (Elt Ideal)) (s : Fin 8192) (j : Fin 8) : (StableHlo.after midOps W main_v31 : Vec Ideal S8192x8 .f32) (ix2 s j) = (0 : EReal) := by
  try simp only [midOps, hostOps0_4, List.take_succ_cons, List.take_zero, List.drop_succ_cons, List.drop_zero, List.append_nil, List.cons_append, List.nil_append, StableHlo.after_cons, StableHlo.after_nil]
  after_results_simp
  pointwise
set_option maxHeartbeats 2000000 in
theorem mid_v33 (W : Valuation τ sig (Elt Ideal)) (s : Fin 8192) (j : Fin 48) : (StableHlo.after midOps W main_v33 : Vec Ideal S8192x48 .f32) (ix2 s j) = (1 : EReal) := by
  try simp only [midOps, hostOps0_4, List.take_succ_cons, List.take_zero, List.drop_succ_cons, List.drop_zero, List.append_nil, List.cons_append, List.nil_append, StableHlo.after_cons, StableHlo.after_nil]
  after_results_simp
  pointwise

end Cert.In

end
-- ==== Proof.In.TableN.lean ====
module

public import proofs.«01_k».proof.Proof.In.Split

/-! A table of the rotation, entry by entry. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable (m : (ℓ : Loc nD τ sig) → Buf (Elt Ideal) ℓ) (c : Dev nD)

set_option maxHeartbeats 2000000 in
theorem cat_v34 (W : Valuation τ sig (Elt Ideal)) (s : Fin 8192) (l : Fin 64) : (StableHlo.after catOps W main_v34 : Vec Ideal S8192x64 .f32) (ix2 s l) = (if h : l.val < 8 then ((W main_v28 : Vec Ideal S8192x8 .f32) (ix2 s ⟨l.val, by omega⟩) : EReal) else if h2 : l.val < 16 then ((W main_v28 : Vec Ideal S8192x8 .f32) (ix2 s ⟨l.val - 8, by omega⟩) : EReal) else ((W main_v33 : Vec Ideal S8192x48 .f32) (ix2 s ⟨l.val - 16, by omega⟩) : EReal)) := by
  simp only [catOps, hostOps0_4, List.take_succ_cons, List.take_zero, List.drop_succ_cons, List.drop_zero, List.append_nil, List.cons_append, List.nil_append, StableHlo.after_cons, StableHlo.after_nil]
  after_results_simp
  pointwise
  try after_results_simp
  have hl := l.isLt
  by_cases h : l.val < 8
  · first
    | (rw [dif_pos h, dif_pos h]; done)
    | (rw [dif_pos h, dif_pos h]; rfl)
  · rw [dif_neg h, dif_neg h]
    by_cases h2 : l.val < 16
    · rw [dif_pos (by omega), dif_pos h2]
    · rw [dif_neg (by omega), dif_neg h2]
      exact congrArg _ ((ix2_inj ..).2 ⟨rfl, Fin.ext (by show l.val - 8 - 8 = l.val - 16; omega)⟩)
set_option maxHeartbeats 2000000 in
theorem cat_v36 (W : Valuation τ sig (Elt Ideal)) (s : Fin 8192) (l : Fin 64) : (StableHlo.after catOps W main_v36 : Vec Ideal S8192x64 .f32) (ix2 s l) = (if h : l.val < 8 then Neg.neg (α := EReal) ((W main_v29 : Vec Ideal S8192x8 .f32) (ix2 s ⟨l.val, by omega⟩)) else if h2 : l.val < 16 then ((W main_v31 : Vec Ideal S8192x8 .f32) (ix2 s ⟨l.val - 8, by omega⟩) : EReal) else ((W main_v30 : Vec Ideal S8192x48 .f32) (ix2 s ⟨l.val - 16, by omega⟩) : EReal)) := by
  simp only [catOps, hostOps0_4, List.take_succ_cons, List.take_zero, List.drop_succ_cons, List.drop_zero, List.append_nil, List.cons_append, List.nil_append, StableHlo.after_cons, StableHlo.after_nil]
  after_results_simp
  pointwise
  try after_results_simp
  have hl := l.isLt
  by_cases h : l.val < 8
  · first
    | (rw [dif_pos h, dif_pos h]; done)
    | (rw [dif_pos h, dif_pos h]; rfl)
  · rw [dif_neg h, dif_neg h]
    by_cases h2 : l.val < 16
    · rw [dif_pos (by omega), dif_pos h2]
    · rw [dif_neg (by omega), dif_neg h2]
      exact congrArg _ ((ix2_inj ..).2 ⟨rfl, Fin.ext (by show l.val - 8 - 8 = l.val - 16; omega)⟩)
set_option maxHeartbeats 2000000 in
theorem cat_v37 (W : Valuation τ sig (Elt Ideal)) (s : Fin 8192) (l : Fin 64) : (StableHlo.after catOps W main_v37 : Vec Ideal S8192x64 .f32) (ix2 s l) = (if h : l.val < 8 then ((W main_v31 : Vec Ideal S8192x8 .f32) (ix2 s ⟨l.val, by omega⟩) : EReal) else if h2 : l.val < 16 then ((W main_v29 : Vec Ideal S8192x8 .f32) (ix2 s ⟨l.val - 8, by omega⟩) : EReal) else ((W main_v30 : Vec Ideal S8192x48 .f32) (ix2 s ⟨l.val - 16, by omega⟩) : EReal)) := by
  simp only [catOps, hostOps0_4, List.take_succ_cons, List.take_zero, List.drop_succ_cons, List.drop_zero, List.append_nil, List.cons_append, List.nil_append, StableHlo.after_cons, StableHlo.after_nil]
  after_results_simp
  pointwise
  try after_results_simp
  have hl := l.isLt
  by_cases h : l.val < 8
  · first
    | (rw [dif_pos h, dif_pos h]; done)
    | (rw [dif_pos h, dif_pos h]; rfl)
  · rw [dif_neg h, dif_neg h]
    by_cases h2 : l.val < 16
    · rw [dif_pos (by omega), dif_pos h2]
    · rw [dif_neg (by omega), dif_neg h2]
      exact congrArg _ ((ix2_inj ..).2 ⟨rfl, Fin.ext (by show l.val - 8 - 8 = l.val - 16; omega)⟩)

end Cert.In

end
-- ==== Proof.In.TableE.lean ====
module

public import proofs.«01_k».proof.Proof.In.Split

/-! A table of the rotation, entry by entry. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable (m : (ℓ : Loc nD τ sig) → Buf (Elt Ideal) ℓ) (c : Dev nD)

set_option maxHeartbeats 2000000 in
theorem end_v38 (W : Valuation τ sig (Elt Ideal)) (s : Fin 8192) (n : Fin 128) : (StableHlo.after tailOps W main_v38 : Vec Ideal S8192x128 .f32) (ix2 s n) = (W main_v34 : Vec Ideal S8192x64 .f32) (ix2 s ⟨n.val % 64, by omega⟩) := by
  simp only [tailOps, hostOps0_4, hostOps0_5, hostOps0_6, hostOps0_7, hostOps0_8, List.take_succ_cons, List.take_zero, List.drop_succ_cons, List.drop_zero, List.append_nil, List.cons_append, List.nil_append, StableHlo.after_cons, StableHlo.after_nil]
  after_results_simp
  pointwise
  have hn := n.isLt
  by_cases h : n.val < 64
  · rw [dif_pos h]
    exact congrArg _ ((ix2_inj ..).2 ⟨rfl, Fin.ext (by show n.val = n.val % 64; omega)⟩)
  · rw [dif_neg h]
    exact congrArg _ ((ix2_inj ..).2 ⟨rfl, Fin.ext (by show n.val - 64 = n.val % 64; omega)⟩)
set_option maxHeartbeats 2000000 in
theorem end_v39 (W : Valuation τ sig (Elt Ideal)) (s : Fin 8192) (n : Fin 128) : (StableHlo.after tailOps W main_v39 : Vec Ideal S8192x128 .f32) (ix2 s n) = (W main_v36 : Vec Ideal S8192x64 .f32) (ix2 s ⟨n.val % 64, by omega⟩) := by
  simp only [tailOps, hostOps0_4, hostOps0_5, hostOps0_6, hostOps0_7, hostOps0_8, List.take_succ_cons, List.take_zero, List.drop_succ_cons, List.drop_zero, List.append_nil, List.cons_append, List.nil_append, StableHlo.after_cons, StableHlo.after_nil]
  after_results_simp
  pointwise
  have hn := n.isLt
  by_cases h : n.val < 64
  · rw [dif_pos h]
    exact congrArg _ ((ix2_inj ..).2 ⟨rfl, Fin.ext (by show n.val = n.val % 64; omega)⟩)
  · rw [dif_neg h]
    exact congrArg _ ((ix2_inj ..).2 ⟨rfl, Fin.ext (by show n.val - 64 = n.val % 64; omega)⟩)
set_option maxHeartbeats 2000000 in
theorem end_v40 (W : Valuation τ sig (Elt Ideal)) (s : Fin 8192) (n : Fin 128) : (StableHlo.after tailOps W main_v40 : Vec Ideal S8192x128 .f32) (ix2 s n) = (W main_v37 : Vec Ideal S8192x64 .f32) (ix2 s ⟨n.val % 64, by omega⟩) := by
  simp only [tailOps, hostOps0_4, hostOps0_5, hostOps0_6, hostOps0_7, hostOps0_8, List.take_succ_cons, List.take_zero, List.drop_succ_cons, List.drop_zero, List.append_nil, List.cons_append, List.nil_append, StableHlo.after_cons, StableHlo.after_nil]
  after_results_simp
  pointwise
  have hn := n.isLt
  by_cases h : n.val < 64
  · rw [dif_pos h]
    exact congrArg _ ((ix2_inj ..).2 ⟨rfl, Fin.ext (by show n.val = n.val % 64; omega)⟩)
  · rw [dif_neg h]
    exact congrArg _ ((ix2_inj ..).2 ⟨rfl, Fin.ext (by show n.val - 64 = n.val % 64; omega)⟩)

end Cert.In

end
-- ==== Proof.In.Tabs.lean ====
module

public import proofs.«01_k».proof.Proof.In.TableM
public import proofs.«01_k».proof.Proof.In.TableN
public import proofs.«01_k».proof.Proof.In.TableE

/-! The rotation's tables as arrays, entry by entry. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable (m : (ℓ : Loc nD τ sig) → Buf (Elt Ideal) ℓ) (c : Dev nD)

variable (s : Fin 8192) (n : Fin 128)

/-- The cosine's array, -/
theorem host10 : V m c main_v38 (ix2 s n) = tabC s.val (n.val % 64) := by
  rw [V_split m c main_v38]
  refine (end_v38 _ s n).trans ((cat_v34 _ s _).trans ?_)
  unfold tabC
  by_cases h : n.val % 64 < 8
  · rw [dif_pos h, if_pos (by omega), Nat.mod_eq_of_lt h]
    exact (mid_v28 _ s _).trans (head_cos m c s _)
  · rw [dif_neg h]
    by_cases h2 : n.val % 64 < 16
    · rw [dif_pos h2, if_pos h2, show n.val % 64 % 8 = n.val % 64 - 8 by omega]
      exact (mid_v28 _ s _).trans (head_cos m c s _)
    · rw [dif_neg h2, if_neg h2]
      exact mid_v33 _ s _
/-- the left sines', -/
theorem host11 : V m c main_v39 (ix2 s n) = tabA s.val (n.val % 64) := by
  rw [V_split m c main_v39]
  refine (end_v39 _ s n).trans ((cat_v36 _ s _).trans ?_)
  unfold tabA
  by_cases h : n.val % 64 < 8
  · rw [dif_pos h, if_pos h]
    exact congrArg (fun x : EReal => -x) ((mid_v29 _ s _).trans (head_sin m c s _))
  · rw [dif_neg h, if_neg h]
    by_cases h2 : n.val % 64 < 16
    · rw [dif_pos h2]
      exact mid_v31 _ s _
    · rw [dif_neg h2]
      exact mid_v30 _ s _
/-- and the right sines'. -/
theorem host12 : V m c main_v40 (ix2 s n) = tabB s.val (n.val % 64) := by
  rw [V_split m c main_v40]
  refine (end_v40 _ s n).trans ((cat_v37 _ s _).trans ?_)
  unfold tabB
  by_cases h : n.val % 64 < 8
  · rw [dif_pos h, if_pos h]
    exact mid_v31 _ s _
  · rw [dif_neg h, if_neg h]
    by_cases h2 : n.val % 64 < 16
    · rw [dif_pos h2, if_pos h2]
      exact (mid_v29 _ s _).trans (head_sin m c s _)
    · rw [dif_neg h2, if_neg h2]
      exact mid_v30 _ s _

end Cert.In

end
-- ==== Proof.In.Select.lean ====
module

public import proofs.«01_k».proof.Proof.Gen.Kernel3Ideal.Frame.Runs
public import proofs.«01_k».proof.Proof.In.Spec
public import Idealize.ShloMosaic.Lib.ValueIdx
public import Idealize.ShloMosaic.Lib.Pointwise
public import Idealize.ShloMosaic.Lib.Claim
public import Idealize.ShloMosaic.Lib.Pipeline.ValueKit

/-! Entries of the block averages and of the padded weights. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

/-- Equal head numbers. -/
theorem heads_eq (a b : ℕ) (ha : a < 4096) (hb : b < 4096) : (BitVec.ofNat 32 (a / 64) = BitVec.ofNat 32 (b / 64)) ↔ a / 64 = b / 64 := by
  constructor
  · intro h
    have h' := congrArg BitVec.toNat h
    simp only [BitVec.toNat_ofNat] at h'
    omega
  · intro h
    rw [h]

theorem sel512 (k n : Fin 512) : select (cmpi .eq
      (broadcastInDim S512x512 ![0, 1] bcast_S512x1_S512x512_0_1 (broadcastInDim S512x1 ![0] bcast_S512_S512x1_0 (fun i => BitVec.ofNat 32 ((i 0).val / 64) : Vec Ideal S512 .i32)))
      (broadcastInDim S512x512 ![0, 1] bcast_S1x512_S512x512_0_1 (broadcastInDim S1x512 ![1] bcast_S512_S1x512_1 (fun i => BitVec.ofNat 32 ((i 0).val / 64) : Vec Ideal S512 .i32))))
      (broadcastInDim S512x512 ![] bcast_S_S512x512 (constant (F := Ideal) S_ .f32 0x3C800000#32))
      (broadcastInDim S512x512 ![] bcast_S_S512x512 (constant (F := Ideal) S_ .f32 0x00000000#32)) (ix2 k n)
    = (if k.val / 64 = n.val / 64 then Ideal.ofBits .f32 0x3C800000#32 else 0 : EReal) := by
  pointwise
  by_cases h : k.val / 64 = n.val / 64
  · have e : IntOp.cmpi CmpIPredicate.eq (BitVec.ofNat 32 (k.val / 64)) (BitVec.ofNat 32 (n.val / 64)) = 1#1 := by
      rw [h]
      simp [IntOp.cmpi]
    rw [e, if_pos h]
    rfl
  · have hne : BitVec.ofNat 32 (k.val / 64) ≠ BitVec.ofNat 32 (n.val / 64) := fun e => h ((heads_eq k.val n.val (by omega) (by omega)).1 e)
    have e : IntOp.cmpi CmpIPredicate.eq (BitVec.ofNat 32 (k.val / 64)) (BitVec.ofNat 32 (n.val / 64)) = 0#1 := by
      show BitVec.ofBool (_ == _) = _
      rw [beq_eq_false_iff_ne.2 hne]
      rfl
    rw [e, if_neg h]
    rfl
theorem sel128 (k n : Fin 128) : select (cmpi .eq
      (broadcastInDim S128x128 ![0, 1] bcast_S128x1_S128x128_0_1 (broadcastInDim S128x1 ![0] bcast_S128_S128x1_0 (fun i => BitVec.ofNat 32 ((i 0).val / 64) : Vec Ideal S128 .i32)))
      (broadcastInDim S128x128 ![0, 1] bcast_S1x128_S128x128_0_1 (broadcastInDim S1x128 ![1] bcast_S128_S1x128_1 (fun i => BitVec.ofNat 32 ((i 0).val / 64) : Vec Ideal S128 .i32))))
      (broadcastInDim S128x128 ![] bcast_S_S128x128 (constant (F := Ideal) S_ .f32 0x3C800000#32))
      (broadcastInDim S128x128 ![] bcast_S_S128x128 (constant (F := Ideal) S_ .f32 0x00000000#32)) (ix2 k n)
    = (if k.val / 64 = n.val / 64 then Ideal.ofBits .f32 0x3C800000#32 else 0 : EReal) := by
  pointwise
  by_cases h : k.val / 64 = n.val / 64
  · have e : IntOp.cmpi CmpIPredicate.eq (BitVec.ofNat 32 (k.val / 64)) (BitVec.ofNat 32 (n.val / 64)) = 1#1 := by
      rw [h]
      simp [IntOp.cmpi]
    rw [e, if_pos h]
    rfl
  · have hne : BitVec.ofNat 32 (k.val / 64) ≠ BitVec.ofNat 32 (n.val / 64) := fun e => h ((heads_eq k.val n.val (by omega) (by omega)).1 e)
    have e : IntOp.cmpi CmpIPredicate.eq (BitVec.ofNat 32 (k.val / 64)) (BitVec.ofNat 32 (n.val / 64)) = 0#1 := by
      show BitVec.ofBool (_ == _) = _
      rw [beq_eq_false_iff_ne.2 hne]
      rfl
    rw [e, if_neg h]
    rfl
theorem pad_lo (x : Vec Ideal S1024x2840 .f32) (k : Fin 1024) (n : Fin 128) :
    pad S1024x128 ![0, 0] ![0, 116] ![0, 0] (extractStridedSlice S1024x12 ![0, 1280] x slices_S1024x2840_S1024x12_0_1280)
      (sitofp (F := Ideal) .f32 (constantI S_ 32 0#32)) pads_S1024x12_S1024x128_000_01160 h_S_ (ix2 k n)
    = if h : n.val < 12 then x (ix2 k ⟨1280 + n.val, by omega⟩) else (0 : EReal) := by
  have z : FloatOps.sitofp (F := Ideal) FTy.f32 (0#32) = (0 : EReal) := by
    show (((0#32 : BitVec 32).toInt : ℝ) : EReal) = 0
    simp
  pointwise
  rw [z]
theorem pad_hi (x : Vec Ideal S1024x2840 .f32) (k : Fin 1024) (n : Fin 128) :
    pad S1024x128 ![0, 0] ![0, 116] ![0, 0] (extractStridedSlice S1024x12 ![0, 1292] x slices_S1024x2840_S1024x12_0_1292)
      (sitofp (F := Ideal) .f32 (constantI S_ 32 0#32)) pads_S1024x12_S1024x128_000_01160 h_S_ (ix2 k n)
    = if h : n.val < 12 then x (ix2 k ⟨1292 + n.val, by omega⟩) else (0 : EReal) := by
  have z : FloatOps.sitofp (F := Ideal) FTy.f32 (0#32) = (0 : EReal) := by
    show (((0#32 : BitVec 32).toInt : ℝ) : EReal) = 0
    simp
  pointwise
  rw [z]

end Cert.In

end
-- ==== Proof.In.Host1.lean ====
module

public import proofs.«01_k».proof.Proof.Gen.Kernel3Ideal.Frame.Runs
public import proofs.«01_k».proof.Proof.In.Select
public import Idealize.ShloMosaic.Lib.ValueIdx
public import Idealize.ShloMosaic.Lib.Pointwise
public import Idealize.ShloMosaic.Lib.Claim
public import Idealize.ShloMosaic.Lib.Pipeline.ValueKit

/-! The contents of arrays made before the grid starts, entry by entry. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable (m : (ℓ : Loc nD τ sig) → Buf (Elt Ideal) ℓ) (c : Dev nD)

set_option maxHeartbeats 4000000 in
theorem host1 (n : Fin 1024) : V m c main_v63 (ix2 0 n) = m ((c : Thread nD τ).loc main_arg1) (ix1 n) := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  after_results_loop
  pointwise

set_option maxHeartbeats 4000000 in
theorem host2 (k : Fin 1024) (n : Fin 512) : V m c main_v2 (ix2 k n) = m ((c : Thread nD τ).loc main_arg2) (ix2 k ⟨n.val, by omega⟩) := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  after_results_loop
  pointwise

set_option maxHeartbeats 4000000 in
theorem host3 (k : Fin 1024) (n : Fin 768) : V m c main_v4 (ix2 k n) = m ((c : Thread nD τ).loc main_arg2) (ix2 k ⟨512 + n.val, by omega⟩) := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  after_results_loop
  pointwise

set_option maxHeartbeats 4000000 in
theorem host5 (k : Fin 1024) (n : Fin 1536) : V m c main_v6 (ix2 k n) = m ((c : Thread nD τ).loc main_arg2) (ix2 k ⟨1304 + n.val, by omega⟩) := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  after_results_loop
  pointwise

end Cert.In

end
-- ==== Proof.In.Host2.lean ====
module

public import proofs.«01_k».proof.Proof.Gen.Kernel3Ideal.Frame.Runs
public import proofs.«01_k».proof.Proof.In.Select
public import Idealize.ShloMosaic.Lib.ValueIdx
public import Idealize.ShloMosaic.Lib.Pointwise
public import Idealize.ShloMosaic.Lib.Claim
public import Idealize.ShloMosaic.Lib.Pipeline.ValueKit

/-! The contents of arrays made before the grid starts, entry by entry. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable (m : (ℓ : Loc nD τ sig) → Buf (Elt Ideal) ℓ) (c : Dev nD)

set_option maxHeartbeats 4000000 in
theorem host4 (k : Fin 1024) (n : Fin 256) : V m c main_v12 (ix2 k n) = if h : n.val % 128 < 12 then (m ((c : Thread nD τ).loc main_arg2) (ix2 k ⟨1280 + (n.val / 128 * 12 + n.val % 128), by omega⟩) : EReal) else (0 : EReal) := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  after_results_loop
  pointwise
  have hn := n.isLt
  by_cases h : n.val < 128
  · rw [dif_pos h]
    refine (pad_lo _ k ⟨n.val, h⟩).trans ?_
    show (if h : n.val < 12 then _ else (0 : EReal)) = _
    by_cases h2 : n.val < 12
    · rw [dif_pos h2, dif_pos (by omega)]
      exact congrArg _ ((ix2_inj ..).2 ⟨rfl, Fin.ext (by show 1280 + n.val = 1280 + (n.val / 128 * 12 + n.val % 128); omega)⟩)
    · rw [dif_neg h2, dif_neg (by omega)]
  · rw [dif_neg h]
    refine (pad_hi _ k ⟨n.val - 128, by omega⟩).trans ?_
    show (if h : n.val - 128 < 12 then _ else (0 : EReal)) = _
    by_cases h2 : n.val - 128 < 12
    · rw [dif_pos h2, dif_pos (by omega)]
      exact congrArg _ ((ix2_inj ..).2 ⟨rfl, Fin.ext (by show 1292 + (n.val - 128) = 1280 + (n.val / 128 * 12 + n.val % 128); omega)⟩)
    · rw [dif_neg h2, dif_neg (by omega)]

end Cert.In

end
-- ==== Proof.In.Host3.lean ====
module

public import proofs.«01_k».proof.Proof.Gen.Kernel3Ideal.Frame.Runs
public import proofs.«01_k».proof.Proof.In.Select
public import Idealize.ShloMosaic.Lib.ValueIdx
public import Idealize.ShloMosaic.Lib.Pointwise
public import Idealize.ShloMosaic.Lib.Claim
public import Idealize.ShloMosaic.Lib.Pipeline.ValueKit

/-! The contents of arrays made before the grid starts, entry by entry. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable (m : (ℓ : Loc nD τ sig) → Buf (Elt Ideal) ℓ) (c : Dev nD)

set_option maxHeartbeats 4000000 in
theorem host6 (n : Fin 512) : V m c main_v67 (ix2 0 n) = m ((c : Thread nD τ).loc main_arg3) (ix1 ⟨n.val % 64, by omega⟩) := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  after_results_loop
  pointwise

set_option maxHeartbeats 4000000 in
theorem host7 (r : Fin 2) (n : Fin 128) : V m c main_v80 (ix2 r n) = m ((c : Thread nD τ).loc main_arg4) (ix2 ⟨r.val + 1, by omega⟩ ⟨n.val % 64, by omega⟩) := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  after_results_loop
  pointwise
  obtain ⟨r, hr⟩ := r
  match r, hr with
  | 0, _ => rfl
  | 1, _ => rfl

set_option maxHeartbeats 4000000 in
theorem host14 (n : Fin 512) : V m c main_v81 (ix2 0 n) = m ((c : Thread nD τ).loc main_arg6) (ix1 n) := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  after_results_loop
  pointwise

end Cert.In

end
-- ==== Proof.In.Host4.lean ====
module

public import proofs.«01_k».proof.Proof.Gen.Kernel3Ideal.Frame.Runs
public import proofs.«01_k».proof.Proof.In.Select
public import Idealize.ShloMosaic.Lib.ValueIdx
public import Idealize.ShloMosaic.Lib.Pointwise
public import Idealize.ShloMosaic.Lib.Claim
public import Idealize.ShloMosaic.Lib.Pipeline.ValueKit

/-! The contents of arrays made before the grid starts, entry by entry. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable (m : (ℓ : Loc nD τ sig) → Buf (Elt Ideal) ℓ) (c : Dev nD)

set_option maxHeartbeats 4000000 in
theorem host8 (k n : Fin 512) : V m c main_v51 (ix2 k n) = (if k.val / 64 = n.val / 64 then Ideal.ofBits .f32 0x3C800000#32 else 0 : EReal) := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  after_results_loop
  pointwise
  exact sel512 k n

end Cert.In

end
-- ==== Proof.In.Host5.lean ====
module

public import proofs.«01_k».proof.Proof.Gen.Kernel3Ideal.Frame.Runs
public import proofs.«01_k».proof.Proof.In.Select
public import Idealize.ShloMosaic.Lib.ValueIdx
public import Idealize.ShloMosaic.Lib.Pointwise
public import Idealize.ShloMosaic.Lib.Claim
public import Idealize.ShloMosaic.Lib.Pipeline.ValueKit

/-! The contents of arrays made before the grid starts, entry by entry. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable (m : (ℓ : Loc nD τ sig) → Buf (Elt Ideal) ℓ) (c : Dev nD)

set_option maxHeartbeats 4000000 in
theorem host9 (k n : Fin 128) : V m c main_v62 (ix2 k n) = (if k.val / 64 = n.val / 64 then Ideal.ofBits .f32 0x3C800000#32 else 0 : EReal) := by
  simp only [V, hostOps0, hostOps0_1, hostOps0_2, hostOps0_3, hostOps0_4, hostOps0_5, hostOps0_6, hostOps0_7, hostOps0_8, List.flatten_cons, List.flatten_nil, List.append_nil, List.cons_append, List.nil_append, StableHlo.after_cons, StableHlo.after_nil]
  after_results_simp
  after_results_loop
  pointwise
  exact sel128 k n

end Cert.In

end
-- ==== Proof.In.Blocks.lean ====
module

public import proofs.«01_k».proof.Proof.In.Tabs
public import proofs.«01_k».proof.Proof.In.Host1
public import proofs.«01_k».proof.Proof.In.Host2
public import proofs.«01_k».proof.Proof.In.Host3
public import proofs.«01_k».proof.Proof.In.Host4
public import proofs.«01_k».proof.Proof.In.Host5
public import Idealize.ShloMosaic.Lib.ValueIdx
public import Idealize.ShloMosaic.Lib.Pointwise
public import Idealize.ShloMosaic.Lib.Claim
public import Idealize.ShloMosaic.Lib.Pipeline.ValueKit

/-! What each window's block holds of the arguments. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable (m : (ℓ : Loc nD τ sig) → Buf (Elt Ideal) ℓ) (c : Dev nD) (t : Fin cfg0.N)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val % 32, 0] := (by decide +kernel : ∀ t : Fin grid0.N, _)
theorem idx11 : ∀ t : Fin cfg0.N, win0_11.index t = ![t.val % 32, 0] := (by decide +kernel : ∀ t : Fin grid0.N, _)
theorem idx12 : ∀ t : Fin cfg0.N, win0_12.index t = ![t.val % 32, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)
theorem idx17 : ∀ t : Fin cfg0.N, win0_17.index t = ![t.val, 0] := (by decide +kernel : ∀ t : Fin grid0.N, _)
theorem idx18 : ∀ t : Fin cfg0.N, win0_18.index t = ![t.val / 32, 0, t.val % 32, 0] := (by decide +kernel : ∀ t : Fin grid0.N, _)
theorem idx19 : ∀ t : Fin cfg0.N, win0_19.index t = ![t.val / 32, 0, t.val % 32, 0] := (by decide +kernel : ∀ t : Fin grid0.N, _)
theorem idx20 : ∀ t : Fin cfg0.N, win0_20.index t = ![t.val / 32, 0, t.val % 32, 0] := (by decide +kernel : ∀ t : Fin grid0.N, _)
theorem idx21 : ∀ t : Fin cfg0.N, win0_21.index t = ![t.val / 32, 0, t.val % 32, 0] := (by decide +kernel : ∀ t : Fin grid0.N, _)
theorem idx22 : ∀ t : Fin cfg0.N, win0_22.index t = ![t.val, 0] := (by decide +kernel : ∀ t : Fin grid0.N, _)
theorem idx23 : ∀ t : Fin cfg0.N, win0_23.index t = ![t.val, 0] := (by decide +kernel : ∀ t : Fin grid0.N, _)

/-- The sequence of row `q` of tile `k`, -/
def bq (k : ℕ) (q : Fin 256) : Fin 2 := ⟨(256 * k + q.val) / 8192 % 2, Nat.mod_lt _ (by decide)⟩
/-- its place in the sequence, -/
def sq (k : ℕ) (q : Fin 256) : Fin 8192 := ⟨(256 * k + q.val) % 8192, Nat.mod_lt _ (by decide)⟩
/-- and the row in the flattened array. -/
def rq (k : ℕ) (q : Fin 256) : Fin 16384 := ⟨(256 * k + q.val) % 16384, Nat.mod_lt _ (by decide)⟩

theorem rows1024 (x : Vec Ideal S2x8192x1024 .f32) (k : ℕ) (q : Fin 256) (n : Fin 1024) :
    shapeCast S16384x1024 x shapeCasts_S2x8192x1024_S16384x1024 (ix2 (rq k q) n) = x (ix3 (bq k q) (sq k q) n) := by
  generalize hr : rq k q = r
  have hv : r.val = (256 * k + q.val) % 16384 := by rw [← hr]; rfl
  pointwise
  refine congrArg x ((ix3_inj ..).2 ⟨Fin.ext ?_, Fin.ext ?_, rfl⟩)
  · show r.val / 8192 = (256 * k + q.val) / 8192 % 2
    omega
  · show r.val % 8192 = (256 * k + q.val) % 8192
    omega

theorem blk0 (q : Fin 256) (n : Fin 1024) : (iblk m c 0 t : Vec Ideal _ _) (ix2 q n) = m ((c : Thread nD τ).loc main_arg0) (ix3 (bq t.val q) (sq t.val q) n) := by
  have ht : t.val < 64 := t.isLt
  have e : (win0_0.blk t).view.emb (ix2 q n) = (ix2 (rq t.val q) n : S16384x1024.Idx) := by blk_ext [idx0 t, rq]
  unfold iblk
  entry_read
  show shapeCast S16384x1024 (m ((c : Thread nD τ).loc main_arg0)) _ ((win0_0.blk t).view.emb (ix2 q n)) = _
  rw [e]
  exact rows1024 _ _ _ _
theorem blk1 (n : Fin 1024) : (iblk m c 1 t : Vec Ideal _ _) (ix2 0 n) = m ((c : Thread nD τ).loc main_arg1) (ix1 n) := by
  have ht : t.val < 64 := t.isLt
  have e : (win0_1.blk t).view.emb (ix2 0 n) = (ix2 0 n : S1x1024.Idx) := by blk_ext [idx1 t]
  have h : (iblk m c 1 t : Vec Ideal _ _) (ix2 0 n) = V m c main_v63 ((win0_1.blk t).view.emb (ix2 0 n)) := rfl
  rw [h, e]
  exact host1 m c n
theorem blk2 (k : Fin 1024) (n : Fin 512) : (iblk m c 2 t : Vec Ideal _ _) (ix2 k n) = m ((c : Thread nD τ).loc main_arg2) (ix2 k ⟨n.val, by omega⟩) := by
  have ht : t.val < 64 := t.isLt
  have e : (win0_2.blk t).view.emb (ix2 k n) = (ix2 k n : S1024x512.Idx) := by blk_ext [idx2 t]
  have h : (iblk m c 2 t : Vec Ideal _ _) (ix2 k n) = V m c main_v2 ((win0_2.blk t).view.emb (ix2 k n)) := rfl
  rw [h, e]
  exact host2 m c k n
theorem blk3 (k : Fin 1024) (n : Fin 768) : (iblk m c 3 t : Vec Ideal _ _) (ix2 k n) = m ((c : Thread nD τ).loc main_arg2) (ix2 k ⟨512 + n.val, by omega⟩) := by
  have ht : t.val < 64 := t.isLt
  have e : (win0_3.blk t).view.emb (ix2 k n) = (ix2 k n : S1024x768.Idx) := by blk_ext [idx3 t]
  have h : (iblk m c 3 t : Vec Ideal _ _) (ix2 k n) = V m c main_v4 ((win0_3.blk t).view.emb (ix2 k n)) := rfl
  rw [h, e]
  exact host3 m c k n
theorem blk4 (k : Fin 1024) (n : Fin 256) : (iblk m c 4 t : Vec Ideal _ _) (ix2 k n) = if h : n.val % 128 < 12 then (m ((c : Thread nD τ).loc main_arg2) (ix2 k ⟨1280 + (n.val / 128 * 12 + n.val % 128), by omega⟩) : EReal) else (0 : EReal) := by
  have ht : t.val < 64 := t.isLt
  have e : (win0_4.blk t).view.emb (ix2 k n) = (ix2 k n : S1024x256.Idx) := by blk_ext [idx4 t]
  have h : (iblk m c 4 t : Vec Ideal _ _) (ix2 k n) = V m c main_v12 ((win0_4.blk t).view.emb (ix2 k n)) := rfl
  rw [h, e]
  exact host4 m c k n
theorem blk5 (k : Fin 1024) (n : Fin 1536) : (iblk m c 5 t : Vec Ideal _ _) (ix2 k n) = m ((c : Thread nD τ).loc main_arg2) (ix2 k ⟨1304 + n.val, by omega⟩) := by
  have ht : t.val < 64 := t.isLt
  have e : (win0_5.blk t).view.emb (ix2 k n) = (ix2 k n : S1024x1536.Idx) := by blk_ext [idx5 t]
  have h : (iblk m c 5 t : Vec Ideal _ _) (ix2 k n) = V m c main_v6 ((win0_5.blk t).view.emb (ix2 k n)) := rfl
  rw [h, e]
  exact host5 m c k n
theorem blk6 (n : Fin 512) : (iblk m c 6 t : Vec Ideal _ _) (ix2 0 n) = m ((c : Thread nD τ).loc main_arg3) (ix1 ⟨n.val % 64, by omega⟩) := by
  have ht : t.val < 64 := t.isLt
  have e : (win0_6.blk t).view.emb (ix2 0 n) = (ix2 0 n : S1x512.Idx) := by blk_ext [idx6 t]
  have h : (iblk m c 6 t : Vec Ideal _ _) (ix2 0 n) = V m c main_v67 ((win0_6.blk t).view.emb (ix2 0 n)) := rfl
  rw [h, e]
  exact host6 m c n
theorem blk7 (r : Fin 2) (n : Fin 128) : (iblk m c 7 t : Vec Ideal _ _) (ix2 r n) = m ((c : Thread nD τ).loc main_arg4) (ix2 ⟨r.val + 1, by omega⟩ ⟨n.val % 64, by omega⟩) := by
  have ht : t.val < 64 := t.isLt
  have e : (win0_7.blk t).view.emb (ix2 r n) = (ix2 r n : S2x128.Idx) := by blk_ext [idx7 t]
  have h : (iblk m c 7 t : Vec Ideal _ _) (ix2 r n) = V m c main_v80 ((win0_7.blk t).view.emb (ix2 r n)) := rfl
  rw [h, e]
  exact host7 m c r n
theorem blk8 (k n : Fin 512) : (iblk m c 8 t : Vec Ideal _ _) (ix2 k n) = (if k.val / 64 = n.val / 64 then Ideal.ofBits .f32 0x3C800000#32 else 0 : EReal) := by
  have ht : t.val < 64 := t.isLt
  have e : (win0_8.blk t).view.emb (ix2 k n) = (ix2 k n : S512x512.Idx) := by blk_ext [idx8 t]
  have h : (iblk m c 8 t : Vec Ideal _ _) (ix2 k n) = V m c main_v51 ((win0_8.blk t).view.emb (ix2 k n)) := rfl
  rw [h, e]
  exact host8 m c k n
theorem blk9 (k n : Fin 128) : (iblk m c 9 t : Vec Ideal _ _) (ix2 k n) = (if k.val / 64 = n.val / 64 then Ideal.ofBits .f32 0x3C800000#32 else 0 : EReal) := by
  have ht : t.val < 64 := t.isLt
  have e : (win0_9.blk t).view.emb (ix2 k n) = (ix2 k n : S128x128.Idx) := by blk_ext [idx9 t]
  have h : (iblk m c 9 t : Vec Ideal _ _) (ix2 k n) = V m c main_v62 ((win0_9.blk t).view.emb (ix2 k n)) := rfl
  rw [h, e]
  exact host9 m c k n
theorem blk10 (q : Fin 256) (n : Fin 128) : (iblk m c 10 t : Vec Ideal _ _) (ix2 q n) = tabC (sq t.val q).val (n.val % 64) := by
  have ht : t.val < 64 := t.isLt
  have e : (win0_10.blk t).view.emb (ix2 q n) = (ix2 (sq t.val q) n : S8192x128.Idx) := by blk_ext [idx10 t, sq]
  have h : (iblk m c 10 t : Vec Ideal _ _) (ix2 q n) = V m c main_v38 ((win0_10.blk t).view.emb (ix2 q n)) := rfl
  rw [h, e]
  exact host10 m c (sq t.val q) n
theorem blk11 (q : Fin 256) (n : Fin 128) : (iblk m c 11 t : Vec Ideal _ _) (ix2 q n) = tabA (sq t.val q).val (n.val % 64) := by
  have ht : t.val < 64 := t.isLt
  have e : (win0_11.blk t).view.emb (ix2 q n) = (ix2 (sq t.val q) n : S8192x128.Idx) := by blk_ext [idx11 t, sq]
  have h : (iblk m c 11 t : Vec Ideal _ _) (ix2 q n) = V m c main_v39 ((win0_11.blk t).view.emb (ix2 q n)) := rfl
  rw [h, e]
  exact host11 m c (sq t.val q) n
theorem blk12 (q : Fin 256) (n : Fin 128) : (iblk m c 12 t : Vec Ideal _ _) (ix2 q n) = tabB (sq t.val q).val (n.val % 64) := by
  have ht : t.val < 64 := t.isLt
  have e : (win0_12.blk t).view.emb (ix2 q n) = (ix2 (sq t.val q) n : S8192x128.Idx) := by blk_ext [idx12 t, sq]
  have h : (iblk m c 12 t : Vec Ideal _ _) (ix2 q n) = V m c main_v40 ((win0_12.blk t).view.emb (ix2 q n)) := rfl
  rw [h, e]
  exact host12 m c (sq t.val q) n
theorem blk13 (k : Fin 3) (n : Fin 512) : (iblk m c 13 t : Vec Ideal _ _) (ix2 k n) = m ((c : Thread nD τ).loc main_arg5) (ix2 k n) := by
  have ht : t.val < 64 := t.isLt
  have e : (win0_13.blk t).view.emb (ix2 k n) = (ix2 k n : S3x512.Idx) := by blk_ext [idx13 t]
  have h : (iblk m c 13 t : Vec Ideal _ _) (ix2 k n) = V m c main_arg5 ((win0_13.blk t).view.emb (ix2 k n)) := rfl
  rw [h, e]
  exact congrFun (V_main_arg5 m c) _
theorem blk14 (n : Fin 512) : (iblk m c 14 t : Vec Ideal _ _) (ix2 0 n) = m ((c : Thread nD τ).loc main_arg6) (ix1 n) := by
  have ht : t.val < 64 := t.isLt
  have e : (win0_14.blk t).view.emb (ix2 0 n) = (ix2 0 n : S1x512.Idx) := by blk_ext [idx14 t]
  have h : (iblk m c 14 t : Vec Ideal _ _) (ix2 0 n) = V m c main_v81 ((win0_14.blk t).view.emb (ix2 0 n)) := rfl
  rw [h, e]
  exact host14 m c n

end Cert.In

end
-- ==== Proof.In.Heads.lean ====
module

public import proofs.«01_k».proof.Proof.In.Spec
public import proofs.«01_k».proof.Proof.In.Tables

/-! Joined heads, averaged and rotated over whole rows, against each head on its own. -/

@[expose] public section

set_option maxRecDepth 16384

noncomputable section

namespace Cert.In

open Idealize.ShloMosaic

/-- One sixty-fourth inside a head, zero outside. -/
def bdOf {w : ℕ} (k n : Fin w) : EReal := if k.val / 64 = n.val / 64 then Ideal.ofBits .f32 0x3C800000#32 else 0

theorem c64 : Ideal.ofBits .f32 0x42800000#32 = ((64 : ℝ) : EReal) := by
  simp [Ideal.ofBits, Ideal.ieee, -EReal.coe_mul]
  norm_num
theorem c64inv : Ideal.ofBits .f32 0x3C800000#32 = (((64 : ℝ)⁻¹ : ℝ) : EReal) := by
  simp [Ideal.ofBits, Ideal.ieee, -EReal.coe_mul]
  norm_num

theorem div64 (x : EReal) : Ideal.div x (Ideal.ofBits .f32 0x42800000#32) = x * Ideal.ofBits .f32 0x3C800000#32 := by
  rw [c64, c64inv]
  unfold Ideal.div
  rw [if_neg (by norm_num), EReal.coe_inv]

theorem square_nonneg (x : EReal) : 0 ≤ x * x := by
  rcases le_total 0 x with h | h
  · exact mul_nonneg h h
  · have h' : 0 ≤ -x := EReal.neg_nonneg.2 h
    have := mul_nonneg h' h'
    rwa [neg_mul_neg] at this

theorem sum_mul {ι : Type} (s : Finset ι) (F : ι → EReal) (hF : ∀ i, 0 ≤ F i) (x : EReal) : ∑ i ∈ s, F i * x = (∑ i ∈ s, F i) * x := by
  classical
  induction s using Finset.induction_on with
  | empty => simp
  | insert a s ha ih => rw [Finset.sum_insert ha, Finset.sum_insert ha, ih, EReal.right_distrib_of_nonneg (hF a) (Finset.sum_nonneg fun i _ => hF i)]

/-- The sum over all heads, each kept or zero, is the sum over one. -/
theorem sum_head (H : ℕ) (F : Fin (H * 64) → EReal) (x : EReal) (n : Fin (H * 64)) :
    (∑ k, F k * (if k.val / 64 = n.val / 64 then x else 0)) = ∑ l : Fin 64, F ⟨n.val / 64 * 64 + l.val, by omega⟩ * x := by
  rw [← finProdFinEquiv.sum_comp, Fintype.sum_prod_type]
  rw [Finset.sum_eq_single (⟨n.val / 64, by omega⟩ : Fin H)]
  · refine Finset.sum_congr rfl fun l _ => ?_
    have e : (finProdFinEquiv ((⟨n.val / 64, by omega⟩ : Fin H), l) : Fin (H * 64)) = ⟨n.val / 64 * 64 + l.val, by omega⟩ :=
      Fin.ext (by simp only [finProdFinEquiv_apply_val]; omega)
    rw [e, if_pos (by show (n.val / 64 * 64 + l.val) / 64 = n.val / 64; omega)]
  · intro h _ hne
    refine Finset.sum_eq_zero fun l _ => ?_
    have e : ((finProdFinEquiv (h, l) : Fin (H * 64)) : ℕ) / 64 ≠ n.val / 64 := by
      rw [finProdFinEquiv_apply_val]
      intro hh
      dsimp only at hh
      exact hne (Fin.ext (by show h.val = n.val / 64; omega))
    rw [if_neg e, mul_zero]
  · intro hn
    exact absurd (Finset.mem_univ _) hn

/-- A row of joined heads averaged through the block product is each head averaged on its own. -/
theorem norm_head (H : ℕ) (f g : Fin (H * 64) → EReal) (n : Fin (H * 64)) :
    normK f g bdOf n = Cert.Post.normed (Ideal.ofBits .f32 0x42800000#32) (fun l : Fin 64 => f ⟨n.val / 64 * 64 + l.val, by omega⟩)
      (fun l : Fin 64 => g ⟨n.val / 64 * 64 + l.val, by omega⟩) ⟨n.val % 64, by omega⟩ := by
  have e : (⟨n.val / 64 * 64 + n.val % 64, by omega⟩ : Fin (H * 64)) = n := Fin.ext (by show n.val / 64 * 64 + n.val % 64 = n.val; omega)
  unfold normK Cert.Post.normed bdOf
  rw [sum_head H (fun k => f k * f k) _ n, sum_mul _ _ (fun l => square_nonneg _), div64]
  show _ = f ⟨n.val / 64 * 64 + n.val % 64, _⟩ * _ * g ⟨n.val / 64 * 64 + n.val % 64, _⟩
  rw [e]

/-- The three products over a whole row are each head's rotation. -/
theorem rope_head {w : ℕ} (hw : w % 64 = 0) (X : Fin w → EReal) (Y : Fin 64 → EReal) (p : ℕ) (n : Fin w)
    (hX : ∀ (k : Fin w) (l : Fin 64), k.val = n.val / 64 * 64 + l.val → X k = Y l) :
    ropeK X (fun n => tabC p (n.val % 64)) (fun n => tabA p (n.val % 64)) (fun n => tabB p (n.val % 64)) n
      = roped (fun j => Ideal.cos (angle p j.val)) (fun j => Ideal.sin (angle p j.val)) Y ⟨n.val % 64, by omega⟩ := by
  have hn := n.isLt
  have hw' : w / 64 * 64 = w := by omega
  unfold ropeK roped tabC tabA tabB
  dsimp only
  rw [hX n ⟨n.val % 64, by omega⟩ (by show n.val = n.val / 64 * 64 + n.val % 64; omega)]
  by_cases h : n.val % 64 < 8
  · rw [dif_pos h, if_pos (by omega), if_pos h, if_pos h, mul_zero, add_zero, Nat.mod_eq_of_lt h]
    rw [hX (up n) ⟨n.val % 64 + 8, by omega⟩ (by
      show (n.val + 8) % w = n.val / 64 * 64 + (n.val % 64 + 8)
      rw [Nat.mod_eq_of_lt (by omega)]; omega)]
    rw [mul_neg, sub_eq_add_neg]
  · rw [dif_neg h, if_neg h, if_neg h, mul_zero, add_zero]
    by_cases h2 : n.val % 64 < 16
    · rw [dif_pos h2, if_pos h2, if_pos h2, show n.val % 64 % 8 = n.val % 64 - 8 by omega]
      rw [hX (down n) ⟨n.val % 64 - 8, by omega⟩ (by
        show (n.val + (w - 8)) % w = n.val / 64 * 64 + (n.val % 64 - 8)
        rw [show n.val + (w - 8) = (n.val - 8) + w by omega, Nat.add_mod_right, Nat.mod_eq_of_lt (by omega)]; omega)]
    · rw [dif_neg h2, if_neg h2, if_neg h2, mul_zero, add_zero, mul_one]

theorem norm_congr {d : ℕ} {N : EReal} {f f' g g' : Fin d → EReal} (hf : f = f') (hg : g = g') (l : Fin d) : Cert.Post.normed N f g l = Cert.Post.normed N f' g' l := by
  rw [hf, hg]

/-- One row of joined heads, averaged and rotated whole, is each head's. -/
theorem head_row (H : ℕ) (f g c a b : Fin (H * 64) → EReal) (bd : Fin (H * 64) → Fin (H * 64) → EReal) (p : ℕ) (n : Fin (H * 64)) (F' G' : Fin 64 → EReal)
    (hbd : bd = bdOf) (hc : c = fun n => tabC p (n.val % 64)) (ha : a = fun n => tabA p (n.val % 64)) (hb : b = fun n => tabB p (n.val % 64))
    (hf : ∀ l : Fin 64, f ⟨n.val / 64 * 64 + l.val, by omega⟩ = F' l) (hg : ∀ l : Fin 64, g ⟨n.val / 64 * 64 + l.val, by omega⟩ = G' l) :
    ropeK (normK f g bd) c a b n = headAt p F' G' ⟨n.val % 64, by omega⟩ := by
  subst hbd hc ha hb
  refine (rope_head (by omega) (normK f g bdOf) (Cert.Post.normed (Ideal.ofBits .f32 0x42800000#32) F' G') p n (fun k l h => ?_)).trans rfl
  rw [norm_head H f g k]
  have e : (⟨k.val % 64, by omega⟩ : Fin 64) = l := Fin.ext (by show k.val % 64 = l.val; omega)
  rw [e]
  refine norm_congr (funext fun l' => Eq.trans (congrArg f (Fin.ext ?_)) (hf l')) (funext fun l' => Eq.trans (congrArg g (Fin.ext ?_)) (hg l')) l
  · show k.val / 64 * 64 + l'.val = n.val / 64 * 64 + l'.val
    omega
  · show k.val / 64 * 64 + l'.val = n.val / 64 * 64 + l'.val
    omega

end Cert.In

end
-- ==== Proof.In.KernRows.lean ====
module

public import proofs.«01_k».proof.Proof.Gen.Kernel3Ideal.Skeleton
public import proofs.«01_k».proof.Proof.In.Spec
public import Idealize.ShloMosaic.Lib.ValueIdx
public import Idealize.ShloMosaic.Lib.Pointwise
public import Idealize.ShloMosaic.Lib.Claim

/-! The kernel's payloads, one element at a time. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

variable (x : Vec Ideal S256x1024 .f32) (g1 : Vec Ideal S1x1024 .f32) (xn : FVec Ideal S256x1024 .bf16) (wq : Vec Ideal S1024x512 .bf16) (wkv : Vec Ideal S1024x768 .bf16)
  (wg : Vec Ideal S1024x256 .bf16) (wcv : Vec Ideal S1024x1536 .bf16) (gq : Vec Ideal S1x512 .f32) (gk : Vec Ideal S1x128 .f32)
  (bq : Vec Ideal S512x512 .bf16) (bk : Vec Ideal S128x128 .bf16) (tc ta tb : Vec Ideal S256x128 .f32) (u : FVec Ideal S256x128 .f32)
  (c4 a4 b4 : FVec Ideal S256x512 .f32) (u6 : FVec Ideal S256x768 .f32) (q : Fin 256)

theorem k_xn (n : Fin 1024) : k0_pay2 (F := Ideal) x g1 (ix2 q n) = Cert.Post.normed (Ideal.ofBits .f32 0x44800000#32) (fun k => x (ix2 q k)) (fun k => g1 (ix2 0 k)) n := by
  pointwise [k0_pay2]
  rfl

theorem k_c4 (n : Fin 512) : k0_pay6 (F := Ideal) tc (ix2 q n) = tc (ix2 q ⟨n.val % 128, Nat.mod_lt _ (by decide)⟩) := by
  pointwise [k0_pay6, k0_pay3]
  split_ifs <;> (first | (refine congrArg (fun j => tc (ix2 q j)) (Fin.ext ?_)) | (refine congrArg (fun j => ta (ix2 q j)) (Fin.ext ?_)) | (refine congrArg (fun j => tb (ix2 q j)) (Fin.ext ?_))) <;> dsimp only <;> omega

theorem k_a4 (n : Fin 512) : k0_pay7 (F := Ideal) ta (ix2 q n) = ta (ix2 q ⟨n.val % 128, Nat.mod_lt _ (by decide)⟩) := by
  pointwise [k0_pay7, k0_pay4]
  split_ifs <;> (first | (refine congrArg (fun j => tc (ix2 q j)) (Fin.ext ?_)) | (refine congrArg (fun j => ta (ix2 q j)) (Fin.ext ?_)) | (refine congrArg (fun j => tb (ix2 q j)) (Fin.ext ?_))) <;> dsimp only <;> omega

theorem k_b4 (n : Fin 512) : k0_pay8 (F := Ideal) tb (ix2 q n) = tb (ix2 q ⟨n.val % 128, Nat.mod_lt _ (by decide)⟩) := by
  pointwise [k0_pay8, k0_pay5]
  split_ifs <;> (first | (refine congrArg (fun j => tc (ix2 q j)) (Fin.ext ?_)) | (refine congrArg (fun j => ta (ix2 q j)) (Fin.ext ?_)) | (refine congrArg (fun j => tb (ix2 q j)) (Fin.ext ?_))) <;> dsimp only <;> omega

theorem k_q (n : Fin 512) : k0_pay10 (F := Ideal) xn c4 a4 b4 (k0_pay9 wq) gq bq (ix2 q n) =
    ropeK (normK (prod (fun k => xn (ix2 q k)) fun k n => wq (ix2 k n)) (fun n => gq (ix2 0 n)) fun k n => bq (ix2 k n)) (fun n => c4 (ix2 q n)) (fun n => a4 (ix2 q n)) (fun n => b4 (ix2 q n)) n
      * Ideal.ofBits .f32 0x3E000000#32 := by
  pointwise [k0_pay10, k0_pay9]
  rfl

theorem k_kv (n : Fin 768) : k0_pay11 (F := Ideal) xn wkv (ix2 q n) = prod (fun k => xn (ix2 q k)) (fun k n => wkv (ix2 k n)) n := by
  pointwise [k0_pay11]
  rfl

theorem k_kc (n : Fin 128) : k0_pay12 (F := Ideal) xn wkv (ix2 q n) = k0_pay11 (F := Ideal) xn wkv (ix2 q ⟨n.val, by omega⟩) := by
  pointwise [k0_pay12]
theorem k_vc (n : Fin 128) : k0_pay13 (F := Ideal) xn wkv (ix2 q n) = k0_pay11 (F := Ideal) xn wkv (ix2 q ⟨128 + n.val, by omega⟩) := by
  pointwise [k0_pay13]
theorem k_ks0 (n : Fin 128) : k0_pay14 (F := Ideal) xn wkv (ix2 q n) = k0_pay11 (F := Ideal) xn wkv (ix2 q ⟨256 + n.val, by omega⟩) := by
  pointwise [k0_pay14]
theorem k_vs (n : Fin 128) : k0_pay18 (F := Ideal) u6 (ix2 q n) = u6 (ix2 q ⟨384 + n.val, by omega⟩) := by
  pointwise [k0_pay18]
theorem k_vw (n : Fin 128) : k0_pay19 (F := Ideal) u6 (ix2 q n) = u6 (ix2 q ⟨640 + n.val, by omega⟩) := by
  pointwise [k0_pay19]

theorem k_ks (n : Fin 128) : k0_pay16 (F := Ideal) (k0_pay3 tc) (k0_pay4 ta) (k0_pay5 tb) u (k0_pay15 gk) bk (ix2 q n) =
    ropeK (normK (fun n => u (ix2 q n)) (fun n => gk (ix2 0 n)) fun k n => bk (ix2 k n)) (fun n => tc (ix2 q n)) (fun n => ta (ix2 q n)) (fun n => tb (ix2 q n)) n := by
  pointwise [k0_pay16, k0_pay3, k0_pay4, k0_pay5, k0_pay15]
  rfl

theorem k_kw (n : Fin 128) : k0_pay17 (F := Ideal) (k0_pay3 tc) (k0_pay4 ta) (k0_pay5 tb) u6 gk bk (ix2 q n) =
    ropeK (normK (fun n => u6 (ix2 q ⟨512 + n.val, by omega⟩)) (fun n => gk (ix2 0 n)) fun k n => bk (ix2 k n)) (fun n => tc (ix2 q n)) (fun n => ta (ix2 q n)) (fun n => tb (ix2 q n)) n := by
  pointwise [k0_pay17, k0_pay3, k0_pay4, k0_pay5]
  rfl

theorem k_gate (n : Fin 256) : k0_pay45 (F := Ideal) xn (k0_pay44 wg) (ix2 q n) = Ideal.logistic (prod (fun k => xn (ix2 q k)) (fun k n => wg (ix2 k n)) n) := by
  pointwise [k0_pay45, k0_pay44]
  rfl

theorem k_cb (n : Fin 512) : k0_pay47 (F := Ideal) xn wcv (ix2 q n) = prod (fun k => xn (ix2 q k)) (fun k n => wcv (ix2 k n)) ⟨n.val, by omega⟩ := by
  pointwise [k0_pay47, k0_pay46]
  rfl
theorem k_z (n : Fin 512) : k0_pay48 (F := Ideal) xn wcv (ix2 q n) = prod (fun k => xn (ix2 q k)) (fun k n => wcv (ix2 k n)) ⟨512 + n.val, by omega⟩ * prod (fun k => xn (ix2 q k)) (fun k n => wcv (ix2 k n)) ⟨1024 + n.val, by omega⟩ := by
  pointwise [k0_pay48, k0_pay46]
  rfl

theorem k_y (c2 c1 c0 : Vec Ideal S1x512 .f32) (z1 z0 : Vec Ideal S256x512 .f32) (n : Fin 512) : k0_pay51 (F := Ideal) xn wcv c2 c1 z1 c0 z0 (ix2 q n) =
    c2 (ix2 0 n) * k0_pay48 (F := Ideal) xn wcv (ix2 q n) + c1 (ix2 0 n) * z1 (ix2 q n) + c0 (ix2 0 n) * z0 (ix2 q n) := by
  pointwise [k0_pay51]

theorem k_conv (cb y : FVec Ideal S256x512 .f32) (g : Vec Ideal S1x512 .f32) (n : Fin 512) : k0_pay1 (F := Ideal) cb y g (ix2 q n) =
    Cert.Post.normed (Ideal.ofBits .f32 0x44000000#32) (fun k => cb (ix2 q k) * y (ix2 q k)) (fun k => g (ix2 0 k)) n := by
  pointwise [k0_pay1]
  rfl

end Cert.In

end
-- ==== Proof.In.RefRows.lean ====
module

public import proofs.«01_k».proof.Proof.Gen.Reference3Ideal.Read
public import proofs.«01_k».proof.Proof.In.Spec
public import Idealize.ShloMosaic.Lib.ValueIdx
public import Idealize.ShloMosaic.Lib.Pointwise
public import Idealize.ShloMosaic.Lib.Claim

/-! The reference's stages, one element at a time. -/

@[expose] public section

set_option maxRecDepth 16384

noncomputable section

namespace Cert.In

open Idealize.ShloMosaic
open Cert.Reference3Ideal Cert.Reference3Ideal.Gen Cert.Reference3Ideal.Read Idealize.ShloMosaic.TcCoe Idealize.SL.Sem Idealize.ShloMosaic.StableHlo

variable (x0 : Vec Ideal S2x8192x1024 .f32) (x1 : Vec Ideal S1024 .f32) (x2 : Vec Ideal S1024x2840 .f32) (x3 : Vec Ideal S64 .f32)
  (x4 : Vec Ideal S3x64 .f32) (x5 : Vec Ideal S3x512 .f32) (x6 : Vec Ideal S512 .f32) (b : Fin 2) (s : Fin 8192)

theorem r_u (n : Fin 2840) : val_main_v13 (F := Ideal) x0 x1 x2 (ix3 b s n) =
    prod (Cert.Post.normed (Ideal.ofBits .f32 0x44800000#32) (fun k => x0 (ix3 b s k)) (fun k => x1 (ix1 k))) (fun k n => x2 (ix2 k n)) n := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

theorem r_qn (h : Fin 8) (l : Fin 64) : val_main_v39 (F := Ideal) x0 x1 x2 x3 (ix4 b s h l) =
    Cert.Post.normed (Ideal.ofBits .f32 0x42800000#32) (fun l => val_main_v26 (F := Ideal) x0 x1 x2 (ix4 b s h l)) (fun l => x3 (ix1 l)) l := by
  pointwise [val_main_v27, val_main_v28, val_main_v29, val_main_v30, val_main_v31, val_main_v32, val_main_v33, val_main_v34, val_main_v35, val_main_v36, val_main_v37, val_main_v38, val_main_v39, val_main_cst_2, val_main_cst_3, val_main_cst_4]
  rfl

theorem r_qr (h : Fin 8) (l : Fin 64) : val_main_v76 (F := Ideal) x0 x1 x2 x3 (ix4 b s h l) =
    roped (fun j => Ideal.cos (angle s.val j.val)) (fun j => Ideal.sin (angle s.val j.val)) (fun l => val_main_v39 (F := Ideal) x0 x1 x2 x3 (ix4 b s h l)) l * Ideal.ofBits .f32 0x3E000000#32 := by
  pointwise [val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_cst_5, val_main_cst_6, val_main_cst_7, val_main_cst_8, val_main_v25]
  unfold roped
  by_cases h8 : l.val < 8
  · simp only [dif_pos h8]
    have e1 : val_main_v39 (F := Ideal) x0 x1 x2 x3 (ix4 b s h ⟨8 + l.val, by omega⟩) = val_main_v39 (F := Ideal) x0 x1 x2 x3 (ix4 b s h ⟨l.val + 8, by omega⟩) := congrArg (fun j => val_main_v39 (F := Ideal) x0 x1 x2 x3 (ix4 b s h j)) (Fin.ext (by show 8 + l.val = l.val + 8; omega))
    rw [e1]
    rfl
  · by_cases h16 : l.val < 16
    · have e8 : l.val - 8 < 8 := by omega
      simp only [dif_neg h8, dif_pos h16, dif_pos e8]
      have e1 : val_main_v39 (F := Ideal) x0 x1 x2 x3 (ix4 b s h ⟨8 + (l.val - 8), by omega⟩) = val_main_v39 (F := Ideal) x0 x1 x2 x3 (ix4 b s h l) := congrArg (fun j => val_main_v39 (F := Ideal) x0 x1 x2 x3 (ix4 b s h j)) (Fin.ext (by show 8 + (l.val - 8) = l.val; omega))
      rw [e1]
      rfl
    · have e8 : ¬ l.val - 8 < 8 := by omega
      simp only [dif_neg h8, dif_neg h16, dif_neg e8]
      have e1 : val_main_v39 (F := Ideal) x0 x1 x2 x3 (ix4 b s h ⟨16 + (l.val - 8 - 8), by omega⟩) = val_main_v39 (F := Ideal) x0 x1 x2 x3 (ix4 b s h l) := congrArg (fun j => val_main_v39 (F := Ideal) x0 x1 x2 x3 (ix4 b s h j)) (Fin.ext (by show 16 + (l.val - 8 - 8) = l.val; omega))
      rw [e1]

theorem r_ksn (h : Fin 2) (l : Fin 64) : val_main_v92 (F := Ideal) x0 x1 x2 x4 (ix4 b s h l) =
    Cert.Post.normed (Ideal.ofBits .f32 0x42800000#32) (fun l => val_main_v77 (F := Ideal) x0 x1 x2 (ix4 b s h l)) (fun l => x4 (ix2 1 l)) l := by
  pointwise [val_main_v78, val_main_v79, val_main_v80, val_main_v81, val_main_v82, val_main_v83, val_main_v84, val_main_v85, val_main_v86, val_main_v87, val_main_v88, val_main_v89, val_main_v90, val_main_v91, val_main_v92, val_main_cst_9, val_main_cst_10, val_main_cst_11]
  rfl

theorem r_kwn (h : Fin 2) (l : Fin 64) : val_main_v143 (F := Ideal) x0 x1 x2 x4 (ix4 b s h l) =
    Cert.Post.normed (Ideal.ofBits .f32 0x42800000#32) (fun l => val_main_v128 (F := Ideal) x0 x1 x2 (ix4 b s h l)) (fun l => x4 (ix2 2 l)) l := by
  pointwise [val_main_v129, val_main_v130, val_main_v131, val_main_v132, val_main_v133, val_main_v134, val_main_v135, val_main_v136, val_main_v137, val_main_v138, val_main_v139, val_main_v140, val_main_v141, val_main_v142, val_main_v143, val_main_cst_15, val_main_cst_16, val_main_cst_17]
  rfl

theorem r_ksr (h : Fin 2) (l : Fin 64) : val_main_v127 (F := Ideal) x0 x1 x2 x4 (ix4 b s h l) =
    roped (fun j => Ideal.cos (angle s.val j.val)) (fun j => Ideal.sin (angle s.val j.val)) (fun l => val_main_v92 (F := Ideal) x0 x1 x2 x4 (ix4 b s h l)) l := by
  pointwise [val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_cst_12, val_main_cst_13, val_main_cst_14, val_main_v25]
  unfold roped
  by_cases h8 : l.val < 8
  · simp only [dif_pos h8]
    have e1 : val_main_v92 (F := Ideal) x0 x1 x2 x4 (ix4 b s h ⟨8 + l.val, by omega⟩) = val_main_v92 (F := Ideal) x0 x1 x2 x4 (ix4 b s h ⟨l.val + 8, by omega⟩) := congrArg (fun j => val_main_v92 (F := Ideal) x0 x1 x2 x4 (ix4 b s h j)) (Fin.ext (by show 8 + l.val = l.val + 8; omega))
    rw [e1]
    rfl
  · by_cases h16 : l.val < 16
    · have e8 : l.val - 8 < 8 := by omega
      simp only [dif_neg h8, dif_pos h16, dif_pos e8]
      have e1 : val_main_v92 (F := Ideal) x0 x1 x2 x4 (ix4 b s h ⟨8 + (l.val - 8), by omega⟩) = val_main_v92 (F := Ideal) x0 x1 x2 x4 (ix4 b s h l) := congrArg (fun j => val_main_v92 (F := Ideal) x0 x1 x2 x4 (ix4 b s h j)) (Fin.ext (by show 8 + (l.val - 8) = l.val; omega))
      rw [e1]
      rfl
    · have e8 : ¬ l.val - 8 < 8 := by omega
      simp only [dif_neg h8, dif_neg h16, dif_neg e8]
      have e1 : val_main_v92 (F := Ideal) x0 x1 x2 x4 (ix4 b s h ⟨16 + (l.val - 8 - 8), by omega⟩) = val_main_v92 (F := Ideal) x0 x1 x2 x4 (ix4 b s h l) := congrArg (fun j => val_main_v92 (F := Ideal) x0 x1 x2 x4 (ix4 b s h j)) (Fin.ext (by show 16 + (l.val - 8 - 8) = l.val; omega))
      rw [e1]

theorem r_kwr (h : Fin 2) (l : Fin 64) : val_main_v178 (F := Ideal) x0 x1 x2 x4 (ix4 b s h l) =
    roped (fun j => Ideal.cos (angle s.val j.val)) (fun j => Ideal.sin (angle s.val j.val)) (fun l => val_main_v143 (F := Ideal) x0 x1 x2 x4 (ix4 b s h l)) l := by
  pointwise [val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_cst_18, val_main_cst_19, val_main_cst_20, val_main_v25]
  unfold roped
  by_cases h8 : l.val < 8
  · simp only [dif_pos h8]
    have e1 : val_main_v143 (F := Ideal) x0 x1 x2 x4 (ix4 b s h ⟨8 + l.val, by omega⟩) = val_main_v143 (F := Ideal) x0 x1 x2 x4 (ix4 b s h ⟨l.val + 8, by omega⟩) := congrArg (fun j => val_main_v143 (F := Ideal) x0 x1 x2 x4 (ix4 b s h j)) (Fin.ext (by show 8 + l.val = l.val + 8; omega))
    rw [e1]
    rfl
  · by_cases h16 : l.val < 16
    · have e8 : l.val - 8 < 8 := by omega
      simp only [dif_neg h8, dif_pos h16, dif_pos e8]
      have e1 : val_main_v143 (F := Ideal) x0 x1 x2 x4 (ix4 b s h ⟨8 + (l.val - 8), by omega⟩) = val_main_v143 (F := Ideal) x0 x1 x2 x4 (ix4 b s h l) := congrArg (fun j => val_main_v143 (F := Ideal) x0 x1 x2 x4 (ix4 b s h j)) (Fin.ext (by show 8 + (l.val - 8) = l.val; omega))
      rw [e1]
      rfl
    · have e8 : ¬ l.val - 8 < 8 := by omega
      simp only [dif_neg h8, dif_neg h16, dif_neg e8]
      have e1 : val_main_v143 (F := Ideal) x0 x1 x2 x4 (ix4 b s h ⟨16 + (l.val - 8 - 8), by omega⟩) = val_main_v143 (F := Ideal) x0 x1 x2 x4 (ix4 b s h l) := congrArg (fun j => val_main_v143 (F := Ideal) x0 x1 x2 x4 (ix4 b s h j)) (Fin.ext (by show 16 + (l.val - 8 - 8) = l.val; omega))
      rw [e1]

theorem r_q (h : Fin 8) (l : Fin 64) : val_main_v26 (F := Ideal) x0 x1 x2 (ix4 b s h l) = val_main_v13 (F := Ideal) x0 x1 x2 (ix3 b s ⟨h.val * 64 + l.val, by omega⟩) := by
  pointwise [val_main_v26, val_main_v14]

theorem r_ks0 (h : Fin 2) (l : Fin 64) : val_main_v77 (F := Ideal) x0 x1 x2 (ix4 b s h l) = val_main_v13 (F := Ideal) x0 x1 x2 (ix3 b s ⟨768 + (h.val * 64 + l.val), by omega⟩) := by
  pointwise [val_main_v77, val_main_v17]

theorem r_kw0 (h : Fin 2) (l : Fin 64) : val_main_v128 (F := Ideal) x0 x1 x2 (ix4 b s h l) = val_main_v13 (F := Ideal) x0 x1 x2 (ix3 b s ⟨1024 + (h.val * 64 + l.val), by omega⟩) := by
  pointwise [val_main_v128, val_main_v19]

theorem r_242 (r : Fin 16384) (n : Fin 512) : val_main_v242 (F := Ideal) x0 x1 x2 x3 (ix2 r n) =
    val_main_v76 (F := Ideal) x0 x1 x2 x3 (ix4 ⟨r.val / 8192, by omega⟩ ⟨r.val % 8192, by omega⟩ ⟨n.val / 64, by omega⟩ ⟨n.val % 64, by omega⟩) := by
  pointwise [val_main_v241, val_main_v242]

theorem r_243 (r : Fin 16384) (n : Fin 128) : val_main_v243 (F := Ideal) x0 x1 x2 (ix2 r n) = val_main_v13 (F := Ideal) x0 x1 x2 (ix3 ⟨r.val / 8192, by omega⟩ ⟨r.val % 8192, by omega⟩ ⟨512 + n.val, by omega⟩) := by
  pointwise [val_main_v243, val_main_v15]

theorem r_244 (r : Fin 16384) (n : Fin 128) : val_main_v244 (F := Ideal) x0 x1 x2 (ix2 r n) = val_main_v13 (F := Ideal) x0 x1 x2 (ix3 ⟨r.val / 8192, by omega⟩ ⟨r.val % 8192, by omega⟩ ⟨640 + n.val, by omega⟩) := by
  pointwise [val_main_v244, val_main_v16]

/-- One where the position's block is the lane, else zero. -/
def own (p a : ℕ) : EReal := Scalar.select (IntOp.cmpi CmpIPredicate.eq (BitVec.ofNat 32 (p / 64)) (BitVec.ofNat 32 a)) (1 : EReal) 0

theorem r_245lo (g : Fin 2) (n : Fin 256) (hn : n.val < 128) : val_main_v245 (F := Ideal) x0 x1 x2 x4 (ix4 b g s n) = val_main_v127 (F := Ideal) x0 x1 x2 x4 (ix4 b s g ⟨n.val % 64, by omega⟩) := by
  pointwise [val_main_v190, val_main_v191, val_main_v192, val_main_v193, val_main_v194, val_main_v245]
  rw [dif_pos hn]
  by_cases h : n.val < 64
  · rw [dif_pos h]
    exact congrArg (fun j => val_main_v127 (F := Ideal) x0 x1 x2 x4 (ix4 b s g j)) (Fin.ext (by show n.val = n.val % 64; omega))
  · rw [dif_neg h]
    exact congrArg (fun j => val_main_v127 (F := Ideal) x0 x1 x2 x4 (ix4 b s g j)) (Fin.ext (by show n.val - 64 = n.val % 64; omega))

theorem own_at (s : Fin 8192) (a : Fin 128) : val_main_v189 (F := Ideal) (ix2 s a) = own s.val a.val := by
  pointwise [val_main_v179, val_main_v180, val_main_v181, val_main_v182, val_main_v183, val_main_v184, val_main_v185, val_main_v186, val_main_v187, val_main_v188, val_main_v189, val_main_cst_21, val_main_cst_22, val_main_call0_v0, val_main_call0_v1]
  rfl

theorem r_245hi (g : Fin 2) (n : Fin 256) (hn : ¬ n.val < 128) : val_main_v245 (F := Ideal) x0 x1 x2 x4 (ix4 b g s n) = own s.val (n.val - 128) := by
  pointwise [val_main_v190, val_main_v191, val_main_v192, val_main_v193, val_main_v194, val_main_v245]
  rw [dif_neg hn]
  exact own_at ..

theorem r_249 (g : Fin 2) (n : Fin 128) : val_main_v249 (F := Ideal) x0 x1 x2 (ix4 b g s n) = val_main_v13 (F := Ideal) x0 x1 x2 (ix3 b s ⟨896 + (g.val * 64 + n.val % 64), by omega⟩) := by
  pointwise [val_main_v246, val_main_v247, val_main_v248, val_main_v249, val_main_v18]
  by_cases h : n.val < 64
  · rw [dif_pos h]
    exact congrArg (fun j => val_main_v13 (F := Ideal) x0 x1 x2 (ix3 b s j)) (Fin.ext (by show 896 + (g.val * 64 + n.val) = 896 + (g.val * 64 + n.val % 64); omega))
  · rw [dif_neg h]
    exact congrArg (fun j => val_main_v13 (F := Ideal) x0 x1 x2 (ix3 b s j)) (Fin.ext (by show 896 + (g.val * 64 + (n.val - 64)) = 896 + (g.val * 64 + n.val % 64); omega))

theorem r_252 (g : Fin 2) (n : Fin 128) : val_main_v252 (F := Ideal) x0 x1 x2 x4 (ix4 b g s n) = val_main_v178 (F := Ideal) x0 x1 x2 x4 (ix4 b s g ⟨n.val % 64, by omega⟩) := by
  pointwise [val_main_v250, val_main_v251, val_main_v252]
  by_cases h : n.val < 64
  · rw [dif_pos h]
    exact congrArg (fun j => val_main_v178 (F := Ideal) x0 x1 x2 x4 (ix4 b s g j)) (Fin.ext (by show n.val = n.val % 64; omega))
  · rw [dif_neg h]
    exact congrArg (fun j => val_main_v178 (F := Ideal) x0 x1 x2 x4 (ix4 b s g j)) (Fin.ext (by show n.val - 64 = n.val % 64; omega))

theorem r_256 (g : Fin 2) (n : Fin 128) : val_main_v256 (F := Ideal) x0 x1 x2 (ix4 b g s n) = val_main_v13 (F := Ideal) x0 x1 x2 (ix3 b s ⟨1152 + (g.val * 64 + n.val % 64), by omega⟩) := by
  pointwise [val_main_v253, val_main_v254, val_main_v255, val_main_v256, val_main_v20]
  by_cases h : n.val < 64
  · rw [dif_pos h]
    exact congrArg (fun j => val_main_v13 (F := Ideal) x0 x1 x2 (ix3 b s j)) (Fin.ext (by show 1152 + (g.val * 64 + n.val) = 1152 + (g.val * 64 + n.val % 64); omega))
  · rw [dif_neg h]
    exact congrArg (fun j => val_main_v13 (F := Ideal) x0 x1 x2 (ix3 b s j)) (Fin.ext (by show 1152 + (g.val * 64 + (n.val - 64)) = 1152 + (g.val * 64 + n.val % 64); omega))

set_option maxHeartbeats 1000000 in
theorem r_257 (r : Fin 16384) (n : Fin 256) : val_main_v257 (F := Ideal) x0 x1 x2 (ix2 r n) =
    Ideal.logistic (if h : n.val % 128 < 12 then val_main_v13 (F := Ideal) x0 x1 x2 (ix3 ⟨r.val / 8192, by omega⟩ ⟨r.val % 8192, by omega⟩ ⟨1280 + (n.val / 128 * 12 + n.val % 128), by omega⟩) else 0) := by
  pointwise [val_main_v195, val_main_v196, val_main_v197, val_main_v198, val_main_v199, val_main_v200, val_main_v201, val_main_v202, val_main_cst_23, val_main_cst_24, val_main_call1_v0, val_main_c, val_main_v257, val_main_v21]
  have z : (FloatOps.sitofp FTy.f32 0#32 : Ideal .f32) = (0 : EReal) := by
    show (((0#32 : BitVec 32).toInt : ℝ) : EReal) = 0
    simp
  have h2 : n.val / 128 < 2 := by omega
  generalize val_main_v13 (F := Ideal) x0 x1 x2 = u
  simp only [h2, true_and, z]
  rfl

/-- The array `g`, `d` positions earlier in the sequence, zero before its first. -/
def before (d : ℕ) (n : Fin 512) (g : S2x8192x512.Idx → EReal) : EReal := if h : d ≤ s.val then g (ix3 b ⟨s.val - d, by omega⟩ n) else 0

set_option maxHeartbeats 1000000 in
theorem r_226 (n : Fin 512) : val_main_v226 (F := Ideal) x0 x1 x2 x5 (ix3 b s n) =
    x5 (ix2 0 n) * before b s 2 n (val_main_v203 (F := Ideal) x0 x1 x2) + x5 (ix2 1 n) * before b s 1 n (val_main_v203 (F := Ideal) x0 x1 x2) + x5 (ix2 2 n) * val_main_v203 (F := Ideal) x0 x1 x2 (ix3 b s n) := by
  pointwise [val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_cst_26, val_main_c_25, val_main_call2_v0]
  generalize val_main_v203 (F := Ideal) x0 x1 x2 = g
  have z : (FloatOps.sitofp FTy.f32 0#32 : Ideal .f32) = (0 : EReal) := by
    show (((0#32 : BitVec 32).toInt : ℝ) : EReal) = 0
    simp
  have e2 : (if h : 2 ≤ s.val ∧ s.val - 2 < 8192 then g (ix3 b ⟨s.val - 2, h.2⟩ n) else (FloatOps.sitofp (F := Ideal) FTy.f32 0#32)) = before b s 2 n g := by
    unfold before
    by_cases h : 2 ≤ s.val
    · rw [dif_pos ⟨h, by omega⟩, dif_pos h]
    · rw [dif_neg (fun k => h k.1), dif_neg h, z]
  have e1 : (if h : 2 ≤ 1 + s.val ∧ 1 + s.val - 2 < 8192 then g (ix3 b ⟨1 + s.val - 2, h.2⟩ n) else (FloatOps.sitofp (F := Ideal) FTy.f32 0#32)) = before b s 1 n g := by
    unfold before
    by_cases h : 1 ≤ s.val
    · rw [dif_pos ⟨by omega, by omega⟩, dif_pos h]
      exact congrArg _ ((ix3_inj ..).2 ⟨rfl, Fin.ext (by show 1 + s.val - 2 = s.val - 1; omega), rfl⟩)
    · rw [dif_neg (fun k => h (by omega)), dif_neg h, z]
  rw [e1, e2]

theorem r_203 (n : Fin 512) : val_main_v203 (F := Ideal) x0 x1 x2 (ix3 b s n) = val_main_v13 (F := Ideal) x0 x1 x2 (ix3 b s ⟨1816 + n.val, by omega⟩) * val_main_v13 (F := Ideal) x0 x1 x2 (ix3 b s ⟨2328 + n.val, by omega⟩) := by
  pointwise [val_main_v203, val_main_v23, val_main_v24]

theorem r_240 (n : Fin 512) : val_main_v240 (F := Ideal) x0 x1 x2 x5 x6 (ix3 b s n) =
    Cert.Post.normed (Ideal.ofBits .f32 0x44000000#32) (fun n => val_main_v13 (F := Ideal) x0 x1 x2 (ix3 b s ⟨1304 + n.val, by omega⟩) * val_main_v226 (F := Ideal) x0 x1 x2 x5 (ix3 b s n)) (fun n => x6 (ix1 n)) n := by
  pointwise [val_main_v227, val_main_v228, val_main_v229, val_main_v230, val_main_v231, val_main_v232, val_main_v233, val_main_v234, val_main_v235, val_main_v236, val_main_v237, val_main_v238, val_main_v239, val_main_v240, val_main_cst_27, val_main_cst_28, val_main_cst_29, val_main_v22]
  rfl

theorem r_259 (r : Fin 16384) (n : Fin 512) : val_main_v259 (F := Ideal) x0 x1 x2 x5 x6 (ix2 r n) = val_main_v240 (F := Ideal) x0 x1 x2 x5 x6 (ix3 ⟨r.val / 8192, by omega⟩ ⟨r.val % 8192, by omega⟩ n) := by
  pointwise [val_main_v258, val_main_v259]

end Cert.In

end
-- ==== Proof.In.Rows.lean ====
module

public import proofs.«01_k».proof.Proof.In.Window
public import proofs.«01_k».proof.Proof.In.Blocks
public import proofs.«01_k».proof.Proof.In.Heads
public import proofs.«01_k».proof.Proof.In.KernRows
public import proofs.«01_k».proof.Proof.In.RefRows
public import Idealize.ShloMosaic.Lib.ValueIdx
public import Idealize.ShloMosaic.Lib.Pointwise
public import Idealize.ShloMosaic.Lib.Claim
public import Idealize.ShloMosaic.Lib.Pipeline.ValueKit

/-! The tile's rows and the reference's. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.Reference3Ideal.Read

variable (m : (ℓ : Loc nD τ sig) → Buf (Elt Ideal) ℓ) (c : Dev nD) (t : Fin cfg0.N)

/-- The argument's rows after the first normalization, times columns of the weights, are the reference's. -/
theorem row {w : ℕ} (W : Fin 1024 → Fin w → EReal) (q : Fin 256) (n : Fin w) (o : Fin 2840) (hW : ∀ k, W k n = (m ((c : Thread nD τ).loc main_arg2)) (ix2 k o)) :
    prod (fun k => (k0_pay2 (F := Ideal) (iblk m c 0 t) (iblk m c 1 t)) (ix2 q k)) W n = val_main_v13 (F := Ideal) (m ((c : Thread nD τ).loc main_arg0)) (m ((c : Thread nD τ).loc main_arg1)) (m ((c : Thread nD τ).loc main_arg2)) (ix3 (bq t.val q) (sq t.val q) o) := by
  refine Eq.trans ?_ (r_u _ _ _ _ _ o).symm
  unfold prod
  refine Finset.sum_congr rfl fun k _ => congrArg₂ (fun a b : EReal => a * b) ?_ (hW k)
  exact (k_xn _ _ q k).trans (norm_congr (funext fun k => blk0 m c t q k) (funext fun k => blk1 m c t k) k)

theorem kv (q : Fin 256) (n : Fin 768) : k0_pay11 (F := Ideal) (k0_pay2 (F := Ideal) (iblk m c 0 t) (iblk m c 1 t)) (iblk m c 3 t) (ix2 q n) = val_main_v13 (F := Ideal) (m ((c : Thread nD τ).loc main_arg0)) (m ((c : Thread nD τ).loc main_arg1)) (m ((c : Thread nD τ).loc main_arg2)) (ix3 (bq t.val q) (sq t.val q) ⟨512 + n.val, by omega⟩) :=
  (k_kv _ _ q n).trans (row m c t _ q n _ fun k => blk3 m c t k n)

theorem rq_b (q : Fin 256) : (⟨(rq t.val q).val / 8192, by omega⟩ : Fin 2) = (bq t.val q) :=
  Fin.ext (by show (256 * t.val + q.val) % 16384 / 8192 = (256 * t.val + q.val) / 8192 % 2; omega)
theorem rq_s (q : Fin 256) : (⟨(rq t.val q).val % 8192, by omega⟩ : Fin 8192) = (sq t.val q) :=
  Fin.ext (by show (256 * t.val + q.val) % 16384 % 8192 = (256 * t.val + q.val) % 8192; omega)

theorem gain0_at (x7 : Vec Ideal S2x128 .f32) (n : Fin 128) : gain0 (F := Ideal) x7 (ix2 0 n) = x7 (ix2 0 n) := by
  refine congrArg x7 (funext fun a => Fin.ext ?_)
  match a with
  | ⟨0, _⟩ => rfl
  | ⟨1, _⟩ =>
    show 0 + 1 * n.val = n.val
    omega
theorem gain1_at (x7 : Vec Ideal S2x128 .f32) (n : Fin 128) : gain1 (F := Ideal) x7 (ix2 0 n) = x7 (ix2 1 n) := by
  refine congrArg x7 (funext fun a => Fin.ext ?_)
  match a with
  | ⟨0, _⟩ => rfl
  | ⟨1, _⟩ =>
    show 0 + 1 * n.val = n.val
    omega

/-- The turned keys' rows are the reference's. -/
theorem ksRow (q : Fin 256) (n : Fin 128) : ksOf (F := Ideal) (iblk m c 0 t) (iblk m c 1 t) (iblk m c 3 t) (iblk m c 7 t) (iblk m c 9 t) (iblk m c 10 t) (iblk m c 11 t) (iblk m c 12 t) (ix2 q n) = val_main_v127 (F := Ideal) (m ((c : Thread nD τ).loc main_arg0)) (m ((c : Thread nD τ).loc main_arg1)) (m ((c : Thread nD τ).loc main_arg2)) (m ((c : Thread nD τ).loc main_arg4)) (ix4 (bq t.val q) (sq t.val q) ⟨n.val / 64, by omega⟩ ⟨n.val % 64, by omega⟩) := by
  unfold ksOf
  refine (k_ks _ _ _ _ _ _ q n).trans ?_
  refine (head_row 2 _ _ _ _ _ _ (sq t.val q).val n (fun l => val_main_v13 (F := Ideal) (m ((c : Thread nD τ).loc main_arg0)) (m ((c : Thread nD τ).loc main_arg1)) (m ((c : Thread nD τ).loc main_arg2)) (ix3 (bq t.val q) (sq t.val q) ⟨768 + (n.val / 64 * 64 + l.val), by omega⟩))
    (fun l => (m ((c : Thread nD τ).loc main_arg4)) (ix2 1 l)) (funext fun k => funext fun j => blk9 m c t k j)
    (funext fun j => blk10 m c t q j) (funext fun j => blk11 m c t q j) (funext fun j => blk12 m c t q j) (fun l => ?_) (fun l => ?_)).trans ?_
  · refine (k_ks0 _ _ q _).trans ((kv m c t q _).trans (congrArg (fun o => val_main_v13 (F := Ideal) (m ((c : Thread nD τ).loc main_arg0)) (m ((c : Thread nD τ).loc main_arg1)) (m ((c : Thread nD τ).loc main_arg2)) (ix3 (bq t.val q) (sq t.val q) o)) (Fin.ext ?_)))
    show 512 + (256 + (n.val / 64 * 64 + l.val)) = 768 + (n.val / 64 * 64 + l.val)
    omega
  · refine (gain0_at _ _).trans ((blk7 m c t 0 _).trans (congrArg (fun o => (m ((c : Thread nD τ).loc main_arg4)) (ix2 1 o)) (Fin.ext ?_)))
    show (n.val / 64 * 64 + l.val) % 64 = l.val
    omega
  · refine Eq.symm (((r_ksr _ _ _ _ _ _ _ _).trans ?_))
    exact congrArg (fun f => roped _ _ f _) (funext fun l => (r_ksn _ _ _ _ _ _ _ l).trans (norm_congr (funext fun l => r_ks0 _ _ _ _ _ _ l) rfl l))

theorem ks_at (q : Fin 256) (g : Fin 2) (l : Fin 64) (j : Fin 128) (hj : j.val = g.val * 64 + l.val) :
    ksOf (F := Ideal) (iblk m c 0 t) (iblk m c 1 t) (iblk m c 3 t) (iblk m c 7 t) (iblk m c 9 t) (iblk m c 10 t) (iblk m c 11 t) (iblk m c 12 t) (ix2 q j) = val_main_v127 (F := Ideal) (m ((c : Thread nD τ).loc main_arg0)) (m ((c : Thread nD τ).loc main_arg1)) (m ((c : Thread nD τ).loc main_arg2)) (m ((c : Thread nD τ).loc main_arg4)) (ix4 (bq t.val q) (sq t.val q) g l) := by
  refine (ksRow m c t q j).trans ?_
  have e1 : (⟨j.val / 64, by omega⟩ : Fin 2) = g := Fin.ext (by show j.val / 64 = g.val; omega)
  have e2 : (⟨j.val % 64, by omega⟩ : Fin 64) = l := Fin.ext (by show j.val % 64 = l.val; omega)
  rw [e1, e2]

/-- The turned keys' rows are the reference's. -/
theorem kwRow (q : Fin 256) (n : Fin 128) : kwOf (F := Ideal) (iblk m c 0 t) (iblk m c 1 t) (iblk m c 3 t) (iblk m c 7 t) (iblk m c 9 t) (iblk m c 10 t) (iblk m c 11 t) (iblk m c 12 t) (ix2 q n) = val_main_v178 (F := Ideal) (m ((c : Thread nD τ).loc main_arg0)) (m ((c : Thread nD τ).loc main_arg1)) (m ((c : Thread nD τ).loc main_arg2)) (m ((c : Thread nD τ).loc main_arg4)) (ix4 (bq t.val q) (sq t.val q) ⟨n.val / 64, by omega⟩ ⟨n.val % 64, by omega⟩) := by
  unfold kwOf
  refine (k_kw _ _ _ _ _ _ q n).trans ?_
  refine (head_row 2 _ _ _ _ _ _ (sq t.val q).val n (fun l => val_main_v13 (F := Ideal) (m ((c : Thread nD τ).loc main_arg0)) (m ((c : Thread nD τ).loc main_arg1)) (m ((c : Thread nD τ).loc main_arg2)) (ix3 (bq t.val q) (sq t.val q) ⟨1024 + (n.val / 64 * 64 + l.val), by omega⟩))
    (fun l => (m ((c : Thread nD τ).loc main_arg4)) (ix2 2 l)) (funext fun k => funext fun j => blk9 m c t k j)
    (funext fun j => blk10 m c t q j) (funext fun j => blk11 m c t q j) (funext fun j => blk12 m c t q j) (fun l => ?_) (fun l => ?_)).trans ?_
  · refine ((kv m c t q _).trans (congrArg (fun o => val_main_v13 (F := Ideal) (m ((c : Thread nD τ).loc main_arg0)) (m ((c : Thread nD τ).loc main_arg1)) (m ((c : Thread nD τ).loc main_arg2)) (ix3 (bq t.val q) (sq t.val q) o)) (Fin.ext ?_)))
    show 512 + (512 + (n.val / 64 * 64 + l.val)) = 1024 + (n.val / 64 * 64 + l.val)
    omega
  · refine (gain1_at _ _).trans ((blk7 m c t 1 _).trans (congrArg (fun o => (m ((c : Thread nD τ).loc main_arg4)) (ix2 2 o)) (Fin.ext ?_)))
    show (n.val / 64 * 64 + l.val) % 64 = l.val
    omega
  · refine Eq.symm (((r_kwr _ _ _ _ _ _ _ _).trans ?_))
    exact congrArg (fun f => roped _ _ f _) (funext fun l => (r_kwn _ _ _ _ _ _ _ l).trans (norm_congr (funext fun l => r_kw0 _ _ _ _ _ _ l) rfl l))

theorem kw_at (q : Fin 256) (g : Fin 2) (l : Fin 64) (j : Fin 128) (hj : j.val = g.val * 64 + l.val) :
    kwOf (F := Ideal) (iblk m c 0 t) (iblk m c 1 t) (iblk m c 3 t) (iblk m c 7 t) (iblk m c 9 t) (iblk m c 10 t) (iblk m c 11 t) (iblk m c 12 t) (ix2 q j) = val_main_v178 (F := Ideal) (m ((c : Thread nD τ).loc main_arg0)) (m ((c : Thread nD τ).loc main_arg1)) (m ((c : Thread nD τ).loc main_arg2)) (m ((c : Thread nD τ).loc main_arg4)) (ix4 (bq t.val q) (sq t.val q) g l) := by
  refine (kwRow m c t q j).trans ?_
  have e1 : (⟨j.val / 64, by omega⟩ : Fin 2) = g := Fin.ext (by show j.val / 64 = g.val; omega)
  have e2 : (⟨j.val % 64, by omega⟩ : Fin 64) = l := Fin.ext (by show j.val % 64 = l.val; omega)
  rw [e1, e2]

end Cert.In

end
-- ==== Proof.In.PointsQ.lean ====
module

public import proofs.«01_k».proof.Proof.In.Rows
public import Idealize.ShloMosaic.Lib.ValueIdx
public import Idealize.ShloMosaic.Lib.Pointwise
public import Idealize.ShloMosaic.Lib.Claim
public import Idealize.ShloMosaic.Lib.Pipeline.ValueKit

/-! The queries, the compressed branch's rows and the gates. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.Reference3Ideal.Read

variable (m : (ℓ : Loc nD τ sig) → Buf (Elt Ideal) ℓ) (c : Dev nD) (t : Fin cfg0.N)

/-- The queries, -/
theorem row15 (q : Fin 256) (n : Fin 512) : o15 (F := Ideal) (iblk m c 0 t) (iblk m c 1 t) (iblk m c 2 t) (iblk m c 6 t) (iblk m c 8 t) (iblk m c 10 t) (iblk m c 11 t) (iblk m c 12 t) (ix2 q n) = val_main_v242 (F := Ideal) (m ((c : Thread nD τ).loc main_arg0)) (m ((c : Thread nD τ).loc main_arg1)) (m ((c : Thread nD τ).loc main_arg2)) (m ((c : Thread nD τ).loc main_arg3)) (ix2 (rq t.val q) n) := by
  unfold o15
  refine (k_q _ _ _ _ _ _ _ q n).trans (Eq.trans ?_ (r_242 _ _ _ _ (rq t.val q) n).symm)
  rw [rq_b t q, rq_s t q]
  refine Eq.trans ?_ (r_qr _ _ _ _ _ _ _ _).symm
  refine congrArg (fun x : EReal => x * _) ?_
  refine (head_row 8 _ _ _ _ _ _ (sq t.val q).val n (fun l => val_main_v13 (F := Ideal) (m ((c : Thread nD τ).loc main_arg0)) (m ((c : Thread nD τ).loc main_arg1)) (m ((c : Thread nD τ).loc main_arg2)) (ix3 (bq t.val q) (sq t.val q) ⟨n.val / 64 * 64 + l.val, by omega⟩))
    (fun l => (m ((c : Thread nD τ).loc main_arg3)) (ix1 l)) (funext fun k => funext fun j => blk8 m c t k j)
    (funext fun j => ?_) (funext fun j => ?_) (funext fun j => ?_) (fun l => ?_) (fun l => ?_)).trans ?_
  · refine (k_c4 _ q j).trans ((blk10 m c t q _).trans (congrArg (tabC _) ?_))
    show j.val % 128 % 64 = j.val % 64
    omega
  · refine (k_a4 _ q j).trans ((blk11 m c t q _).trans (congrArg (tabA _) ?_))
    show j.val % 128 % 64 = j.val % 64
    omega
  · refine (k_b4 _ q j).trans ((blk12 m c t q _).trans (congrArg (tabB _) ?_))
    show j.val % 128 % 64 = j.val % 64
    omega
  · exact row m c t _ q _ _ fun k => blk2 m c t k _
  · refine (blk6 m c t _).trans (congrArg (fun o => (m ((c : Thread nD τ).loc main_arg3)) (ix1 o)) (Fin.ext ?_))
    show (n.val / 64 * 64 + l.val) % 64 = l.val
    omega
  · have e : (fun l => val_main_v39 (F := Ideal) (m ((c : Thread nD τ).loc main_arg0)) (m ((c : Thread nD τ).loc main_arg1)) (m ((c : Thread nD τ).loc main_arg2)) (m ((c : Thread nD τ).loc main_arg3)) (ix4 (bq t.val q) (sq t.val q) ⟨n.val / 64, by omega⟩ l)) = Cert.Post.normed (Ideal.ofBits .f32 0x42800000#32)
        (fun l => val_main_v13 (F := Ideal) (m ((c : Thread nD τ).loc main_arg0)) (m ((c : Thread nD τ).loc main_arg1)) (m ((c : Thread nD τ).loc main_arg2)) (ix3 (bq t.val q) (sq t.val q) ⟨n.val / 64 * 64 + l.val, by omega⟩)) (fun l => (m ((c : Thread nD τ).loc main_arg3)) (ix1 l)) :=
      funext fun l => (r_qn _ _ _ _ _ _ ⟨n.val / 64, by omega⟩ l).trans (norm_congr (funext fun l => r_q _ _ _ _ _ ⟨n.val / 64, by omega⟩ l) rfl l)
    rw [e]
    rfl

/-- the compressed branch's keys and values, -/
theorem row16 (q : Fin 256) (n : Fin 128) : o16 (F := Ideal) (iblk m c 0 t) (iblk m c 1 t) (iblk m c 3 t) (ix2 q n) = val_main_v243 (F := Ideal) (m ((c : Thread nD τ).loc main_arg0)) (m ((c : Thread nD τ).loc main_arg1)) (m ((c : Thread nD τ).loc main_arg2)) (ix2 (rq t.val q) n) := by
  unfold o16
  refine (k_kc _ _ q n).trans ((kv m c t q _).trans (Eq.trans ?_ (r_243 _ _ _ (rq t.val q) n).symm))
  rw [rq_b t q, rq_s t q]
theorem row17 (q : Fin 256) (n : Fin 128) : o17 (F := Ideal) (iblk m c 0 t) (iblk m c 1 t) (iblk m c 3 t) (ix2 q n) = val_main_v244 (F := Ideal) (m ((c : Thread nD τ).loc main_arg0)) (m ((c : Thread nD τ).loc main_arg1)) (m ((c : Thread nD τ).loc main_arg2)) (ix2 (rq t.val q) n) := by
  unfold o17
  refine (k_vc _ _ q n).trans ((kv m c t q _).trans (Eq.trans ?_ (r_244 _ _ _ (rq t.val q) n).symm))
  rw [rq_b t q, rq_s t q]
  refine congrArg (fun o => val_main_v13 (F := Ideal) (m ((c : Thread nD τ).loc main_arg0)) (m ((c : Thread nD τ).loc main_arg1)) (m ((c : Thread nD τ).loc main_arg2)) (ix3 (bq t.val q) (sq t.val q) o)) (Fin.ext ?_)
  show 512 + (128 + n.val) = 640 + n.val
  omega

/-- and the gates. -/
theorem row22 (q : Fin 256) (n : Fin 256) : o22 (F := Ideal) (iblk m c 0 t) (iblk m c 1 t) (iblk m c 4 t) (ix2 q n) = val_main_v257 (F := Ideal) (m ((c : Thread nD τ).loc main_arg0)) (m ((c : Thread nD τ).loc main_arg1)) (m ((c : Thread nD τ).loc main_arg2)) (ix2 (rq t.val q) n) := by
  unfold o22
  refine (k_gate _ _ q n).trans (Eq.trans ?_ (r_257 _ _ _ (rq t.val q) n).symm)
  rw [rq_b t q, rq_s t q]
  refine congrArg Ideal.logistic ?_
  by_cases h : n.val % 128 < 12
  · rw [dif_pos h]
    exact row m c t _ q n _ fun k => (blk4 m c t k n).trans (dif_pos h)
  · rw [dif_neg h]
    unfold prod
    refine Finset.sum_eq_zero fun k _ => ?_
    refine (congrArg (fun x : EReal => _ * x) ((blk4 m c t k n).trans (dif_neg h))).trans ?_
    exact mul_zero _

end Cert.In

end
-- ==== Proof.In.Body.lean ====
module

public import proofs.«01_k».proof.Proof.In.Window

/-! The body at one grid point, run once: from what the buffers hold before to what they hold after. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

open Cert.Post (window_all put_all readAt_win read_put)

set_option maxHeartbeats 16000000 in
/-- The body's triple. -/
theorem run (c : Dev nD) (i : grid0.Coords)
    (arg1 : Memref sig .tc .vmem S256x1024 .f32) (harg1 : arg1.IsWhole)
    (arg2 : Memref sig .tc .vmem S1x1024 .f32) (harg2 : arg2.IsWhole)
    (arg3 : Memref sig .tc .vmem S1024x512 .bf16) (harg3 : arg3.IsWhole)
    (arg4 : Memref sig .tc .vmem S1024x768 .bf16) (harg4 : arg4.IsWhole)
    (arg5 : Memref sig .tc .vmem S1024x256 .bf16) (harg5 : arg5.IsWhole)
    (arg6 : Memref sig .tc .vmem S1024x1536 .bf16) (harg6 : arg6.IsWhole)
    (arg7 : Memref sig .tc .vmem S1x512 .f32) (harg7 : arg7.IsWhole)
    (arg8 : Memref sig .tc .vmem S2x128 .f32) (harg8 : arg8.IsWhole)
    (arg9 : Memref sig .tc .vmem S512x512 .bf16) (harg9 : arg9.IsWhole)
    (arg10 : Memref sig .tc .vmem S128x128 .bf16) (harg10 : arg10.IsWhole)
    (arg11 : Memref sig .tc .vmem S256x128 .f32) (harg11 : arg11.IsWhole)
    (arg12 : Memref sig .tc .vmem S256x128 .f32) (harg12 : arg12.IsWhole)
    (arg13 : Memref sig .tc .vmem S256x128 .f32) (harg13 : arg13.IsWhole)
    (arg14 : Memref sig .tc .vmem S3x512 .f32) (harg14 : arg14.IsWhole)
    (arg15 : Memref sig .tc .vmem S1x512 .f32) (harg15 : arg15.IsWhole)
    (arg16 : Memref sig .tc .vmem S256x512 .bf16) (harg16 : arg16.IsWhole)
    (arg17 : Memref sig .tc .vmem S256x128 .f32) (harg17 : arg17.IsWhole)
    (arg18 : Memref sig .tc .vmem S256x128 .f32) (harg18 : arg18.IsWhole)
    (arg19 : Memref sig .tc .vmem S1x2x256x256 .bf16) (harg19 : arg19.IsWhole)
    (arg20 : Memref sig .tc .vmem S1x2x256x128 .bf16) (harg20 : arg20.IsWhole)
    (arg21 : Memref sig .tc .vmem S1x2x256x128 .bf16) (harg21 : arg21.IsWhole)
    (arg22 : Memref sig .tc .vmem S1x2x256x128 .bf16) (harg22 : arg22.IsWhole)
    (arg23 : Memref sig .tc .vmem S256x256 .f32) (harg23 : arg23.IsWhole)
    (arg24 : Memref sig .tc .vmem S256x512 .bf16) (harg24 : arg24.IsWhole)
    (arg25 : Memref sig .tc .vmem S264x512 .f32) (harg25 : arg25.IsWhole)
    (x0 : Vec F S256x1024 .f32)
    (x1 : Vec F S1x1024 .f32)
    (x2 : Vec F S1024x512 .bf16)
    (x3 : Vec F S1024x768 .bf16)
    (x4 : Vec F S1024x256 .bf16)
    (x5 : Vec F S1024x1536 .bf16)
    (x6 : Vec F S1x512 .f32)
    (x7 : Vec F S2x128 .f32)
    (x8 : Vec F S512x512 .bf16)
    (x9 : Vec F S128x128 .bf16)
    (x10 : Vec F S256x128 .f32)
    (x11 : Vec F S256x128 .f32)
    (x12 : Vec F S256x128 .f32)
    (x13 : Vec F S3x512 .f32)
    (x14 : Vec F S1x512 .f32)
    (x15 : Vec F S256x512 .bf16)
    (x16 : Vec F S256x128 .f32)
    (x17 : Vec F S256x128 .f32)
    (x18 : Vec F S1x2x256x256 .bf16)
    (x19 : Vec F S1x2x256x128 .bf16)
    (x20 : Vec F S1x2x256x128 .bf16)
    (x21 : Vec F S1x2x256x128 .bf16)
    (x22 : Vec F S256x256 .f32)
    (x23 : Vec F S256x512 .bf16)
    (x24 : Vec F S264x512 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare (o15 x0 x1 x2 x6 x8 x10 x11 x12) ∗ owns (c : Thread nD τ) arg17 fullShare (o16 x0 x1 x3) ∗ owns (c : Thread nD τ) arg18 fullShare (o17 x0 x1 x3) ∗ owns (c : Thread nD τ) arg19 fullShare (o18 i x0 x1 x3 x7 x9 x10 x11 x12) ∗ owns (c : Thread nD τ) arg20 fullShare (o19 x0 x1 x3) ∗ owns (c : Thread nD τ) arg21 fullShare (o20 x0 x1 x3 x7 x9 x10 x11 x12) ∗ owns (c : Thread nD τ) arg22 fullShare (o21 x0 x1 x3) ∗ owns (c : Thread nD τ) arg23 fullShare (o22 x0 x1 x4) ∗ owns (c : Thread nD τ) arg24 fullShare (o23 x0 x1 x5 x13 x14 (window (startOf i x24) ![0, 0] ![8, 512] inb_S264x512_S8x512_0_0)) ∗ owns (c : Thread nD τ) arg25 fullShare (gOf i x0 x1 x5 x24)) -∗ K ⟨⟩))
    ⊢ wp frame (wpE (defs₀ (F := F)) Variants.none c none) E (cc0_inproj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K := by
  simp only [cc0_inproj_eq_skeleton]; unfold cc0_inproj_skel
  simp only [k0_part1_eq_skeleton, k0_part2_eq_skeleton, k0_part3_eq_skeleton, k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, Hk⟩
  rcases start_cases (F := F) i with ⟨hc, hs⟩ | ⟨hc, hs⟩
  all_goals
    sl_exec (disch := first | sl_exact hc)
    sl_step
    iapply Hk
    isplitl [H0]
    · iexists _; isplitr; rotate_left; · iexact H0
      ipureintro
      exact hf0
    isplitl [H1]
    · iexists _; isplitr; rotate_left; · iexact H1
      ipureintro
      exact hf1
    isplitl [H2]
    · iexists _; isplitr; rotate_left; · iexact H2
      ipureintro
      exact hf2
    isplitl [H3]
    · iexists _; isplitr; rotate_left; · iexact H3
      ipureintro
      exact hf3
    isplitl [H4]
    · iexists _; isplitr; rotate_left; · iexact H4
      ipureintro
      exact hf4
    isplitl [H5]
    · iexists _; isplitr; rotate_left; · iexact H5
      ipureintro
      exact hf5
    isplitl [H6]
    · iexists _; isplitr; rotate_left; · iexact H6
      ipureintro
      exact hf6
    isplitl [H7]
    · iexists _; isplitr; rotate_left; · iexact H7
      ipureintro
      exact hf7
    isplitl [H8]
    · iexists _; isplitr; rotate_left; · iexact H8
      ipureintro
      exact hf8
    isplitl [H9]
    · iexists _; isplitr; rotate_left; · iexact H9
      ipureintro
      exact hf9
    isplitl [H10]
    · iexists _; isplitr; rotate_left; · iexact H10
      ipureintro
      exact hf10
    isplitl [H11]
    · iexists _; isplitr; rotate_left; · iexact H11
      ipureintro
      exact hf11
    isplitl [H12]
    · iexists _; isplitr; rotate_left; · iexact H12
      ipureintro
      exact hf12
    isplitl [H13]
    · iexists _; isplitr; rotate_left; · iexact H13
      ipureintro
      exact hf13
    isplitl [H14]
    · iexists _; isplitr; rotate_left; · iexact H14
      ipureintro
      exact hf14
    isplitl [H15]
    · iexists _; isplitr; rotate_left; · iexact H15
      ipureintro
      sl_unfold_run_names
      simp only [View.readCov, readAt_win, read_put, View.writes_nil, window_all, put_all, put_halves, window_head, window_seven, window_six, window_end,
      o15, o16, o17, o18, o19, o20, o21, o22, o23, gOf, zOf, handOf, hs, ksOf, kwOf, gain0, gain1, tap0, tap1, tap2, placeOf, if_true, if_false,
      hf0, hf1, hf2, hf3, hf4, hf5, hf6, hf7, hf8, hf9, hf10, hf11, hf12, hf13, hf14, hf15, hf16, hf17, hf18, hf19, hf20, hf21, hf22, hf23, hf24]
    isplitl [H16]
    · iexists _; isplitr; rotate_left; · iexact H16
      ipureintro
      sl_unfold_run_names
      simp only [View.readCov, readAt_win, read_put, View.writes_nil, window_all, put_all, put_halves, window_head, window_seven, window_six, window_end,
      o15, o16, o17, o18, o19, o20, o21, o22, o23, gOf, zOf, handOf, hs, ksOf, kwOf, gain0, gain1, tap0, tap1, tap2, placeOf, if_true, if_false,
      hf0, hf1, hf2, hf3, hf4, hf5, hf6, hf7, hf8, hf9, hf10, hf11, hf12, hf13, hf14, hf15, hf16, hf17, hf18, hf19, hf20, hf21, hf22, hf23, hf24]
    isplitl [H17]
    · iexists _; isplitr; rotate_left; · iexact H17
      ipureintro
      sl_unfold_run_names
      simp only [View.readCov, readAt_win, read_put, View.writes_nil, window_all, put_all, put_halves, window_head, window_seven, window_six, window_end,
      o15, o16, o17, o18, o19, o20, o21, o22, o23, gOf, zOf, handOf, hs, ksOf, kwOf, gain0, gain1, tap0, tap1, tap2, placeOf, if_true, if_false,
      hf0, hf1, hf2, hf3, hf4, hf5, hf6, hf7, hf8, hf9, hf10, hf11, hf12, hf13, hf14, hf15, hf16, hf17, hf18, hf19, hf20, hf21, hf22, hf23, hf24]
    isplitl [H18]
    · iexists _; isplitr; rotate_left; · iexact H18
      ipureintro
      sl_unfold_run_names
      simp only [View.readCov, readAt_win, read_put, View.writes_nil, window_all, put_all, put_halves, window_head, window_seven, window_six, window_end,
      o15, o16, o17, o18, o19, o20, o21, o22, o23, gOf, zOf, handOf, hs, ksOf, kwOf, gain0, gain1, tap0, tap1, tap2, placeOf, if_true, if_false,
      hf0, hf1, hf2, hf3, hf4, hf5, hf6, hf7, hf8, hf9, hf10, hf11, hf12, hf13, hf14, hf15, hf16, hf17, hf18, hf19, hf20, hf21, hf22, hf23, hf24]
    isplitl [H19]
    · iexists _; isplitr; rotate_left; · iexact H19
      ipureintro
      sl_unfold_run_names
      simp only [View.readCov, readAt_win, read_put, View.writes_nil, window_all, put_all, put_halves, window_head, window_seven, window_six, window_end,
      o15, o16, o17, o18, o19, o20, o21, o22, o23, gOf, zOf, handOf, hs, ksOf, kwOf, gain0, gain1, tap0, tap1, tap2, placeOf, if_true, if_false,
      hf0, hf1, hf2, hf3, hf4, hf5, hf6, hf7, hf8, hf9, hf10, hf11, hf12, hf13, hf14, hf15, hf16, hf17, hf18, hf19, hf20, hf21, hf22, hf23, hf24]
    isplitl [H20]
    · iexists _; isplitr; rotate_left; · iexact H20
      ipureintro
      sl_unfold_run_names
      simp only [View.readCov, readAt_win, read_put, View.writes_nil, window_all, put_all, put_halves, window_head, window_seven, window_six, window_end,
      o15, o16, o17, o18, o19, o20, o21, o22, o23, gOf, zOf, handOf, hs, ksOf, kwOf, gain0, gain1, tap0, tap1, tap2, placeOf, if_true, if_false,
      hf0, hf1, hf2, hf3, hf4, hf5, hf6, hf7, hf8, hf9, hf10, hf11, hf12, hf13, hf14, hf15, hf16, hf17, hf18, hf19, hf20, hf21, hf22, hf23, hf24]
    isplitl [H21]
    · iexists _; isplitr; rotate_left; · iexact H21
      ipureintro
      sl_unfold_run_names
      simp only [View.readCov, readAt_win, read_put, View.writes_nil, window_all, put_all, put_halves, window_head, window_seven, window_six, window_end,
      o15, o16, o17, o18, o19, o20, o21, o22, o23, gOf, zOf, handOf, hs, ksOf, kwOf, gain0, gain1, tap0, tap1, tap2, placeOf, if_true, if_false,
      hf0, hf1, hf2, hf3, hf4, hf5, hf6, hf7, hf8, hf9, hf10, hf11, hf12, hf13, hf14, hf15, hf16, hf17, hf18, hf19, hf20, hf21, hf22, hf23, hf24]
    isplitl [H22]
    · iexists _; isplitr; rotate_left; · iexact H22
      ipureintro
      sl_unfold_run_names
      simp only [View.readCov, readAt_win, read_put, View.writes_nil, window_all, put_all, put_halves, window_head, window_seven, window_six, window_end,
      o15, o16, o17, o18, o19, o20, o21, o22, o23, gOf, zOf, handOf, hs, ksOf, kwOf, gain0, gain1, tap0, tap1, tap2, placeOf, if_true, if_false,
      hf0, hf1, hf2, hf3, hf4, hf5, hf6, hf7, hf8, hf9, hf10, hf11, hf12, hf13, hf14, hf15, hf16, hf17, hf18, hf19, hf20, hf21, hf22, hf23, hf24]
    isplitl [H23]
    · iexists _; isplitr; rotate_left; · iexact H23
      ipureintro
      sl_unfold_run_names
      simp only [View.readCov, readAt_win, read_put, View.writes_nil, window_all, put_all, put_halves, window_head, window_seven, window_six, window_end,
      o15, o16, o17, o18, o19, o20, o21, o22, o23, gOf, zOf, handOf, hs, ksOf, kwOf, gain0, gain1, tap0, tap1, tap2, placeOf, if_true, if_false,
      hf0, hf1, hf2, hf3, hf4, hf5, hf6, hf7, hf8, hf9, hf10, hf11, hf12, hf13, hf14, hf15, hf16, hf17, hf18, hf19, hf20, hf21, hf22, hf23, hf24]
    iexists _; isplitr; rotate_left; · iexact H24
    ipureintro
    sl_unfold_run_names
    simp only [View.readCov, readAt_win, read_put, View.writes_nil, window_all, put_all, put_halves, window_head, window_seven, window_six, window_end,
      o15, o16, o17, o18, o19, o20, o21, o22, o23, gOf, zOf, handOf, hs, ksOf, kwOf, gain0, gain1, tap0, tap1, tap2, placeOf, if_true, if_false,
      hf0, hf1, hf2, hf3, hf4, hf5, hf6, hf7, hf8, hf9, hf10, hf11, hf12, hf13, hf14, hf15, hf16, hf17, hf18, hf19, hf20, hf21, hf22, hf23, hf24]

end Cert.In

end
-- ==== Proof.In.Frame.lean ====
module

public import proofs.«01_k».proof.Proof.In.Body

/-! The body at every grid point: what the carried buffer holds before it and after it. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

variable (m : (ℓ : Loc nD τ sig) → Buf (Elt F) ℓ) (ρ : Dev nD → PrngReg)

/-- Point `k` of the grid. -/
def pt (k : ℕ) : Fin cfg0.N := ⟨k % cfg0.N, Nat.mod_lt _ (by decide)⟩

theorem pt_val (t : Fin cfg0.N) : pt t.val = t := Fin.ext (Nat.mod_eq_of_lt t.isLt)

/-- The rows point `k` hands to the next, -/
def handT (c : Dev nD) (k : ℕ) : Vec F S8x512 .f32 := handOf (iblk m c 0 (pt k)) (iblk m c 1 (pt k)) (iblk m c 5 (pt k))
/-- and the rows it finds. -/
def staT (c : Dev nD) (k : ℕ) : Vec F S8x512 .f32 := if k % 32 = 0 then k0_pay49 else handT m c (k - 1)

/-- What the carried buffer holds before point `n`. -/
def Inv (c : Dev nD) (n : ℕ) (g : Vec F S264x512 .f32) : Prop :=
  n ≠ 0 → window g ![0, 0] ![8, 512] inb_S264x512_S8x512_0_0 = handT m c (n - 1)

/-- The carried buffer at contents of the invariant before point `n`, and the generator register. -/
def PhiAt (c : Dev nD) (n : ℕ) : sProp 𝕄 :=
  iprop(∃ g, ⌜Inv m c n g⌝ ∗ owns (c : Thread nD τ) scM0_0 fullShare g ∗ (∃ r, prngReg c r))

/-- The proof data: each input's block in place, each output's block at its closed form. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => o15 (iblk m c 0 t) (iblk m c 1 t) (iblk m c 2 t) (iblk m c 6 t) (iblk m c 8 t) (iblk m c 10 t) (iblk m c 11 t) (iblk m c 12 t)
    | ⟨16, _⟩ => o16 (iblk m c 0 t) (iblk m c 1 t) (iblk m c 3 t)
    | ⟨17, _⟩ => o17 (iblk m c 0 t) (iblk m c 1 t) (iblk m c 3 t)
    | ⟨18, _⟩ => o18 (grid0.coords t) (iblk m c 0 t) (iblk m c 1 t) (iblk m c 3 t) (iblk m c 7 t) (iblk m c 9 t) (iblk m c 10 t) (iblk m c 11 t) (iblk m c 12 t)
    | ⟨19, _⟩ => o19 (iblk m c 0 t) (iblk m c 1 t) (iblk m c 3 t)
    | ⟨20, _⟩ => o20 (iblk m c 0 t) (iblk m c 1 t) (iblk m c 3 t) (iblk m c 7 t) (iblk m c 9 t) (iblk m c 10 t) (iblk m c 11 t) (iblk m c 12 t)
    | ⟨21, _⟩ => o21 (iblk m c 0 t) (iblk m c 1 t) (iblk m c 3 t)
    | ⟨22, _⟩ => o22 (iblk m c 0 t) (iblk m c 1 t) (iblk m c 4 t)
    | ⟨23, _⟩ => o23 (iblk m c 0 t) (iblk m c 1 t) (iblk m c 5 t) (iblk m c 13 t) (iblk m c 14 t) (staT m c t.val)
    | ⟨n + 24, h⟩ => absurd h (Nat.not_lt.2 (Nat.le_add_left _ _))
  Φ t := PhiAt m c t.val
  q _ := fullShare
  owed _ := 0

theorem A_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = o15 (iblk m c 0 t) (iblk m c 1 t) (iblk m c 2 t) (iblk m c 6 t) (iblk m c 8 t) (iblk m c 10 t) (iblk m c 11 t) (iblk m c 12 t) := by dsimp only [dats]
theorem after16 (c : Dev nD) (t : Fin cfg0.N) : (dats m 0 c).after 16 t = o16 (iblk m c 0 t) (iblk m c 1 t) (iblk m c 3 t) := by dsimp only [dats]
theorem after17 (c : Dev nD) (t : Fin cfg0.N) : (dats m 0 c).after 17 t = o17 (iblk m c 0 t) (iblk m c 1 t) (iblk m c 3 t) := by dsimp only [dats]
theorem after18 (c : Dev nD) (t : Fin cfg0.N) : (dats m 0 c).after 18 t = o18 (grid0.coords t) (iblk m c 0 t) (iblk m c 1 t) (iblk m c 3 t) (iblk m c 7 t) (iblk m c 9 t) (iblk m c 10 t) (iblk m c 11 t) (iblk m c 12 t) := by dsimp only [dats]
theorem after19 (c : Dev nD) (t : Fin cfg0.N) : (dats m 0 c).after 19 t = o19 (iblk m c 0 t) (iblk m c 1 t) (iblk m c 3 t) := by dsimp only [dats]
theorem after20 (c : Dev nD) (t : Fin cfg0.N) : (dats m 0 c).after 20 t = o20 (iblk m c 0 t) (iblk m c 1 t) (iblk m c 3 t) (iblk m c 7 t) (iblk m c 9 t) (iblk m c 10 t) (iblk m c 11 t) (iblk m c 12 t) := by dsimp only [dats]
theorem after21 (c : Dev nD) (t : Fin cfg0.N) : (dats m 0 c).after 21 t = o21 (iblk m c 0 t) (iblk m c 1 t) (iblk m c 3 t) := by dsimp only [dats]
theorem after22 (c : Dev nD) (t : Fin cfg0.N) : (dats m 0 c).after 22 t = o22 (iblk m c 0 t) (iblk m c 1 t) (iblk m c 4 t) := by dsimp only [dats]
theorem after23 (c : Dev nD) (t : Fin cfg0.N) : (dats m 0 c).after 23 t = o23 (iblk m c 0 t) (iblk m c 1 t) (iblk m c 5 t) (iblk m c 13 t) (iblk m c 14 t) (staT m c t.val) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d

variable {m} in
theorem step_start {c : Dev nD} {t : Fin cfg0.N} {g} (hI : Inv m c t.val g) :
    window (startOf (grid0.coords t) g) ![0, 0] ![8, 512] inb_S264x512_S8x512_0_0 = staT m c t.val := by
  rw [startOf, staT]
  by_cases e : t.val % 32 = 0
  · rw [if_pos ((hcond0_0 t).2 e), if_pos e]
    exact VecWindow.window_put_same _ _ _ _ _
  · rw [if_neg (fun h => e ((hcond0_0 t).1 h)), if_neg e]
    exact hI (fun h => e (by rw [h]))

theorem step_inv (c : Dev nD) (t : Fin cfg0.N) (g) :
    Inv m c (t.val + 1) (gOf (grid0.coords t) (iblk m c 0 t) (iblk m c 1 t) (iblk m c 5 t) g) := by
  intro _
  rw [Nat.add_sub_cancel, handT, pt_val]
  exact VecWindow.window_put_same _ _ _ _ _

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t))

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14]
  rw [show (dats m 0 c).Φ t.succ = PhiAt m c (t.val + 1) from rfl, show (dats m 0 c).Φ t.castSucc = PhiAt m c t.val from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23]
  unfold PhiAt
  iintro ⟨⟨%g, %hI, HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (run c (grid0.coords t) _ _ _ _ _ _ _ _ _ _ _ _ _ _ _ _ _ _ _ _ _ _ _ _ _ _ _ _ _ _ _ _ _ _ _ _ _ _ _ _ _ _ _ _ _ _ _ _ _ _  (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _ _ _ _ _ _ _ _ _  g Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [HS]; · iexact HS
  iintro ⟨H0, H1, H2, H3, H4, H5, H6, H7, H8, H9, H10, H11, H12, H13, H14, H15, H16, H17, H18, H19, H20, H21, H22, H23, HS⟩
  isplitl [HS Hg]
  · iexists _
    isplitr; rotate_left
    · isplitl [HS]; · iexact HS
      iexact Hg
    ipureintro; exact step_inv m c t g
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  rw [← step_start hI]
  iexact H23

end Cert.In

end
-- ==== Proof.In.Launch.lean ====
module

public import proofs.«01_k».proof.Proof.In.Frame

/-! The run of the whole program, and the frame claim. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open VecWindow (window put)

variable (m : (ℓ : Loc nD τ sig) → Buf (Elt F) ℓ) (ρ : Dev nD → PrngReg)

theorem body_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem phi_in (c : Dev nD) : (Pipeline.ΦA spec0 c : sProp 𝕄) ⊢ PhiAt m c 0 := by
  rw [PhiA0_eq]; unfold PhiAt
  iintro ⟨⟨%g, H⟩, Hg⟩
  iexists g
  isplitr; · ipureintro; exact fun h => absurd rfl h
  isplitl [H]; · iexact H
  iexact Hg

theorem phi_out (c : Dev nD) (n : ℕ) : PhiAt m c n ⊢ (Pipeline.ΦA spec0 c : sProp 𝕄) := by
  rw [PhiA0_eq]; unfold PhiAt
  iintro ⟨%g, %hI, H, Hg⟩
  isplitl [H]; · iexists g; iexact H
  iexact Hg

set_option backward.isDefEq.respectTransparency.types false in
/-- The run, and every semaphore counter at zero at its end. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => phi_in m c) (hout := fun c => phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- Every execution ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.In

end
-- ==== Proof.In.FinalQ.lean ====
module

public import proofs.«01_k».proof.Proof.In.PointsQ
public import proofs.«01_k».proof.Proof.In.Launch
public import Idealize.ShloMosaic.Lib.ValueIdx
public import Idealize.ShloMosaic.Lib.Pointwise
public import Idealize.ShloMosaic.Lib.Claim
public import Idealize.ShloMosaic.Lib.Pipeline.ValueKit

/-! The result arrays of the queries, the compressed branch and the gates. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Reference3Ideal.Read

variable (m : (ℓ : Loc nD τ sig) → Buf (Elt Ideal) ℓ) (ρ : Dev nD → PrngReg) (c : Dev nD)

/-- The reference's value of the result. -/
def r15A : Cert.Kernel3Ideal.S16384x512.Idx → EReal := val_main_v242 (F := Ideal) (m ((c : Thread nD τ).loc main_arg0)) (m ((c : Thread nD τ).loc main_arg1)) (m ((c : Thread nD τ).loc main_arg2)) (m ((c : Thread nD τ).loc main_arg3))

theorem final15 : (dats (F := Ideal) m 0 c).arrAt 15 cfg0.N = r15A m c := by
  refine (dats m 0 c).arrAt_eq_of_covers 15 _ (by decide +kernel) fun t hf y => ?_
  blk_simp
  rw [after15]
  have key : ∀ (q : Fin 256) (n : Fin 512), (o15 (F := Ideal) (iblk m c 0 t) (iblk m c 1 t) (iblk m c 2 t) (iblk m c 6 t) (iblk m c 8 t) (iblk m c 10 t) (iblk m c 11 t) (iblk m c 12 t) : Vec Ideal _ _) (ix2 q n) = r15A m c ((win0_15.blk t).view.emb (ix2 q n)) := fun q n => by
    have ht : t.val < 64 := t.isLt
    have e : (win0_15.blk t).view.emb (ix2 q n) = (ix2 (rq t.val q) n : S16384x512.Idx) := by blk_ext [idx15 t, rq]
    rw [e]
    exact row15 m c t q n
  have hy : y = (ix2 (y 0) (y 1) : S256x512.Idx) := ValueIdx.eq_ix2 (n0 := 256) (n1 := 512) y
  rw [hy]
  exact key (y 0) (y 1)

def r16A : Cert.Kernel3Ideal.S16384x128.Idx → EReal := val_main_v243 (F := Ideal) (m ((c : Thread nD τ).loc main_arg0)) (m ((c : Thread nD τ).loc main_arg1)) (m ((c : Thread nD τ).loc main_arg2))

theorem final16 : (dats (F := Ideal) m 0 c).arrAt 16 cfg0.N = r16A m c := by
  refine (dats m 0 c).arrAt_eq_of_covers 16 _ (by decide +kernel) fun t hf y => ?_
  blk_simp
  rw [after16]
  have key : ∀ (q : Fin 256) (n : Fin 128), (o16 (F := Ideal) (iblk m c 0 t) (iblk m c 1 t) (iblk m c 3 t) : Vec Ideal _ _) (ix2 q n) = r16A m c ((win0_16.blk t).view.emb (ix2 q n)) := fun q n => by
    have ht : t.val < 64 := t.isLt
    have e : (win0_16.blk t).view.emb (ix2 q n) = (ix2 (rq t.val q) n : S16384x128.Idx) := by blk_ext [idx16 t, rq]
    rw [e]
    exact row16 m c t q n
  have hy : y = (ix2 (y 0) (y 1) : S256x128.Idx) := ValueIdx.eq_ix2 (n0 := 256) (n1 := 128) y
  rw [hy]
  exact key (y 0) (y 1)

def r17A : Cert.Kernel3Ideal.S16384x128.Idx → EReal := val_main_v244 (F := Ideal) (m ((c : Thread nD τ).loc main_arg0)) (m ((c : Thread nD τ).loc main_arg1)) (m ((c : Thread nD τ).loc main_arg2))

theorem final17 : (dats (F := Ideal) m 0 c).arrAt 17 cfg0.N = r17A m c := by
  refine (dats m 0 c).arrAt_eq_of_covers 17 _ (by decide +kernel) fun t hf y => ?_
  blk_simp
  rw [after17]
  have key : ∀ (q : Fin 256) (n : Fin 128), (o17 (F := Ideal) (iblk m c 0 t) (iblk m c 1 t) (iblk m c 3 t) : Vec Ideal _ _) (ix2 q n) = r17A m c ((win0_17.blk t).view.emb (ix2 q n)) := fun q n => by
    have ht : t.val < 64 := t.isLt
    have e : (win0_17.blk t).view.emb (ix2 q n) = (ix2 (rq t.val q) n : S16384x128.Idx) := by blk_ext [idx17 t, rq]
    rw [e]
    exact row17 m c t q n
  have hy : y = (ix2 (y 0) (y 1) : S256x128.Idx) := ValueIdx.eq_ix2 (n0 := 256) (n1 := 128) y
  rw [hy]
  exact key (y 0) (y 1)

def r22A : Cert.Kernel3Ideal.S16384x256.Idx → EReal := val_main_v257 (F := Ideal) (m ((c : Thread nD τ).loc main_arg0)) (m ((c : Thread nD τ).loc main_arg1)) (m ((c : Thread nD τ).loc main_arg2))

theorem final22 : (dats (F := Ideal) m 0 c).arrAt 22 cfg0.N = r22A m c := by
  refine (dats m 0 c).arrAt_eq_of_covers 22 _ (by decide +kernel) fun t hf y => ?_
  blk_simp
  rw [after22]
  have key : ∀ (q : Fin 256) (n : Fin 256), (o22 (F := Ideal) (iblk m c 0 t) (iblk m c 1 t) (iblk m c 4 t) : Vec Ideal _ _) (ix2 q n) = r22A m c ((win0_22.blk t).view.emb (ix2 q n)) := fun q n => by
    have ht : t.val < 64 := t.isLt
    have e : (win0_22.blk t).view.emb (ix2 q n) = (ix2 (rq t.val q) n : S16384x256.Idx) := by blk_ext [idx22 t, rq]
    rw [e]
    exact row22 m c t q n
  have hy : y = (ix2 (y 0) (y 1) : S256x256.Idx) := ValueIdx.eq_ix2 (n0 := 256) (n1 := 256) y
  rw [hy]
  exact key (y 0) (y 1)

end Cert.In

end
-- ==== Proof.In.Groups.lean ====
module

public import proofs.«01_k».proof.Proof.Gen.Kernel3Ideal.Skeleton
public import proofs.«01_k».proof.Proof.In.Spec
public import Idealize.ShloMosaic.Lib.ValueIdx
public import Idealize.ShloMosaic.Lib.Pointwise
public import Idealize.ShloMosaic.Lib.Claim

/-! The payloads of the key and value stores, one element at a time. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

variable (u : FVec Ideal S256x128 .f32) (q : Fin 256)

/-- The lanes' numbers. -/
def lanes : IVec S256x128 32 := iota .tc S256x128 32 [1] iota_S256x128_d1_w32

/-- The low half of the lanes, as compared. -/
theorem slt64 : ∀ n : ℕ, n < 128 → IntOp.cmpi CmpIPredicate.slt (BitVec.ofNat 32 n) 64#32 = if n < 64 then 1#1 else 0#1 := by decide
theorem sel1 {α : Type} (x y : α) : Scalar.select 1#1 x y = x := rfl
theorem sel0 {α : Type} (x y : α) : Scalar.select 0#1 x y = y := rfl

theorem k_own (p : BitVec 32) (a : Fin 128) : k0_pay21 (F := Ideal) (k0_pay20 p) lanes (ix2 q a) =
    Scalar.select (IntOp.cmpi CmpIPredicate.eq ((p * 256#32 + BitVec.ofNat 32 q.val) >>> 6) (BitVec.ofNat 32 a.val)) (1 : EReal) 0 := by
  pointwise [k0_pay21, k0_pay20, lanes]
  rfl

theorem k_vs0 (n : Fin 128) : k0_pay37 (F := Ideal) u (ix4 0 0 q n) = u (ix2 q ⟨0 + n.val % 64, by omega⟩) := by
  pointwise [k0_pay37, k0_pay26, k0_pay25]
  rw [slt64 n.val n.isLt]
  by_cases h : n.val < 64
  · rw [if_pos h, sel1]
    exact congrArg (fun j => u (ix2 q j)) (Fin.ext (by dsimp only; omega))
  · rw [if_neg h, sel0]
    exact congrArg (fun j => u (ix2 q j)) (Fin.ext (by dsimp only; omega))

theorem k_vs1 (n : Fin 128) : k0_pay41 (F := Ideal) (k0_pay27 u) (ix4 0 0 q n) = u (ix2 q ⟨64 + n.val % 64, by omega⟩) := by
  pointwise [k0_pay41, k0_pay27, k0_pay26, k0_pay25]
  rw [slt64 n.val n.isLt]
  by_cases h : n.val < 64
  · rw [if_pos h, sel1]
    exact congrArg (fun j => u (ix2 q j)) (Fin.ext (by dsimp only; omega))
  · rw [if_neg h, sel0]
    exact congrArg (fun j => u (ix2 q j)) (Fin.ext (by dsimp only; omega))

theorem k_kw0 (n : Fin 128) : k0_pay38 (F := Ideal) (k0_pay30 u) (ix4 0 0 q n) = u (ix2 q ⟨0 + n.val % 64, by omega⟩) := by
  pointwise [k0_pay38, k0_pay30, k0_pay29, k0_pay28]
  rw [slt64 n.val n.isLt]
  by_cases h : n.val < 64
  · rw [if_pos h, sel1]
    exact congrArg (fun j => u (ix2 q j)) (Fin.ext (by dsimp only; omega))
  · rw [if_neg h, sel0]
    exact congrArg (fun j => u (ix2 q j)) (Fin.ext (by dsimp only; omega))

theorem k_kw1 (n : Fin 128) : k0_pay42 (F := Ideal) (k0_pay31 u) (ix4 0 0 q n) = u (ix2 q ⟨64 + n.val % 64, by omega⟩) := by
  pointwise [k0_pay42, k0_pay31, k0_pay29, k0_pay28]
  rw [slt64 n.val n.isLt]
  by_cases h : n.val < 64
  · rw [if_pos h, sel1]
    exact congrArg (fun j => u (ix2 q j)) (Fin.ext (by dsimp only; omega))
  · rw [if_neg h, sel0]
    exact congrArg (fun j => u (ix2 q j)) (Fin.ext (by dsimp only; omega))

theorem k_vw0 (n : Fin 128) : k0_pay39 (F := Ideal) (k0_pay34 u) (ix4 0 0 q n) = u (ix2 q ⟨0 + n.val % 64, by omega⟩) := by
  pointwise [k0_pay39, k0_pay34, k0_pay33, k0_pay32]
  rw [slt64 n.val n.isLt]
  by_cases h : n.val < 64
  · rw [if_pos h, sel1]
    exact congrArg (fun j => u (ix2 q j)) (Fin.ext (by dsimp only; omega))
  · rw [if_neg h, sel0]
    exact congrArg (fun j => u (ix2 q j)) (Fin.ext (by dsimp only; omega))

theorem k_vw1 (n : Fin 128) : k0_pay43 (F := Ideal) (k0_pay35 u) (ix4 0 0 q n) = u (ix2 q ⟨64 + n.val % 64, by omega⟩) := by
  pointwise [k0_pay43, k0_pay35, k0_pay33, k0_pay32]
  rw [slt64 n.val n.isLt]
  by_cases h : n.val < 64
  · rw [if_pos h, sel1]
    exact congrArg (fun j => u (ix2 q j)) (Fin.ext (by dsimp only; omega))
  · rw [if_neg h, sel0]
    exact congrArg (fun j => u (ix2 q j)) (Fin.ext (by dsimp only; omega))

theorem k_sel0 (p l : IVec S256x128 32) (n : Fin 256) : k0_pay36 (F := Ideal) u p l (ix4 0 0 q n) =
    if h : n.val < 128 then u (ix2 q ⟨0 + n.val % 64, by omega⟩) else k0_pay21 (F := Ideal) p l (ix2 q ⟨n.val - 128, by omega⟩) := by
  pointwise [k0_pay36, k0_pay23, k0_pay22]
  by_cases h1 : n.val < 128
  · simp only [dif_pos h1]
    rw [slt64 n.val h1]
    by_cases h : n.val < 64
    · rw [if_pos h, sel1]
      exact congrArg (fun j => u (ix2 q j)) (Fin.ext (by dsimp only; omega))
    · rw [if_neg h, sel0]
      exact congrArg (fun j => u (ix2 q j)) (Fin.ext (by dsimp only; omega))
  · simp only [dif_neg h1]

theorem k_sel1 (o : FVec Ideal S256x128 .bf16) (n : Fin 256) : k0_pay40 (F := Ideal) o (k0_pay24 u) (ix4 0 0 q n) =
    if h : n.val < 128 then u (ix2 q ⟨64 + n.val % 64, by omega⟩) else o (ix2 q ⟨n.val - 128, by omega⟩) := by
  pointwise [k0_pay40, k0_pay24, k0_pay23, k0_pay22]
  by_cases h1 : n.val < 128
  · simp only [dif_pos h1]
    rw [slt64 n.val h1]
    by_cases h : n.val < 64
    · rw [if_pos h, sel1]
      exact congrArg (fun j => u (ix2 q j)) (Fin.ext (by dsimp only; omega))
    · rw [if_neg h, sel0]
      exact congrArg (fun j => u (ix2 q j)) (Fin.ext (by dsimp only; omega))
  · simp only [dif_neg h1]

end Cert.In

end
-- ==== Proof.In.PointsK.lean ====
module

public import proofs.«01_k».proof.Proof.In.Rows
public import proofs.«01_k».proof.Proof.In.Groups
public import Idealize.ShloMosaic.Lib.ValueIdx
public import Idealize.ShloMosaic.Lib.Pointwise
public import Idealize.ShloMosaic.Lib.Claim
public import Idealize.ShloMosaic.Lib.Pipeline.ValueKit

/-! The selected and the windowed branch's rows. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.Reference3Ideal.Read

variable (m : (ℓ : Loc nD τ sig) → Buf (Elt Ideal) ℓ) (c : Dev nD) (t : Fin cfg0.N)

theorem halves0 {α : Type} {n : ℕ} (X Y : (⟨4, ![1, 1, 256, n]⟩ : Shape).Idx → α) (q : Fin 256) (j : Fin n) : halves X Y (ix4 0 0 q j) = X (ix4 0 0 q j) := if_pos rfl
theorem halves1 {α : Type} {n : ℕ} (X Y : (⟨4, ![1, 1, 256, n]⟩ : Shape).Idx → α) (q : Fin 256) (j : Fin n) : halves X Y (ix4 0 1 q j) = Y (ix4 0 0 q j) := if_neg Nat.one_ne_zero

theorem place_at : ∀ t : Fin cfg0.N, placeOf (grid0.coords t) = BitVec.ofNat 32 (t.val % 32) := (by decide +kernel : ∀ t : Fin grid0.N, _)

/-- The tile's own blocks, numbered as the reference numbers them. -/
theorem own_row (q : Fin 256) (a : Fin 128) : k0_pay21 (F := Ideal) (k0_pay20 (placeOf (grid0.coords t))) lanes (ix2 q a) = own (sq t.val q).val a.val := by
  refine (k_own q _ a).trans ?_
  unfold own
  have e : (placeOf (grid0.coords t) * 256#32 + BitVec.ofNat 32 q.val) >>> 6 = BitVec.ofNat 32 ((sq t.val q).val / 64) := by
    rw [place_at t]
    have ht : t.val < 64 := t.isLt
    have hs : (sq t.val q).val = (256 * t.val + q.val) % 8192 := rfl
    refine BitVec.eq_of_toNat_eq ?_
    simp only [BitVec.toNat_ushiftRight, BitVec.toNat_add, BitVec.toNat_mul, BitVec.toNat_ofNat, Nat.shiftRight_eq_div_pow]
    rw [hs]
    omega
  rw [e]

/-- The selected branch's keys beside the own blocks, -/
theorem row18 (g : Fin 2) (q : Fin 256) (n : Fin 256) : o18 (F := Ideal) (grid0.coords t) (iblk m c 0 t) (iblk m c 1 t) (iblk m c 3 t) (iblk m c 7 t) (iblk m c 9 t) (iblk m c 10 t) (iblk m c 11 t) (iblk m c 12 t) (ix4 0 g q n) = val_main_v245 (F := Ideal) (m ((c : Thread nD τ).loc main_arg0)) (m ((c : Thread nD τ).loc main_arg1)) (m ((c : Thread nD τ).loc main_arg2)) (m ((c : Thread nD τ).loc main_arg4)) (ix4 (bq t.val q) g (sq t.val q) n) := by
  unfold o18
  by_cases hn : n.val < 128
  · rw [r_245lo _ _ _ _ _ _ g n hn]
    rcases (by omega : g.val = 0 ∨ g.val = 1) with hg | hg
    · obtain rfl : g = 0 := Fin.ext hg
      exact (halves0 _ _ q n).trans ((k_sel0 _ q _ _ n).trans ((dif_pos hn).trans (ks_at m c t q 0 ⟨n.val % 64, by omega⟩ _ rfl)))
    · obtain rfl : g = 1 := Fin.ext hg
      exact (halves1 _ _ q n).trans ((k_sel1 _ q _ n).trans ((dif_pos hn).trans (ks_at m c t q 1 ⟨n.val % 64, by omega⟩ _ rfl)))
  · rw [r_245hi _ _ _ _ _ _ g n hn]
    rcases (by omega : g.val = 0 ∨ g.val = 1) with hg | hg
    · obtain rfl : g = 0 := Fin.ext hg
      exact (halves0 _ _ q n).trans ((k_sel0 _ q _ _ n).trans ((dif_neg hn).trans (own_row t q _)))
    · obtain rfl : g = 1 := Fin.ext hg
      exact (halves1 _ _ q n).trans ((k_sel1 _ q _ n).trans ((dif_neg hn).trans (own_row t q _)))

/-- the values -/
theorem row19 (g : Fin 2) (q : Fin 256) (n : Fin 128) : o19 (F := Ideal) (iblk m c 0 t) (iblk m c 1 t) (iblk m c 3 t) (ix4 0 g q n) = val_main_v249 (F := Ideal) (m ((c : Thread nD τ).loc main_arg0)) (m ((c : Thread nD τ).loc main_arg1)) (m ((c : Thread nD τ).loc main_arg2)) (ix4 (bq t.val q) g (sq t.val q) n) := by
  unfold o19
  rw [r_249 _ _ _ _ _ g n]
  rcases (by omega : g.val = 0 ∨ g.val = 1) with hg | hg
  · obtain rfl : g = 0 := Fin.ext hg
    refine (halves0 _ _ q n).trans ((k_vs0 _ q n).trans ((k_vs _ q _).trans ((kv m c t q _).trans (congrArg (fun o => val_main_v13 (F := Ideal) (m ((c : Thread nD τ).loc main_arg0)) (m ((c : Thread nD τ).loc main_arg1)) (m ((c : Thread nD τ).loc main_arg2)) (ix3 (bq t.val q) (sq t.val q) o)) (Fin.ext ?_)))))
    show 512 + (384 + (0 + n.val % 64)) = 896 + (0 * 64 + n.val % 64)
    omega
  · obtain rfl : g = 1 := Fin.ext hg
    refine (halves1 _ _ q n).trans ((k_vs1 _ q n).trans ((k_vs _ q _).trans ((kv m c t q _).trans (congrArg (fun o => val_main_v13 (F := Ideal) (m ((c : Thread nD τ).loc main_arg0)) (m ((c : Thread nD τ).loc main_arg1)) (m ((c : Thread nD τ).loc main_arg2)) (ix3 (bq t.val q) (sq t.val q) o)) (Fin.ext ?_)))))
    show 512 + (384 + (64 + n.val % 64)) = 896 + (1 * 64 + n.val % 64)
    omega

/-- and the windowed branch's keys -/
theorem row20 (g : Fin 2) (q : Fin 256) (n : Fin 128) : o20 (F := Ideal) (iblk m c 0 t) (iblk m c 1 t) (iblk m c 3 t) (iblk m c 7 t) (iblk m c 9 t) (iblk m c 10 t) (iblk m c 11 t) (iblk m c 12 t) (ix4 0 g q n) = val_main_v252 (F := Ideal) (m ((c : Thread nD τ).loc main_arg0)) (m ((c : Thread nD τ).loc main_arg1)) (m ((c : Thread nD τ).loc main_arg2)) (m ((c : Thread nD τ).loc main_arg4)) (ix4 (bq t.val q) g (sq t.val q) n) := by
  unfold o20
  rw [r_252 _ _ _ _ _ _ g n]
  rcases (by omega : g.val = 0 ∨ g.val = 1) with hg | hg
  · obtain rfl : g = 0 := Fin.ext hg
    exact (halves0 _ _ q n).trans ((k_kw0 _ q n).trans (kw_at m c t q 0 ⟨n.val % 64, by omega⟩ _ rfl))
  · obtain rfl : g = 1 := Fin.ext hg
    exact (halves1 _ _ q n).trans ((k_kw1 _ q n).trans (kw_at m c t q 1 ⟨n.val % 64, by omega⟩ _ rfl))

/-- and values. -/
theorem row21 (g : Fin 2) (q : Fin 256) (n : Fin 128) : o21 (F := Ideal) (iblk m c 0 t) (iblk m c 1 t) (iblk m c 3 t) (ix4 0 g q n) = val_main_v256 (F := Ideal) (m ((c : Thread nD τ).loc main_arg0)) (m ((c : Thread nD τ).loc main_arg1)) (m ((c : Thread nD τ).loc main_arg2)) (ix4 (bq t.val q) g (sq t.val q) n) := by
  unfold o21
  rw [r_256 _ _ _ _ _ g n]
  rcases (by omega : g.val = 0 ∨ g.val = 1) with hg | hg
  · obtain rfl : g = 0 := Fin.ext hg
    refine (halves0 _ _ q n).trans ((k_vw0 _ q n).trans ((k_vw _ q _).trans ((kv m c t q _).trans (congrArg (fun o => val_main_v13 (F := Ideal) (m ((c : Thread nD τ).loc main_arg0)) (m ((c : Thread nD τ).loc main_arg1)) (m ((c : Thread nD τ).loc main_arg2)) (ix3 (bq t.val q) (sq t.val q) o)) (Fin.ext ?_)))))
    show 512 + (640 + (0 + n.val % 64)) = 1152 + (0 * 64 + n.val % 64)
    omega
  · obtain rfl : g = 1 := Fin.ext hg
    refine (halves1 _ _ q n).trans ((k_vw1 _ q n).trans ((k_vw _ q _).trans ((kv m c t q _).trans (congrArg (fun o => val_main_v13 (F := Ideal) (m ((c : Thread nD τ).loc main_arg0)) (m ((c : Thread nD τ).loc main_arg1)) (m ((c : Thread nD τ).loc main_arg2)) (ix3 (bq t.val q) (sq t.val q) o)) (Fin.ext ?_)))))
    show 512 + (640 + (64 + n.val % 64)) = 1152 + (1 * 64 + n.val % 64)
    omega

end Cert.In

end
-- ==== Proof.In.FinalK.lean ====
module

public import proofs.«01_k».proof.Proof.In.PointsK
public import proofs.«01_k».proof.Proof.In.Launch
public import Idealize.ShloMosaic.Lib.ValueIdx
public import Idealize.ShloMosaic.Lib.Pointwise
public import Idealize.ShloMosaic.Lib.Claim
public import Idealize.ShloMosaic.Lib.Pipeline.ValueKit

/-! The result arrays of the selected and the windowed branch. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Reference3Ideal.Read

variable (m : (ℓ : Loc nD τ sig) → Buf (Elt Ideal) ℓ) (ρ : Dev nD → PrngReg) (c : Dev nD)

/-- The reference's value of the result. -/
def r18A : Cert.Kernel3Ideal.S2x2x8192x256.Idx → EReal := val_main_v245 (F := Ideal) (m ((c : Thread nD τ).loc main_arg0)) (m ((c : Thread nD τ).loc main_arg1)) (m ((c : Thread nD τ).loc main_arg2)) (m ((c : Thread nD τ).loc main_arg4))

theorem final18 : (dats (F := Ideal) m 0 c).arrAt 18 cfg0.N = r18A m c := by
  refine (dats m 0 c).arrAt_eq_of_covers 18 _ (by decide +kernel) fun t hf y => ?_
  blk_simp
  rw [after18]
  have key : ∀ (g : Fin 2) (q : Fin 256) (n : Fin 256), (o18 (F := Ideal) (grid0.coords t) (iblk m c 0 t) (iblk m c 1 t) (iblk m c 3 t) (iblk m c 7 t) (iblk m c 9 t) (iblk m c 10 t) (iblk m c 11 t) (iblk m c 12 t) : Vec Ideal _ _) (ix4 0 g q n) = r18A m c ((win0_18.blk t).view.emb (ix4 0 g q n)) := fun g q n => by
    have ht : t.val < 64 := t.isLt
    have e : (win0_18.blk t).view.emb (ix4 0 g q n) = (ix4 (bq t.val q) g (sq t.val q) n : S2x2x8192x256.Idx) := by blk_ext [idx18 t, bq, sq]
    rw [e]
    exact row18 m c t g q n
  have h0 : y 0 = (0 : Fin 1) := Fin.ext (by have : (y 0).val < 1 := (y 0).isLt; show (y 0).val = 0; omega)
  have hy : y = (ix4 0 (y 1) (y 2) (y 3) : S1x2x256x256.Idx) := by
    refine (ValueIdx.eq_ix4 (n0 := 1) (n1 := 2) (n2 := 256) (n3 := 256) y).trans ?_
    rw [h0]
    rfl
  rw [hy]
  exact key (y 1) (y 2) (y 3)

def r19A : Cert.Kernel3Ideal.S2x2x8192x128.Idx → EReal := val_main_v249 (F := Ideal) (m ((c : Thread nD τ).loc main_arg0)) (m ((c : Thread nD τ).loc main_arg1)) (m ((c : Thread nD τ).loc main_arg2))

theorem final19 : (dats (F := Ideal) m 0 c).arrAt 19 cfg0.N = r19A m c := by
  refine (dats m 0 c).arrAt_eq_of_covers 19 _ (by decide +kernel) fun t hf y => ?_
  blk_simp
  rw [after19]
  have key : ∀ (g : Fin 2) (q : Fin 256) (n : Fin 128), (o19 (F := Ideal) (iblk m c 0 t) (iblk m c 1 t) (iblk m c 3 t) : Vec Ideal _ _) (ix4 0 g q n) = r19A m c ((win0_19.blk t).view.emb (ix4 0 g q n)) := fun g q n => by
    have ht : t.val < 64 := t.isLt
    have e : (win0_19.blk t).view.emb (ix4 0 g q n) = (ix4 (bq t.val q) g (sq t.val q) n : S2x2x8192x128.Idx) := by blk_ext [idx19 t, bq, sq]
    rw [e]
    exact row19 m c t g q n
  have h0 : y 0 = (0 : Fin 1) := Fin.ext (by have : (y 0).val < 1 := (y 0).isLt; show (y 0).val = 0; omega)
  have hy : y = (ix4 0 (y 1) (y 2) (y 3) : S1x2x256x128.Idx) := by
    refine (ValueIdx.eq_ix4 (n0 := 1) (n1 := 2) (n2 := 256) (n3 := 128) y).trans ?_
    rw [h0]
    rfl
  rw [hy]
  exact key (y 1) (y 2) (y 3)

def r20A : Cert.Kernel3Ideal.S2x2x8192x128.Idx → EReal := val_main_v252 (F := Ideal) (m ((c : Thread nD τ).loc main_arg0)) (m ((c : Thread nD τ).loc main_arg1)) (m ((c : Thread nD τ).loc main_arg2)) (m ((c : Thread nD τ).loc main_arg4))

theorem final20 : (dats (F := Ideal) m 0 c).arrAt 20 cfg0.N = r20A m c := by
  refine (dats m 0 c).arrAt_eq_of_covers 20 _ (by decide +kernel) fun t hf y => ?_
  blk_simp
  rw [after20]
  have key : ∀ (g : Fin 2) (q : Fin 256) (n : Fin 128), (o20 (F := Ideal) (iblk m c 0 t) (iblk m c 1 t) (iblk m c 3 t) (iblk m c 7 t) (iblk m c 9 t) (iblk m c 10 t) (iblk m c 11 t) (iblk m c 12 t) : Vec Ideal _ _) (ix4 0 g q n) = r20A m c ((win0_20.blk t).view.emb (ix4 0 g q n)) := fun g q n => by
    have ht : t.val < 64 := t.isLt
    have e : (win0_20.blk t).view.emb (ix4 0 g q n) = (ix4 (bq t.val q) g (sq t.val q) n : S2x2x8192x128.Idx) := by blk_ext [idx20 t, bq, sq]
    rw [e]
    exact row20 m c t g q n
  have h0 : y 0 = (0 : Fin 1) := Fin.ext (by have : (y 0).val < 1 := (y 0).isLt; show (y 0).val = 0; omega)
  have hy : y = (ix4 0 (y 1) (y 2) (y 3) : S1x2x256x128.Idx) := by
    refine (ValueIdx.eq_ix4 (n0 := 1) (n1 := 2) (n2 := 256) (n3 := 128) y).trans ?_
    rw [h0]
    rfl
  rw [hy]
  exact key (y 1) (y 2) (y 3)

def r21A : Cert.Kernel3Ideal.S2x2x8192x128.Idx → EReal := val_main_v256 (F := Ideal) (m ((c : Thread nD τ).loc main_arg0)) (m ((c : Thread nD τ).loc main_arg1)) (m ((c : Thread nD τ).loc main_arg2))

theorem final21 : (dats (F := Ideal) m 0 c).arrAt 21 cfg0.N = r21A m c := by
  refine (dats m 0 c).arrAt_eq_of_covers 21 _ (by decide +kernel) fun t hf y => ?_
  blk_simp
  rw [after21]
  have key : ∀ (g : Fin 2) (q : Fin 256) (n : Fin 128), (o21 (F := Ideal) (iblk m c 0 t) (iblk m c 1 t) (iblk m c 3 t) : Vec Ideal _ _) (ix4 0 g q n) = r21A m c ((win0_21.blk t).view.emb (ix4 0 g q n)) := fun g q n => by
    have ht : t.val < 64 := t.isLt
    have e : (win0_21.blk t).view.emb (ix4 0 g q n) = (ix4 (bq t.val q) g (sq t.val q) n : S2x2x8192x128.Idx) := by blk_ext [idx21 t, bq, sq]
    rw [e]
    exact row21 m c t g q n
  have h0 : y 0 = (0 : Fin 1) := Fin.ext (by have : (y 0).val < 1 := (y 0).isLt; show (y 0).val = 0; omega)
  have hy : y = (ix4 0 (y 1) (y 2) (y 3) : S1x2x256x128.Idx) := by
    refine (ValueIdx.eq_ix4 (n0 := 1) (n1 := 2) (n2 := 256) (n3 := 128) y).trans ?_
    rw [h0]
    rfl
  rw [hy]
  exact key (y 1) (y 2) (y 3)

end Cert.In

end
-- ==== Proof.In.PointsC.lean ====
module

public import proofs.«01_k».proof.Proof.In.Rows
public import proofs.«01_k».proof.Proof.In.Frame
public import Idealize.ShloMosaic.Lib.ValueIdx
public import Idealize.ShloMosaic.Lib.Pointwise
public import Idealize.ShloMosaic.Lib.Claim
public import Idealize.ShloMosaic.Lib.Pipeline.ValueKit

/-! The convolution's rows. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL.Sem

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.Reference3Ideal.Read

variable (m : (ℓ : Loc nD τ sig) → Buf (Elt Ideal) ℓ) (c : Dev nD) (t : Fin cfg0.N)

theorem tap0_at (x : Vec Ideal S3x512 .f32) (n : Fin 512) : tap0 (F := Ideal) x (ix2 0 n) = x (ix2 0 n) := by
  refine congrArg x (funext fun a => Fin.ext ?_)
  match a with
  | ⟨0, _⟩ => rfl
  | ⟨1, _⟩ =>
    show 0 + 1 * n.val = n.val
    omega
theorem tap1_at (x : Vec Ideal S3x512 .f32) (n : Fin 512) : tap1 (F := Ideal) x (ix2 0 n) = x (ix2 1 n) := by
  refine congrArg x (funext fun a => Fin.ext ?_)
  match a with
  | ⟨0, _⟩ => rfl
  | ⟨1, _⟩ =>
    show 0 + 1 * n.val = n.val
    omega
theorem tap2_at (x : Vec Ideal S3x512 .f32) (n : Fin 512) : tap2 (F := Ideal) x (ix2 0 n) = x (ix2 2 n) := by
  refine congrArg x (funext fun a => Fin.ext ?_)
  match a with
  | ⟨0, _⟩ => rfl
  | ⟨1, _⟩ =>
    show 0 + 1 * n.val = n.val
    omega

theorem turn3 (a b d : EReal) : a + b + d = d + b + a := by rw [add_comm a b, add_comm (b + a) d, ← add_assoc]
theorem zero_at (y : S8x512.Idx) : k0_pay49 (F := Ideal) y = (0 : EReal) := by
  pointwise [k0_pay49]
theorem pt_val' (k : ℕ) (hk : k < 64) : (pt k).val = k := Nat.mod_eq_of_lt hk

theorem conv_row (q : Fin 256) (j : Fin 1536) : prod (fun k => (k0_pay2 (F := Ideal) (iblk m c 0 t) (iblk m c 1 t)) (ix2 q k)) (fun k n => (iblk m c 5 t : Vec Ideal S1024x1536 .bf16) (ix2 k n)) j = val_main_v13 (F := Ideal) (m ((c : Thread nD τ).loc main_arg0)) (m ((c : Thread nD τ).loc main_arg1)) (m ((c : Thread nD τ).loc main_arg2)) (ix3 (bq t.val q) (sq t.val q) ⟨1304 + j.val, by omega⟩) :=
  row m c t _ q j _ fun k => blk5 m c t k j

theorem u_at (q : Fin 256) (o o' : Fin 2840) (h : o.val = o'.val) : val_main_v13 (F := Ideal) (m ((c : Thread nD τ).loc main_arg0)) (m ((c : Thread nD τ).loc main_arg1)) (m ((c : Thread nD τ).loc main_arg2)) (ix3 (bq t.val q) (sq t.val q) o) = val_main_v13 (F := Ideal) (m ((c : Thread nD τ).loc main_arg0)) (m ((c : Thread nD τ).loc main_arg1)) (m ((c : Thread nD τ).loc main_arg2)) (ix3 (bq t.val q) (sq t.val q) o') := by
  rw [Fin.ext h]

/-- The products the convolution reads are the reference's. -/
theorem z_row (q : Fin 256) (n : Fin 512) : k0_pay48 (F := Ideal) (k0_pay2 (F := Ideal) (iblk m c 0 t) (iblk m c 1 t)) (iblk m c 5 t) (ix2 q n) = val_main_v203 (F := Ideal) (m ((c : Thread nD τ).loc main_arg0)) (m ((c : Thread nD τ).loc main_arg1)) (m ((c : Thread nD τ).loc main_arg2)) (ix3 (bq t.val q) (sq t.val q) n) := by
  have h1 := (conv_row m c t q ⟨512 + n.val, by omega⟩).trans (u_at m c t q _ ⟨1816 + n.val, by omega⟩ (by show 1304 + (512 + n.val) = 1816 + n.val; omega))
  have h2 := (conv_row m c t q ⟨1024 + n.val, by omega⟩).trans (u_at m c t q _ ⟨2328 + n.val, by omega⟩ (by show 1304 + (1024 + n.val) = 2328 + n.val; omega))
  rw [r_203, ← h1, ← h2]
  exact k_z _ _ q n
theorem zOf_row (q : Fin 256) (n : Fin 512) : zOf (F := Ideal) (iblk m c 0 t) (iblk m c 1 t) (iblk m c 5 t) (ix2 q n) = val_main_v203 (F := Ideal) (m ((c : Thread nD τ).loc main_arg0)) (m ((c : Thread nD τ).loc main_arg1)) (m ((c : Thread nD τ).loc main_arg2)) (ix3 (bq t.val q) (sq t.val q) n) := by
  unfold zOf
  pointwise [k0_pay50]
  exact z_row m c t q n
theorem hand_row (k : ℕ) (r : Fin 8) (n : Fin 512) : handT (F := Ideal) m c k (ix2 r n) = val_main_v203 (F := Ideal) (m ((c : Thread nD τ).loc main_arg0)) (m ((c : Thread nD τ).loc main_arg1)) (m ((c : Thread nD τ).loc main_arg2)) (ix3 (bq (pt k).val ⟨248 + r.val, by omega⟩) (sq (pt k).val ⟨248 + r.val, by omega⟩) n) := by
  unfold handT handOf
  pointwise [k0_pay52]
  exact zOf_row m c (pt k) ⟨248 + r.val, by omega⟩ n

/-- The rows found at the head of the buffer, read `d` rows early, are the reference's earlier rows. -/
theorem late_row (d : ℕ) (hd : d ≤ 8) (q : Fin 256) (n : Fin 512) : late d hd (staT (F := Ideal) m c t.val) (zOf (F := Ideal) (iblk m c 0 t) (iblk m c 1 t) (iblk m c 5 t)) (ix2 q n)
    = before (bq t.val q) (sq t.val q) d n (val_main_v203 (F := Ideal) (m ((c : Thread nD τ).loc main_arg0)) (m ((c : Thread nD τ).loc main_arg1)) (m ((c : Thread nD τ).loc main_arg2))) := by
  have ht : t.val < 64 := t.isLt
  have hq : q.val < 256 := q.isLt
  have hs : (sq t.val q).val = (256 * t.val + q.val) % 8192 := rfl
  unfold late before
  by_cases h : q.val < d
  · refine (dif_pos h).trans ?_
    unfold staT
    by_cases h0 : t.val % 32 = 0
    · rw [if_pos h0, dif_neg (by omega)]
      exact zero_at _
    · rw [if_neg h0, dif_pos (by omega)]
      have hp : (pt (t.val - 1)).val = t.val - 1 := by
        refine pt_val' _ ?_
        omega
      refine (hand_row m c (t.val - 1) ⟨8 - d + q.val, by omega⟩ n).trans ?_
      rw [hp]
      refine congrArg₂ (fun b s => val_main_v203 (F := Ideal) (m ((c : Thread nD τ).loc main_arg0)) (m ((c : Thread nD τ).loc main_arg1)) (m ((c : Thread nD τ).loc main_arg2)) (ix3 b s n)) (Fin.ext ?_) (Fin.ext ?_)
      · show (256 * (t.val - 1) + (248 + (8 - d + q.val))) / 8192 % 2 = (256 * t.val + q.val) / 8192 % 2
        omega
      · show (256 * (t.val - 1) + (248 + (8 - d + q.val))) % 8192 = (256 * t.val + q.val) % 8192 - d
        omega
  · refine (dif_neg h).trans ?_
    rw [dif_pos (by omega)]
    refine (zOf_row m c t ⟨q.val - d, by omega⟩ n).trans ?_
    refine congrArg₂ (fun b s => val_main_v203 (F := Ideal) (m ((c : Thread nD τ).loc main_arg0)) (m ((c : Thread nD τ).loc main_arg1)) (m ((c : Thread nD τ).loc main_arg2)) (ix3 b s n)) (Fin.ext ?_) (Fin.ext ?_)
    · show (256 * t.val + (q.val - d)) / 8192 % 2 = (256 * t.val + q.val) / 8192 % 2
      omega
    · show (256 * t.val + (q.val - d)) % 8192 = (256 * t.val + q.val) % 8192 - d
      omega

theorem y_row (q : Fin 256) (n : Fin 512) : k0_pay51 (F := Ideal) (k0_pay2 (F := Ideal) (iblk m c 0 t) (iblk m c 1 t)) (iblk m c 5 t) (tap2 (iblk m c 13 t)) (tap1 (iblk m c 13 t))
    (late 1 (by decide) (staT m c t.val) (zOf (iblk m c 0 t) (iblk m c 1 t) (iblk m c 5 t))) (tap0 (iblk m c 13 t)) (late 2 (by decide) (staT m c t.val) (zOf (iblk m c 0 t) (iblk m c 1 t) (iblk m c 5 t))) (ix2 q n)
    = val_main_v226 (F := Ideal) (m ((c : Thread nD τ).loc main_arg0)) (m ((c : Thread nD τ).loc main_arg1)) (m ((c : Thread nD τ).loc main_arg2)) (m ((c : Thread nD τ).loc main_arg5)) (ix3 (bq t.val q) (sq t.val q) n) := by
  refine (k_y _ _ q _ _ _ _ _ n).trans (Eq.trans ?_ (r_226 _ _ _ _ _ _ n).symm)
  rw [late_row m c t 1 (by decide) q n, late_row m c t 2 (by decide) q n, z_row m c t q n, tap0_at, tap1_at, tap2_at, blk13 m c t 0 n, blk13 m c t 1 n, blk13 m c t 2 n]
  exact turn3 _ _ _

/-- The convolution's rows. -/
theorem row23 (q : Fin 256) (n : Fin 512) : o23 (F := Ideal) (iblk m c 0 t) (iblk m c 1 t) (iblk m c 5 t) (iblk m c 13 t) (iblk m c 14 t) (staT m c t.val) (ix2 q n) = val_main_v259 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (ix2 (rq t.val q) n) := by
  unfold o23
  refine (k_conv q _ _ _ n).trans (Eq.trans ?_ (r_259 _ _ _ _ _ (rq t.val q) n).symm)
  rw [rq_b t q, rq_s t q]
  refine Eq.trans ?_ (r_240 _ _ _ _ _ _ _ n).symm
  refine norm_congr (funext fun j => congrArg₂ (fun a b : EReal => a * b) ?_ (y_row m c t q j)) (funext fun j => blk14 m c t j) n
  exact (k_cb _ _ q j).trans (conv_row m c t q ⟨j.val, by omega⟩)

end Cert.In

end
-- ==== Proof.In.FinalC.lean ====
module

public import proofs.«01_k».proof.Proof.In.PointsC
public import proofs.«01_k».proof.Proof.In.Launch
public import Idealize.ShloMosaic.Lib.ValueIdx
public import Idealize.ShloMosaic.Lib.Pointwise
public import Idealize.ShloMosaic.Lib.Claim
public import Idealize.ShloMosaic.Lib.Pipeline.ValueKit

/-! The result array of the convolution. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Reference3Ideal.Read

variable (m : (ℓ : Loc nD τ sig) → Buf (Elt Ideal) ℓ) (ρ : Dev nD → PrngReg) (c : Dev nD)

/-- The reference's value of the result. -/
def r23A : Cert.Kernel3Ideal.S16384x512.Idx → EReal := val_main_v259 (F := Ideal) (m ((c : Thread nD τ).loc main_arg0)) (m ((c : Thread nD τ).loc main_arg1)) (m ((c : Thread nD τ).loc main_arg2)) (m ((c : Thread nD τ).loc main_arg5)) (m ((c : Thread nD τ).loc main_arg6))

theorem final23 : (dats (F := Ideal) m 0 c).arrAt 23 cfg0.N = r23A m c := by
  refine (dats m 0 c).arrAt_eq_of_covers 23 _ (by decide +kernel) fun t hf y => ?_
  blk_simp
  rw [after23]
  have key : ∀ (q : Fin 256) (n : Fin 512), (o23 (F := Ideal) (iblk m c 0 t) (iblk m c 1 t) (iblk m c 5 t) (iblk m c 13 t) (iblk m c 14 t) (staT m c t.val) : Vec Ideal _ _) (ix2 q n) = r23A m c ((win0_23.blk t).view.emb (ix2 q n)) := fun q n => by
    have ht : t.val < 64 := t.isLt
    have e : (win0_23.blk t).view.emb (ix2 q n) = (ix2 (rq t.val q) n : S16384x512.Idx) := by blk_ext [idx23 t, rq]
    rw [e]
    exact row23 m c t q n
  have hy : y = (ix2 (y 0) (y 1) : S256x512.Idx) := ValueIdx.eq_ix2 (n0 := 256) (n1 := 512) y
  rw [hy]
  exact key (y 0) (y 1)

end Cert.In

end
-- ==== Proof.In.Final.lean ====
module

public import proofs.«01_k».proof.Proof.In.FinalQ
public import proofs.«01_k».proof.Proof.In.FinalK
public import proofs.«01_k».proof.Proof.In.FinalC
public import Idealize.ShloMosaic.Lib.ValueIdx
public import Idealize.ShloMosaic.Lib.Pointwise
public import Idealize.ShloMosaic.Lib.Claim
public import Idealize.ShloMosaic.Lib.Pipeline.ValueKit

/-! What the launch leaves. -/

@[expose] public section

set_option maxRecDepth 16384

noncomputable section

namespace Cert.In

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Reference3Ideal.Read

variable (m : (ℓ : Loc nD τ sig) → Buf (Elt Ideal) ℓ) (ρ : Dev nD → PrngReg) (c : Dev nD)

/-- Each result's array after the launch. -/
theorem out15 : θ_run defs (onTc (τ := τ) (main (F := Ideal))) ⟨m, fun _ => 0, ρ⟩ (fun r => ∀ c : Dev nD, r.2.mem ((c.tc : Thread nD τ).loc main_v82_0) = r15A m c) :=
  (θ_run defs _ _).mono (fun _ h c => ((h c).1 15).trans (final15 m c)) (run_main m ρ)
theorem out16 : θ_run defs (onTc (τ := τ) (main (F := Ideal))) ⟨m, fun _ => 0, ρ⟩ (fun r => ∀ c : Dev nD, r.2.mem ((c.tc : Thread nD τ).loc main_v82_1) = r16A m c) :=
  (θ_run defs _ _).mono (fun _ h c => ((h c).1 16).trans (final16 m c)) (run_main m ρ)
theorem out17 : θ_run defs (onTc (τ := τ) (main (F := Ideal))) ⟨m, fun _ => 0, ρ⟩ (fun r => ∀ c : Dev nD, r.2.mem ((c.tc : Thread nD τ).loc main_v82_2) = r17A m c) :=
  (θ_run defs _ _).mono (fun _ h c => ((h c).1 17).trans (final17 m c)) (run_main m ρ)
theorem out18 : θ_run defs (onTc (τ := τ) (main (F := Ideal))) ⟨m, fun _ => 0, ρ⟩ (fun r => ∀ c : Dev nD, r.2.mem ((c.tc : Thread nD τ).loc main_v82_3) = r18A m c) :=
  (θ_run defs _ _).mono (fun _ h c => ((h c).1 18).trans (final18 m c)) (run_main m ρ)
theorem out19 : θ_run defs (onTc (τ := τ) (main (F := Ideal))) ⟨m, fun _ => 0, ρ⟩ (fun r => ∀ c : Dev nD, r.2.mem ((c.tc : Thread nD τ).loc main_v82_4) = r19A m c) :=
  (θ_run defs _ _).mono (fun _ h c => ((h c).1 19).trans (final19 m c)) (run_main m ρ)
theorem out20 : θ_run defs (onTc (τ := τ) (main (F := Ideal))) ⟨m, fun _ => 0, ρ⟩ (fun r => ∀ c : Dev nD, r.2.mem ((c.tc : Thread nD τ).loc main_v82_5) = r20A m c) :=
  (θ_run defs _ _).mono (fun _ h c => ((h c).1 20).trans (final20 m c)) (run_main m ρ)
theorem out21 : θ_run defs (onTc (τ := τ) (main (F := Ideal))) ⟨m, fun _ => 0, ρ⟩ (fun r => ∀ c : Dev nD, r.2.mem ((c.tc : Thread nD τ).loc main_v82_6) = r21A m c) :=
  (θ_run defs _ _).mono (fun _ h c => ((h c).1 21).trans (final21 m c)) (run_main m ρ)
theorem out22 : θ_run defs (onTc (τ := τ) (main (F := Ideal))) ⟨m, fun _ => 0, ρ⟩ (fun r => ∀ c : Dev nD, r.2.mem ((c.tc : Thread nD τ).loc main_v82_7) = r22A m c) :=
  (θ_run defs _ _).mono (fun _ h c => ((h c).1 22).trans (final22 m c)) (run_main m ρ)
theorem out23 : θ_run defs (onTc (τ := τ) (main (F := Ideal))) ⟨m, fun _ => 0, ρ⟩ (fun r => ∀ c : Dev nD, r.2.mem ((c.tc : Thread nD τ).loc main_v82_8) = r23A m c) :=
  (θ_run defs _ _).mono (fun _ h c => ((h c).1 23).trans (final23 m c)) (run_main m ρ)

/-- Every execution ends with each result at the reference's value, every argument unchanged. -/
theorem result_run : θ_run defs (onTc (τ := τ) (main (F := Ideal))) ⟨m, fun _ => 0, ρ⟩ (fun r => ∀ c : Dev nD,
      r.2.mem ((c.tc : Thread nD τ).loc main_v82_0) = r15A m c
      ∧ r.2.mem ((c.tc : Thread nD τ).loc main_v82_1) = r16A m c
      ∧ r.2.mem ((c.tc : Thread nD τ).loc main_v82_2) = r17A m c
      ∧ r.2.mem ((c.tc : Thread nD τ).loc main_v82_3) = r18A m c
      ∧ r.2.mem ((c.tc : Thread nD τ).loc main_v82_4) = r19A m c
      ∧ r.2.mem ((c.tc : Thread nD τ).loc main_v82_5) = r20A m c
      ∧ r.2.mem ((c.tc : Thread nD τ).loc main_v82_6) = r21A m c
      ∧ r.2.mem ((c.tc : Thread nD τ).loc main_v82_7) = r22A m c
      ∧ r.2.mem ((c.tc : Thread nD τ).loc main_v82_8) = r23A m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨h.1 c, h.2.1 c, h.2.2.1 c, h.2.2.2.1 c, h.2.2.2.2.1 c, h.2.2.2.2.2.1 c, h.2.2.2.2.2.2.1 c, h.2.2.2.2.2.2.2.1 c, h.2.2.2.2.2.2.2.2.1 c, h.2.2.2.2.2.2.2.2.2.1 c⟩) (θ_run_and (out15 m ρ) (θ_run_and (out16 m ρ) (θ_run_and (out17 m ρ) (θ_run_and (out18 m ρ) (θ_run_and (out19 m ρ) (θ_run_and (out20 m ρ) (θ_run_and (out21 m ρ) (θ_run_and (out22 m ρ) (θ_run_and (out23 m ρ) (frame m ρ))))))))))

end Cert.In

end
-- ==== Proof.In.Algebraic.lean ====
module

public import proofs.«01_k».proof.Defs
public import proofs.«01_k».proof.Proof.In.Final
public import proofs.«01_k».proof.Proof.Gen.Reference3Ideal.Run
public import proofs.«01_k».proof.Proof.Gen.Reference3Ideal.Read
public import Idealize.ShloMosaic.Lib.Quiescent
public import Idealize.ShloMosaic.Lib.ValueIdx
public import Idealize.ShloMosaic.Lib.Pointwise
public import Idealize.ShloMosaic.Lib.Claim

/-! The kernel and the reference end with the same results. -/

@[expose] public section

set_option maxRecDepth 16384

noncomputable section

namespace Cert.In

open Idealize.ShloMosaic Idealize.ShloMosaic.TcCoe Idealize.SL.Sem

theorem same15 {x0 y0 : Vec Ideal Cert.Reference3Ideal.S2x8192x1024 .f32} {x1 y1 : Vec Ideal Cert.Reference3Ideal.S1024 .f32} {x2 y2 : Vec Ideal Cert.Reference3Ideal.S1024x2840 .f32} {x3 y3 : Vec Ideal Cert.Reference3Ideal.S64 .f32} (h0 : x0 = y0) (h1 : x1 = y1) (h2 : x2 = y2) (h3 : x3 = y3) : Cert.Reference3Ideal.Read.val_main_v242 (F := Ideal) x0 x1 x2 x3 = Cert.Reference3Ideal.Read.val_main_v242 (F := Ideal) y0 y1 y2 y3 := by
  rw [h0, h1, h2, h3]
theorem same16 {x0 y0 : Vec Ideal Cert.Reference3Ideal.S2x8192x1024 .f32} {x1 y1 : Vec Ideal Cert.Reference3Ideal.S1024 .f32} {x2 y2 : Vec Ideal Cert.Reference3Ideal.S1024x2840 .f32} (h0 : x0 = y0) (h1 : x1 = y1) (h2 : x2 = y2) : Cert.Reference3Ideal.Read.val_main_v243 (F := Ideal) x0 x1 x2 = Cert.Reference3Ideal.Read.val_main_v243 (F := Ideal) y0 y1 y2 := by
  rw [h0, h1, h2]
theorem same17 {x0 y0 : Vec Ideal Cert.Reference3Ideal.S2x8192x1024 .f32} {x1 y1 : Vec Ideal Cert.Reference3Ideal.S1024 .f32} {x2 y2 : Vec Ideal Cert.Reference3Ideal.S1024x2840 .f32} (h0 : x0 = y0) (h1 : x1 = y1) (h2 : x2 = y2) : Cert.Reference3Ideal.Read.val_main_v244 (F := Ideal) x0 x1 x2 = Cert.Reference3Ideal.Read.val_main_v244 (F := Ideal) y0 y1 y2 := by
  rw [h0, h1, h2]
theorem same18 {x0 y0 : Vec Ideal Cert.Reference3Ideal.S2x8192x1024 .f32} {x1 y1 : Vec Ideal Cert.Reference3Ideal.S1024 .f32} {x2 y2 : Vec Ideal Cert.Reference3Ideal.S1024x2840 .f32} {x4 y4 : Vec Ideal Cert.Reference3Ideal.S3x64 .f32} (h0 : x0 = y0) (h1 : x1 = y1) (h2 : x2 = y2) (h4 : x4 = y4) : Cert.Reference3Ideal.Read.val_main_v245 (F := Ideal) x0 x1 x2 x4 = Cert.Reference3Ideal.Read.val_main_v245 (F := Ideal) y0 y1 y2 y4 := by
  rw [h0, h1, h2, h4]
theorem same19 {x0 y0 : Vec Ideal Cert.Reference3Ideal.S2x8192x1024 .f32} {x1 y1 : Vec Ideal Cert.Reference3Ideal.S1024 .f32} {x2 y2 : Vec Ideal Cert.Reference3Ideal.S1024x2840 .f32} (h0 : x0 = y0) (h1 : x1 = y1) (h2 : x2 = y2) : Cert.Reference3Ideal.Read.val_main_v249 (F := Ideal) x0 x1 x2 = Cert.Reference3Ideal.Read.val_main_v249 (F := Ideal) y0 y1 y2 := by
  rw [h0, h1, h2]
theorem same20 {x0 y0 : Vec Ideal Cert.Reference3Ideal.S2x8192x1024 .f32} {x1 y1 : Vec Ideal Cert.Reference3Ideal.S1024 .f32} {x2 y2 : Vec Ideal Cert.Reference3Ideal.S1024x2840 .f32} {x4 y4 : Vec Ideal Cert.Reference3Ideal.S3x64 .f32} (h0 : x0 = y0) (h1 : x1 = y1) (h2 : x2 = y2) (h4 : x4 = y4) : Cert.Reference3Ideal.Read.val_main_v252 (F := Ideal) x0 x1 x2 x4 = Cert.Reference3Ideal.Read.val_main_v252 (F := Ideal) y0 y1 y2 y4 := by
  rw [h0, h1, h2, h4]
theorem same21 {x0 y0 : Vec Ideal Cert.Reference3Ideal.S2x8192x1024 .f32} {x1 y1 : Vec Ideal Cert.Reference3Ideal.S1024 .f32} {x2 y2 : Vec Ideal Cert.Reference3Ideal.S1024x2840 .f32} (h0 : x0 = y0) (h1 : x1 = y1) (h2 : x2 = y2) : Cert.Reference3Ideal.Read.val_main_v256 (F := Ideal) x0 x1 x2 = Cert.Reference3Ideal.Read.val_main_v256 (F := Ideal) y0 y1 y2 := by
  rw [h0, h1, h2]
theorem same22 {x0 y0 : Vec Ideal Cert.Reference3Ideal.S2x8192x1024 .f32} {x1 y1 : Vec Ideal Cert.Reference3Ideal.S1024 .f32} {x2 y2 : Vec Ideal Cert.Reference3Ideal.S1024x2840 .f32} (h0 : x0 = y0) (h1 : x1 = y1) (h2 : x2 = y2) : Cert.Reference3Ideal.Read.val_main_v257 (F := Ideal) x0 x1 x2 = Cert.Reference3Ideal.Read.val_main_v257 (F := Ideal) y0 y1 y2 := by
  rw [h0, h1, h2]
theorem same23 {x0 y0 : Vec Ideal Cert.Reference3Ideal.S2x8192x1024 .f32} {x1 y1 : Vec Ideal Cert.Reference3Ideal.S1024 .f32} {x2 y2 : Vec Ideal Cert.Reference3Ideal.S1024x2840 .f32} {x5 y5 : Vec Ideal Cert.Reference3Ideal.S3x512 .f32} {x6 y6 : Vec Ideal Cert.Reference3Ideal.S512 .f32} (h0 : x0 = y0) (h1 : x1 = y1) (h2 : x2 = y2) (h5 : x5 = y5) (h6 : x6 = y6) : Cert.Reference3Ideal.Read.val_main_v259 (F := Ideal) x0 x1 x2 x5 x6 = Cert.Reference3Ideal.Read.val_main_v259 (F := Ideal) y0 y1 y2 y5 y6 := by
  rw [h0, h1, h2, h5, h6]

theorem frame_reference : letI := Cert.Reference3Ideal.Gen.facts; Cert.quiescent_Reference3Ideal := fun m ρ _ =>
  (θ_run Cert.Reference3Ideal.defs _ _).mono (fun r h => ⟨fun c => (h c).2.2.2.2.2.2.2.2.2, Idealize.ShloMosaic.sem_eq_zero_of_no_sems (by decide) r.2⟩)
    (Cert.Reference3Ideal.Value.run (F := Ideal) m ρ)

/-- The kernel and the reference end with the same nine results. -/
theorem algebraic : letI := Cert.Kernel3Ideal.Gen.facts; letI := Cert.Reference3Ideal.Gen.facts; Cert.algebraic_Kernel3Ideal_Reference3Ideal := by
  intro m ρ m' ρ' _ hagree
  refine ⟨fun c => r15A m c, fun c => r16A m c, fun c => r17A m c, fun c => r18A m c, fun c => r19A m c, fun c => r20A m c, fun c => r21A m c, fun c => r22A m c, fun c => r23A m c, result_run m ρ, ?_⟩
  refine (θ_run Cert.Reference3Ideal.defs _ _).mono (fun _ h c => ?_) (Cert.Reference3Ideal.Value.run (F := Ideal) m' ρ')
  obtain ⟨h0, h1, h2, h3, h4, h5, h6⟩ := hagree c
  obtain ⟨e15, e16, e17, e18, e19, e20, e21, e22, e23, ha⟩ := h c
  exact ⟨e15.trans ((Cert.Reference3Ideal.Read.val_main_v242_eq (F := Ideal) (StableHlo.launchContents m' c)).trans (same15 h0 h1 h2 h3)),
    e16.trans ((Cert.Reference3Ideal.Read.val_main_v243_eq (F := Ideal) (StableHlo.launchContents m' c)).trans (same16 h0 h1 h2)),
    e17.trans ((Cert.Reference3Ideal.Read.val_main_v244_eq (F := Ideal) (StableHlo.launchContents m' c)).trans (same17 h0 h1 h2)),
    e18.trans ((Cert.Reference3Ideal.Read.val_main_v245_eq (F := Ideal) (StableHlo.launchContents m' c)).trans (same18 h0 h1 h2 h4)),
    e19.trans ((Cert.Reference3Ideal.Read.val_main_v249_eq (F := Ideal) (StableHlo.launchContents m' c)).trans (same19 h0 h1 h2)),
    e20.trans ((Cert.Reference3Ideal.Read.val_main_v252_eq (F := Ideal) (StableHlo.launchContents m' c)).trans (same20 h0 h1 h2 h4)),
    e21.trans ((Cert.Reference3Ideal.Read.val_main_v256_eq (F := Ideal) (StableHlo.launchContents m' c)).trans (same21 h0 h1 h2)),
    e22.trans ((Cert.Reference3Ideal.Read.val_main_v257_eq (F := Ideal) (StableHlo.launchContents m' c)).trans (same22 h0 h1 h2)),
    e23.trans ((Cert.Reference3Ideal.Read.val_main_v259_eq (F := Ideal) (StableHlo.launchContents m' c)).trans (same23 h0 h1 h2 h5 h6)), ha⟩

end Cert.In

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame.Runs
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame.Runs
public import proofs.«01_k».proof.Proof.Gen.Reference3Ideal
public import proofs.«01_k».proof.Proof.Gen.Reference3Ideal.Run
public import proofs.«01_k».proof.Proof.Gen.Reference3Ideal.Read
public import proofs.«01_k».proof.Proof.Post.Algebraic
public import proofs.«01_k».proof.Proof.PostBits.Launch
public import proofs.«01_k».proof.Proof.In.Algebraic
public import proofs.«01_k».proof.Proof.InBits.Launch
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  fun m ρ _ => Cert.Kernel.Gen.frame m ρ, fun m ρ _ => Cert.KernelIdeal.Gen.frame m ρ,
  fun m ρ _ => Cert.PostBits.frame (F := Bits) m ρ, fun m ρ _ => Cert.Post.frame (F := Ideal) m ρ, Cert.Post.frame_reference,
  fun m ρ _ => Cert.InBits.frame (F := Bits) m ρ, fun m ρ _ => Cert.In.frame (F := Ideal) m ρ, Cert.In.frame_reference,
  IdealRules.named_const.statement Cert.KernelIdeal.κ "mask" .f32 0xF149F2CA#32 ⊥ rfl, trivial, Cert.Post.algebraic, trivial, Cert.In.algebraic⟩

end Cert.Proof

end
